-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite [hPre_finite : Cert.Pre_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite [hPre_finite : Cert.Pre_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite [hKernel10Ideal : Cert.Kernel10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite [hReference10Ideal : Cert.Reference10Ideal.Facts] [hPre_finite : Cert.Pre_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v460) = v0 c
          ∧ r.2.mem ((c.tc : Thread Cert.ReferenceIdeal.nD Cert.ReferenceIdeal.τ).loc Cert.ReferenceIdeal.main_v461) = v1 c
          ∧ r.2.mem ((c.tc : Thread Cert.ReferenceIdeal.nD Cert.ReferenceIdeal.τ).loc Cert.ReferenceIdeal.main_v459) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal_pre_finite [hKernel10Ideal : Cert.Kernel10Ideal.Facts] [hReference10Ideal : Cert.Reference10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v22_0)) (v1 : (c : Dev Cert.Kernel10Ideal.nD) → Buf (Elt Ideal) ((c.tc : Thread Cert.Kernel10Ideal.nD Cert.Kernel10Ideal.τ).loc Cert.Kernel10Ideal.main_v22_1)) (v2 : (c : Dev Cert.Kernel10Ideal.nD) → Buf (Elt Ideal) ((c.tc : Thread Cert.Kernel10Ideal.nD Cert.Kernel10Ideal.τ).loc Cert.Kernel10Ideal.main_v22_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v22_0) = v0 c
          ∧ r.2.mem ((c.tc : Thread Cert.Kernel10Ideal.nD Cert.Kernel10Ideal.τ).loc Cert.Kernel10Ideal.main_v22_1) = v1 c
          ∧ r.2.mem ((c.tc : Thread Cert.Kernel10Ideal.nD Cert.Kernel10Ideal.τ).loc Cert.Kernel10Ideal.main_v22_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v65) = v0 c
          ∧ r.2.mem ((c.tc : Thread Cert.Reference10Ideal.nD Cert.Reference10Ideal.τ).loc Cert.Reference10Ideal.main_v66) = v1 c
          ∧ r.2.mem ((c.tc : Thread Cert.Reference10Ideal.nD Cert.Reference10Ideal.τ).loc Cert.Reference10Ideal.main_v68) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite (hKernel10Ideal := hKernel10Ideal) (hPre_finite := hPre_finite)
    ∧ quiescent_Reference10Ideal (hReference10Ideal := hReference10Ideal)
    ∧ quiescent_Reference10Ideal_pre_finite (hReference10Ideal := hReference10Ideal) (hPre_finite := hPre_finite)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite (hKernel10Ideal := hKernel10Ideal) (hReference10Ideal := hReference10Ideal) (hPre_finite := hPre_finite)
    ∧ preserves_Kernel11_Kernel11Ideal
    ∧ algebraic_Kernel11Ideal_Reference11Ideal (hKernel11Ideal := hKernel11Ideal) (hReference11Ideal := hReference11Ideal)
-- ==== Pre_finite.lean ====
abbrev S4224x1024 : Shape := ⟨2, ![4224, 1024]⟩
abbrev S1x1024 : Shape := ⟨2, ![1, 1024]⟩
abbrev S1024x4096 : Shape := ⟨2, ![1024, 4096]⟩
abbrev S4224x4096 : Shape := ⟨2, ![4224, 4096]⟩
abbrev S_ : Shape := ⟨0, ![]⟩

class Facts : Prop where
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4224x4096 : S_.BroadcastsInDim S4224x4096 (![] : Fin 0 → Fin S4224x4096.rank)
  bcast_S_S4224x1024 : S_.BroadcastsInDim S4224x1024 (![] : Fin 0 → Fin S4224x1024.rank)

variable [Facts]

def fn {F : FTy → Type} [FloatOps F] (main_arg0 : FVec F S4224x1024 .f32) (main_arg1 : FVec F S1x1024 .f32) (main_arg2 : FVec F S1024x4096 .f32) (main_arg3 : FVec F S4224x4096 .f32) (main_arg4 : FVec F S4224x1024 .f32) : IVec S1x1024 1 × IVec S1024x4096 1 × IVec S4224x4096 1 × IVec S4224x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x4096 .f32 := Host.absf main_arg2
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4224x4096 .f32 := Host.absf main_arg3
  let main_cst_1 : FVec F S_ .f32 := constant S_ .f32 0x7F800000#32
  let main_v7 : FVec F S4224x4096 .f32 := broadcastInDim S4224x4096 ![] bcast_S_S4224x4096 main_cst_1
  let main_v8 : IVec S4224x4096 1 := cmpf .olt main_v6 main_v7
  let main_v9 : FVec F S4224x1024 .f32 := Host.absf main_arg4
  let main_cst_2 : FVec F S_ .f32 := constant S_ .f32 0x7F800000#32
  let main_v10 : FVec F S4224x1024 .f32 := broadcastInDim S4224x1024 ![] bcast_S_S4224x1024 main_cst_2
  let main_v11 : IVec S4224x1024 1 := cmpf .olt main_v9 main_v10
  (main_v2, main_v5, main_v8, main_v11)
-- ==== Kernel.lean ====
abbrev S2x2064x2576 : Shape := ⟨3, ![2, 2064, 2576]⟩
abbrev S31x512 : Shape := ⟨2, ![31, 512]⟩
abbrev S2x2064x512 : Shape := ⟨3, ![2, 2064, 512]⟩
abbrev S_ : Shape := ⟨0, ![]⟩
abbrev S2x2112x2688 : Shape := ⟨3, ![2, 2112, 2688]⟩
abbrev S32x512 : Shape := ⟨2, ![32, 512]⟩
abbrev S2x2112x512 : Shape := ⟨3, ![2, 2112, 512]⟩
abbrev S2x32x512 : Shape := ⟨3, ![2, 32, 512]⟩
abbrev S1x2112x128 : Shape := ⟨3, ![1, 2112, 128]⟩
abbrev S32x128 : Shape := ⟨2, ![32, 128]⟩
abbrev S1x32x128 : Shape := ⟨3, ![1, 32, 128]⟩
abbrev S2144x128 : Shape := ⟨2, ![2144, 128]⟩
abbrev S96x128 : Shape := ⟨2, ![96, 128]⟩
abbrev S248x128 : Shape := ⟨2, ![248, 128]⟩
abbrev S2112x128 : Shape := ⟨2, ![2112, 128]⟩
abbrev S64x128 : Shape := ⟨2, ![64, 128]⟩
abbrev S1x128 : Shape := ⟨2, ![1, 128]⟩
abbrev S8x128 : Shape := ⟨2, ![8, 128]⟩
abbrev S8x8x128 : Shape := ⟨3, ![8, 8, 128]⟩
abbrev S1x64x128 : Shape := ⟨3, ![1, 64, 128]⟩
abbrev S64x1 : Shape := ⟨2, ![64, 1]⟩
abbrev S128 : Shape := ⟨1, ![128]⟩
abbrev S1x1x128 : Shape := ⟨3, ![1, 1, 128]⟩

abbrev nBuf : Space → Nat
  | .hbm => 15
  | .vmem => 19
  | .smem => 0
  | _ => 0

abbrev bufTy : (tb : Table) → Fin (tcTables nBuf tb) → BufTy
  | .hbm, ⟨0, _⟩ => ⟨S2x2064x2576, .f32⟩
  | .hbm, ⟨1, _⟩ => ⟨S31x512, .f32⟩
  | .hbm, ⟨2, _⟩ => ⟨S2x2064x512, .f32⟩
  | .hbm, ⟨3, _⟩ => ⟨S_, .i32⟩
  | .hbm, ⟨4, _⟩ => ⟨S_, .f32⟩
  | .hbm, ⟨5, _⟩ => ⟨S2x2112x2688, .f32⟩
  | .hbm, ⟨6, _⟩ => ⟨S_, .i32⟩
  | .hbm, ⟨7, _⟩ => ⟨S_, .f32⟩
  | .hbm, ⟨8, _⟩ => ⟨S32x512, .f32⟩
  | .hbm, ⟨9, _⟩ => ⟨S_, .i32⟩
  | .hbm, ⟨10, _⟩ => ⟨S_, .f32⟩
  | .hbm, ⟨11, _⟩ => ⟨S2x2112x512, .f32⟩
  | .hbm, ⟨12, _⟩ => ⟨S2x2112x512, .bf16⟩
  | .hbm, ⟨13, _⟩ => ⟨S2x2112x512, .bf16⟩
  | .hbm, ⟨14, _⟩ => ⟨S2x32x512, .f32⟩
  | .local _ .vmem, ⟨0, _⟩ => ⟨S1x2112x128, .f32⟩
  | .local _ .vmem, ⟨1, _⟩ => ⟨S1x2112x128, .f32⟩
  | .local _ .vmem, ⟨2, _⟩ => ⟨S1x2112x128, .f32⟩
  | .local _ .vmem, ⟨3, _⟩ => ⟨S1x2112x128, .f32⟩
  | .local _ .vmem, ⟨4, _⟩ => ⟨S1x2112x128, .f32⟩
  | .local _ .vmem, ⟨5, _⟩ => ⟨S1x2112x128, .f32⟩
  | .local _ .vmem, ⟨6, _⟩ => ⟨S32x128, .f32⟩
  | .local _ .vmem, ⟨7, _⟩ => ⟨S32x128, .f32⟩
  | .local _ .vmem, ⟨8, _⟩ => ⟨S1x2112x128, .bf16⟩
  | .local _ .vmem, ⟨9, _⟩ => ⟨S1x2112x128, .bf16⟩
  | .local _ .vmem, ⟨10, _⟩ => ⟨S1x2112x128, .bf16⟩
  | .local _ .vmem, ⟨11, _⟩ => ⟨S1x2112x128, .bf16⟩
  | .local _ .vmem, ⟨12, _⟩ => ⟨S1x32x128, .f32⟩
  | .local _ .vmem, ⟨13, _⟩ => ⟨S1x32x128, .f32⟩
  | .local _ .vmem, ⟨14, _⟩ => ⟨S2144x128, .f32⟩
  | .local _ .vmem, ⟨15, _⟩ => ⟨S2144x128, .f32⟩
  | .local _ .vmem, ⟨16, _⟩ => ⟨S96x128, .f32⟩
  | .local _ .vmem, ⟨17, _⟩ => ⟨S96x128, .f32⟩
  | .local _ .vmem, ⟨18, _⟩ => ⟨S248x128, .f32⟩
  | _, _ => ⟨S2x2064x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c33_i32 : BitVec 32 := 33#32
  let v32 : BitVec 32 := Scalar.addi c0_i32 c33_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c64_i32 : BitVec 32 := 64#32
  let v223 : BitVec 32 := Scalar.muli arg14 c64_i32
  v223
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c64_i32 : BitVec 32 := 64#32
  let v223 : BitVec 32 := Scalar.muli arg14 c64_i32
  let v224 : BitVec 32 := v223
  let v225 : Index := Scalar.indexCast v224
  let c0_156 : Index := 0#32
  ![v225.toNat, 0]
def k0_off2 (k0_t1 : Fin k0_t1_loop.trips) : Fin 3 → Nat :=
  let c0_505 : Index := 0#32
  let c0_i32 : BitVec 32 := 0#32
  let c1_i32 : BitVec 32 := 1#32
  let arg14 : BitVec 32 := Scf.iv c0_i32 c1_i32 k0_t1
  let c64_i32 : BitVec 32 := 64#32
  let v223 : BitVec 32 := Scalar.muli arg14 c64_i32
  let v224 : BitVec 32 := v223
  let v702 : Index := Scalar.indexCast v224
  let c0_506 : Index := 0#32
  ![0, v702.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2112x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2112x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2064x2576 : Shape := ⟨3, ![2, 2064, 2576]⟩
abbrev S31x512 : Shape := ⟨2, ![31, 512]⟩
abbrev S2x2064x512 : Shape := ⟨3, ![2, 2064, 512]⟩
abbrev S1x31x512 : Shape := ⟨3, ![1, 31, 512]⟩
abbrev S2x31x512 : Shape := ⟨3, ![2, 31, 512]⟩
abbrev S_ : Shape := ⟨0, ![]⟩
abbrev S2x30x512 : Shape := ⟨3, ![2, 30, 512]⟩
abbrev S2x2094x512 : Shape := ⟨3, ![2, 2094, 512]⟩
abbrev S2x1x512 : Shape := ⟨3, ![2, 1, 512]⟩
abbrev S2x512 : Shape := ⟨2, ![2, 512]⟩
abbrev S2x2112x512 : Shape := ⟨3, ![2, 2112, 512]⟩
abbrev S2x32x512 : Shape := ⟨3, ![2, 32, 512]⟩

abbrev nBuf : Space → Nat
  | .hbm => 570
  | .vmem => 0
  | .smem => 0
  | _ => 0

abbrev hbmTy0_0 (i : Nat) : BufTy := match i % 128 with
  | 0 => ⟨S2x2064x2576, .f32⟩
  | 1 => ⟨S31x512, .f32⟩
  | 2 => ⟨S2x2064x512, .f32⟩
  | 3 => ⟨S2x2064x512, .f32⟩
  | 4 => ⟨S2x2064x512, .f32⟩
  | 5 => ⟨S1x31x512, .f32⟩
  | 6 => ⟨S2x31x512, .f32⟩
  | 7 => ⟨S2x2064x512, .f32⟩
  | 8 => ⟨S2x2064x512, .f32⟩
  | 9 => ⟨S_, .f32⟩
  | 10 => ⟨S2x2064x512, .f32⟩
  | 11 => ⟨S2x2064x512, .f32⟩
  | 12 => ⟨S_, .f32⟩
  | 13 => ⟨S2x2064x512, .f32⟩
  | 14 => ⟨S2x2064x512, .f32⟩
  | 15 => ⟨S_, .f32⟩
  | 16 => ⟨S2x2064x512, .f32⟩
  | 17 => ⟨S2x2064x512, .f32⟩
  | 18 => ⟨S2x2064x512, .f32⟩
  | 19 => ⟨S2x2064x512, .f32⟩
  | 20 => ⟨S_, .f32⟩
  | 21 => ⟨S2x30x512, .f32⟩
  | 22 => ⟨S2x2094x512, .f32⟩
  | 23 => ⟨S_, .f32⟩
  | 24 => ⟨S2x30x512, .f32⟩
  | 25 => ⟨S2x2064x512, .f32⟩
  | 26 => ⟨S2x1x512, .f32⟩
  | 27 => ⟨S2x2064x512, .f32⟩
  | 28 => ⟨S2x2064x512, .f32⟩
  | 29 => ⟨S_, .f32⟩
  | 30 => ⟨S2x2064x512, .f32⟩
  | 31 => ⟨S2x2064x512, .f32⟩
  | 32 => ⟨S2x2064x512, .f32⟩
  | 33 => ⟨S2x1x512, .f32⟩
  | 34 => ⟨S2x2064x512, .f32⟩
  | 35 => ⟨S2x2064x512, .f32⟩
  | 36 => ⟨S2x2064x512, .f32⟩
  | 37 => ⟨S2x2064x512, .f32⟩
  | 38 => ⟨S2x1x512, .f32⟩
  | 39 => ⟨S2x2064x512, .f32⟩
  | 40 => ⟨S2x2064x512, .f32⟩
  | 41 => ⟨S2x2064x512, .f32⟩
  | 42 => ⟨S2x2064x512, .f32⟩
  | 43 => ⟨S2x1x512, .f32⟩
  | 44 => ⟨S2x2064x512, .f32⟩
  | 45 => ⟨S2x2064x512, .f32⟩
  | 46 => ⟨S2x2064x512, .f32⟩
  | 47 => ⟨S2x2064x512, .f32⟩
  | 48 => ⟨S2x1x512, .f32⟩
  | 49 => ⟨S2x2064x512, .f32⟩
  | 50 => ⟨S2x2064x512, .f32⟩
  | 51 => ⟨S2x2064x512, .f32⟩
  | 52 => ⟨S2x2064x512, .f32⟩
  | 53 => ⟨S2x1x512, .f32⟩
  | 54 => ⟨S2x2064x512, .f32⟩
  | 55 => ⟨S2x2064x512, .f32⟩
  | 56 => ⟨S2x2064x512, .f32⟩
  | 57 => ⟨S2x2064x512, .f32⟩
  | 58 => ⟨S2x1x512, .f32⟩
  | 59 => ⟨S2x2064x512, .f32⟩
  | 60 => ⟨S2x2064x512, .f32⟩
  | 61 => ⟨S2x2064x512, .f32⟩
  | 62 => ⟨S2x2064x512, .f32⟩
  | 63 => ⟨S2x1x512, .f32⟩
  | 64 => ⟨S2x2064x512, .f32⟩
  | 65 => ⟨S2x2064x512, .f32⟩
  | 66 => ⟨S2x2064x512, .f32⟩
  | 67 => ⟨S2x2064x512, .f32⟩
  | 68 => ⟨S2x1x512, .f32⟩
  | 69 => ⟨S2x2064x512, .f32⟩
  | 70 => ⟨S2x2064x512, .f32⟩
  | 71 => ⟨S2x2064x512, .f32⟩
  | 72 => ⟨S2x2064x512, .f32⟩
  | 73 => ⟨S2x1x512, .f32⟩
  | 74 => ⟨S2x2064x512, .f32⟩
  | 75 => ⟨S2x2064x512, .f32⟩
  | 76 => ⟨S2x2064x512, .f32⟩
  | 77 => ⟨S2x2064x512, .f32⟩
  | 78 => ⟨S2x1x512, .f32⟩
  | 79 => ⟨S2x2064x512, .f32⟩
  | 80 => ⟨S2x2064x512, .f32⟩
  | 81 => ⟨S2x2064x512, .f32⟩
  | 82 => ⟨S2x2064x512, .f32⟩
  | 83 => ⟨S2x1x512, .f32⟩
  | 84 => ⟨S2x2064x512, .f32⟩
  | 85 => ⟨S2x2064x512, .f32⟩
  | 86 => ⟨S2x2064x512, .f32⟩
  | 87 => ⟨S2x2064x512, .f32⟩
  | 88 => ⟨S2x1x512, .f32⟩
  | 89 => ⟨S2x2064x512, .f32⟩
  | 90 => ⟨S2x2064x512, .f32⟩
  | 91 => ⟨S2x2064x512, .f32⟩
  | 92 => ⟨S2x2064x512, .f32⟩
  | 93 => ⟨S2x1x512, .f32⟩
  | 94 => ⟨S2x2064x512, .f32⟩
  | 95 => ⟨S2x2064x512, .f32⟩
  | 96 => ⟨S2x2064x512, .f32⟩
  | 97 => ⟨S2x2064x512, .f32⟩
  | 98 => ⟨S2x1x512, .f32⟩
  | 99 => ⟨S2x2064x512, .f32⟩
  | 100 => ⟨S2x2064x512, .f32⟩
  | 101 => ⟨S2x2064x512, .f32⟩
  | 102 => ⟨S2x2064x512, .f32⟩
  | 103 => ⟨S2x1x512, .f32⟩
  | 104 => ⟨S2x2064x512, .f32⟩
  | 105 => ⟨S2x2064x512, .f32⟩
  | 106 => ⟨S2x2064x512, .f32⟩
  | 107 => ⟨S2x2064x512, .f32⟩
  | 108 => ⟨S2x1x512, .f32⟩
  | 109 => ⟨S2x2064x512, .f32⟩
  | 110 => ⟨S2x2064x512, .f32⟩
  | 111 => ⟨S2x2064x512, .f32⟩
  | 112 => ⟨S2x2064x512, .f32⟩
  | 113 => ⟨S2x1x512, .f32⟩
  | 114 => ⟨S2x2064x512, .f32⟩
  | 115 => ⟨S2x2064x512, .f32⟩
  | 116 => ⟨S2x2064x512, .f32⟩
  | 117 => ⟨S2x2064x512, .f32⟩
  | 118 => ⟨S2x1x512, .f32⟩
  | 119 => ⟨S2x2064x512, .f32⟩
  | 120 => ⟨S2x2064x512, .f32⟩
  | 121 => ⟨S2x2064x512, .f32⟩
  | 122 => ⟨S2x2064x512, .f32⟩
  | 123 => ⟨S2x1x512, .f32⟩
  | 124 => ⟨S2x2064x512, .f32⟩
  | 125 => ⟨S2x2064x512, .f32⟩
  | 126 => ⟨S2x2064x512, .f32⟩
  | 127 => ⟨S2x2064x512, .f32⟩
  | _ => ⟨S2x2064x2576, .f32⟩

abbrev hbmTy0_1 (i : Nat) : BufTy := match i % 128 with
  | 0 => ⟨S2x1x512, .f32⟩
  | 1 => ⟨S2x2064x512, .f32⟩
  | 2 => ⟨S2x2064x512, .f32⟩
  | 3 => ⟨S2x2064x512, .f32⟩
  | 4 => ⟨S2x2064x512, .f32⟩
  | 5 => ⟨S2x1x512, .f32⟩
  | 6 => ⟨S2x2064x512, .f32⟩
  | 7 => ⟨S2x2064x512, .f32⟩
  | 8 => ⟨S2x2064x512, .f32⟩
  | 9 => ⟨S2x2064x512, .f32⟩
  | 10 => ⟨S2x1x512, .f32⟩
  | 11 => ⟨S2x2064x512, .f32⟩
  | 12 => ⟨S2x2064x512, .f32⟩
  | 13 => ⟨S2x2064x512, .f32⟩
  | 14 => ⟨S2x2064x512, .f32⟩
  | 15 => ⟨S2x1x512, .f32⟩
  | 16 => ⟨S2x2064x512, .f32⟩
  | 17 => ⟨S2x2064x512, .f32⟩
  | 18 => ⟨S2x2064x512, .f32⟩
  | 19 => ⟨S2x2064x512, .f32⟩
  | 20 => ⟨S2x1x512, .f32⟩
  | 21 => ⟨S2x2064x512, .f32⟩
  | 22 => ⟨S2x2064x512, .f32⟩
  | 23 => ⟨S2x2064x512, .f32⟩
  | 24 => ⟨S2x2064x512, .f32⟩
  | 25 => ⟨S2x1x512, .f32⟩
  | 26 => ⟨S2x2064x512, .f32⟩
  | 27 => ⟨S2x2064x512, .f32⟩
  | 28 => ⟨S2x2064x512, .f32⟩
  | 29 => ⟨S2x2064x512, .f32⟩
  | 30 => ⟨S2x1x512, .f32⟩
  | 31 => ⟨S2x2064x512, .f32⟩
  | 32 => ⟨S2x2064x512, .f32⟩
  | 33 => ⟨S2x2064x512, .f32⟩
  | 34 => ⟨S2x2064x512, .f32⟩
  | 35 => ⟨S2x1x512, .f32⟩
  | 36 => ⟨S2x2064x512, .f32⟩
  | 37 => ⟨S2x2064x512, .f32⟩
  | 38 => ⟨S2x2064x512, .f32⟩
  | 39 => ⟨S2x2064x512, .f32⟩
  | 40 => ⟨S2x1x512, .f32⟩
  | 41 => ⟨S2x2064x512, .f32⟩
  | 42 => ⟨S2x2064x512, .f32⟩
  | 43 => ⟨S2x2064x512, .f32⟩
  | 44 => ⟨S2x2064x512, .f32⟩
  | 45 => ⟨S2x1x512, .f32⟩
  | 46 => ⟨S2x2064x512, .f32⟩
  | 47 => ⟨S2x2064x512, .f32⟩
  | 48 => ⟨S2x2064x512, .f32⟩
  | 49 => ⟨S2x2064x512, .f32⟩
  | 50 => ⟨S2x1x512, .f32⟩
  | 51 => ⟨S2x2064x512, .f32⟩
  | 52 => ⟨S2x2064x512, .f32⟩
  | 53 => ⟨S2x2064x512, .f32⟩
  | 54 => ⟨S2x2064x512, .f32⟩
  | 55 => ⟨S2x2064x512, .f32⟩
  | 56 => ⟨S2x2064x512, .f32⟩
  | 57 => ⟨S_, .f32⟩
  | 58 => ⟨S2x512, .f32⟩
  | 59 => ⟨S2x1x512, .f32⟩
  | 60 => ⟨S2x2064x512, .f32⟩
  | 61 => ⟨S2x2064x512, .f32⟩
  | 62 => ⟨S_, .f32⟩
  | 63 => ⟨S2x31x512, .f32⟩
  | 64 => ⟨S_, .f32⟩
  | 65 => ⟨S2x2094x512, .f32⟩
  | 66 => ⟨S2x2064x512, .f32⟩
  | 67 => ⟨S_, .f32⟩
  | 68 => ⟨S2x512, .f32⟩
  | 69 => ⟨S2x1x512, .f32⟩
  | 70 => ⟨S2x2064x512, .f32⟩
  | 71 => ⟨S2x2064x512, .f32⟩
  | 72 => ⟨S_, .f32⟩
  | 73 => ⟨S2x31x512, .f32⟩
  | 74 => ⟨S2x31x512, .f32⟩
  | 75 => ⟨S_, .f32⟩
  | 76 => ⟨S2x2094x512, .f32⟩
  | 77 => ⟨S2x2094x512, .f32⟩
  | 78 => ⟨S2x2064x512, .f32⟩
  | 79 => ⟨S_, .f32⟩
  | 80 => ⟨S2x512, .f32⟩
  | 81 => ⟨S2x1x512, .f32⟩
  | 82 => ⟨S2x2064x512, .f32⟩
  | 83 => ⟨S2x2064x512, .f32⟩
  | 84 => ⟨S_, .f32⟩
  | 85 => ⟨S2x31x512, .f32⟩
  | 86 => ⟨S2x31x512, .f32⟩
  | 87 => ⟨S_, .f32⟩
  | 88 => ⟨S2x2094x512, .f32⟩
  | 89 => ⟨S2x2094x512, .f32⟩
  | 90 => ⟨S2x2064x512, .f32⟩
  | 91 => ⟨S_, .f32⟩
  | 92 => ⟨S2x512, .f32⟩
  | 93 => ⟨S2x1x512, .f32⟩
  | 94 => ⟨S2x2064x512, .f32⟩
  | 95 => ⟨S2x2064x512, .f32⟩
  | 96 => ⟨S_, .f32⟩
  | 97 => ⟨S2x31x512, .f32⟩
  | 98 => ⟨S2x31x512, .f32⟩
  | 99 => ⟨S_, .f32⟩
  | 100 => ⟨S2x2094x512, .f32⟩
  | 101 => ⟨S2x2094x512, .f32⟩
  | 102 => ⟨S2x2064x512, .f32⟩
  | 103 => ⟨S_, .f32⟩
  | 104 => ⟨S2x512, .f32⟩
  | 105 => ⟨S2x1x512, .f32⟩
  | 106 => ⟨S2x2064x512, .f32⟩
  | 107 => ⟨S2x2064x512, .f32⟩
  | 108 => ⟨S_, .f32⟩
  | 109 => ⟨S2x31x512, .f32⟩
  | 110 => ⟨S2x31x512, .f32⟩
  | 111 => ⟨S_, .f32⟩
  | 112 => ⟨S2x2094x512, .f32⟩
  | 113 => ⟨S2x2094x512, .f32⟩
  | 114 => ⟨S2x2064x512, .f32⟩
  | 115 => ⟨S_, .f32⟩
  | 116 => ⟨S2x512, .f32⟩
  | 117 => ⟨S2x1x512, .f32⟩
  | 118 => ⟨S2x2064x512, .f32⟩
  | 119 => ⟨S2x2064x512, .f32⟩
  | 120 => ⟨S_, .f32⟩
  | 121 => ⟨S2x31x512, .f32⟩
  | 122 => ⟨S2x31x512, .f32⟩
  | 123 => ⟨S_, .f32⟩
  | 124 => ⟨S2x2094x512, .f32⟩
  | 125 => ⟨S2x2094x512, .f32⟩
  | 126 => ⟨S2x2064x512, .f32⟩
  | 127 => ⟨S_, .f32⟩
  | _ => ⟨S2x2064x2576, .f32⟩

abbrev hbmTy0_2 (i : Nat) : BufTy := match i % 128 with
  | 0 => ⟨S2x512, .f32⟩
  | 1 => ⟨S2x1x512, .f32⟩
  | 2 => ⟨S2x2064x512, .f32⟩
  | 3 => ⟨S2x2064x512, .f32⟩
  | 4 => ⟨S_, .f32⟩
  | 5 => ⟨S2x31x512, .f32⟩
  | 6 => ⟨S2x31x512, .f32⟩
  | 7 => ⟨S_, .f32⟩
  | 8 => ⟨S2x2094x512, .f32⟩
  | 9 => ⟨S2x2094x512, .f32⟩
  | 10 => ⟨S2x2064x512, .f32⟩
  | 11 => ⟨S_, .f32⟩
  | 12 => ⟨S2x512, .f32⟩
  | 13 => ⟨S2x1x512, .f32⟩
  | 14 => ⟨S2x2064x512, .f32⟩
  | 15 => ⟨S2x2064x512, .f32⟩
  | 16 => ⟨S_, .f32⟩
  | 17 => ⟨S2x31x512, .f32⟩
  | 18 => ⟨S2x31x512, .f32⟩
  | 19 => ⟨S_, .f32⟩
  | 20 => ⟨S2x2094x512, .f32⟩
  | 21 => ⟨S2x2094x512, .f32⟩
  | 22 => ⟨S2x2064x512, .f32⟩
  | 23 => ⟨S_, .f32⟩
  | 24 => ⟨S2x512, .f32⟩
  | 25 => ⟨S2x1x512, .f32⟩
  | 26 => ⟨S2x2064x512, .f32⟩
  | 27 => ⟨S2x2064x512, .f32⟩
  | 28 => ⟨S_, .f32⟩
  | 29 => ⟨S2x31x512, .f32⟩
  | 30 => ⟨S2x31x512, .f32⟩
  | 31 => ⟨S_, .f32⟩
  | 32 => ⟨S2x2094x512, .f32⟩
  | 33 => ⟨S2x2094x512, .f32⟩
  | 34 => ⟨S2x2064x512, .f32⟩
  | 35 => ⟨S_, .f32⟩
  | 36 => ⟨S2x512, .f32⟩
  | 37 => ⟨S2x1x512, .f32⟩
  | 38 => ⟨S2x2064x512, .f32⟩
  | 39 => ⟨S2x2064x512, .f32⟩
  | 40 => ⟨S_, .f32⟩
  | 41 => ⟨S2x31x512, .f32⟩
  | 42 => ⟨S2x31x512, .f32⟩
  | 43 => ⟨S_, .f32⟩
  | 44 => ⟨S2x2094x512, .f32⟩
  | 45 => ⟨S2x2094x512, .f32⟩
  | 46 => ⟨S2x2064x512, .f32⟩
  | 47 => ⟨S_, .f32⟩
  | 48 => ⟨S2x512, .f32⟩
  | 49 => ⟨S2x1x512, .f32⟩
  | 50 => ⟨S2x2064x512, .f32⟩
  | 51 => ⟨S2x2064x512, .f32⟩
  | 52 => ⟨S_, .f32⟩
  | 53 => ⟨S2x31x512, .f32⟩
  | 54 => ⟨S2x31x512, .f32⟩
  | 55 => ⟨S_, .f32⟩
  | 56 => ⟨S2x2094x512, .f32⟩
  | 57 => ⟨S2x2094x512, .f32⟩
  | 58 => ⟨S2x2064x512, .f32⟩
  | 59 => ⟨S_, .f32⟩
  | 60 => ⟨S2x512, .f32⟩
  | 61 => ⟨S2x1x512, .f32⟩
  | 62 => ⟨S2x2064x512, .f32⟩
  | 63 => ⟨S2x2064x512, .f32⟩
  | 64 => ⟨S_, .f32⟩
  | 65 => ⟨S2x31x512, .f32⟩
  | 66 => ⟨S2x31x512, .f32⟩
  | 67 => ⟨S_, .f32⟩
  | 68 => ⟨S2x2094x512, .f32⟩
  | 69 => ⟨S2x2094x512, .f32⟩
  | 70 => ⟨S2x2064x512, .f32⟩
  | 71 => ⟨S_, .f32⟩
  | 72 => ⟨S2x512, .f32⟩
  | 73 => ⟨S2x1x512, .f32⟩
  | 74 => ⟨S2x2064x512, .f32⟩
  | 75 => ⟨S2x2064x512, .f32⟩
  | 76 => ⟨S_, .f32⟩
  | 77 => ⟨S2x31x512, .f32⟩
  | 78 => ⟨S2x31x512, .f32⟩
  | 79 => ⟨S_, .f32⟩
  | 80 => ⟨S2x2094x512, .f32⟩
  | 81 => ⟨S2x2094x512, .f32⟩
  | 82 => ⟨S2x2064x512, .f32⟩
  | 83 => ⟨S_, .f32⟩
  | 84 => ⟨S2x512, .f32⟩
  | 85 => ⟨S2x1x512, .f32⟩
  | 86 => ⟨S2x2064x512, .f32⟩
  | 87 => ⟨S2x2064x512, .f32⟩
  | 88 => ⟨S_, .f32⟩
  | 89 => ⟨S2x31x512, .f32⟩
  | 90 => ⟨S2x31x512, .f32⟩
  | 91 => ⟨S_, .f32⟩
  | 92 => ⟨S2x2094x512, .f32⟩
  | 93 => ⟨S2x2094x512, .f32⟩
  | 94 => ⟨S2x2064x512, .f32⟩
  | 95 => ⟨S_, .f32⟩
  | 96 => ⟨S2x512, .f32⟩
  | 97 => ⟨S2x1x512, .f32⟩
  | 98 => ⟨S2x2064x512, .f32⟩
  | 99 => ⟨S2x2064x512, .f32⟩
  | 100 => ⟨S_, .f32⟩
  | 101 => ⟨S2x31x512, .f32⟩
  | 102 => ⟨S2x31x512, .f32⟩
  | 103 => ⟨S_, .f32⟩
  | 104 => ⟨S2x2094x512, .f32⟩
  | 105 => ⟨S2x2094x512, .f32⟩
  | 106 => ⟨S2x2064x512, .f32⟩
  | 107 => ⟨S_, .f32⟩
  | 108 => ⟨S2x512, .f32⟩
  | 109 => ⟨S2x1x512, .f32⟩
  | 110 => ⟨S2x2064x512, .f32⟩
  | 111 => ⟨S2x2064x512, .f32⟩
  | 112 => ⟨S_, .f32⟩
  | 113 => ⟨S2x31x512, .f32⟩
  | 114 => ⟨S2x31x512, .f32⟩
  | 115 => ⟨S_, .f32⟩
  | 116 => ⟨S2x2094x512, .f32⟩
  | 117 => ⟨S2x2094x512, .f32⟩
  | 118 => ⟨S2x2064x512, .f32⟩
  | 119 => ⟨S_, .f32⟩
  | 120 => ⟨S2x512, .f32⟩
  | 121 => ⟨S2x1x512, .f32⟩
  | 122 => ⟨S2x2064x512, .f32⟩
  | 123 => ⟨S2x2064x512, .f32⟩
  | 124 => ⟨S_, .f32⟩
  | 125 => ⟨S2x31x512, .f32⟩
  | 126 => ⟨S2x31x512, .f32⟩
  | 127 => ⟨S_, .f32⟩
  | _ => ⟨S2x2064x2576, .f32⟩

abbrev hbmTy0_3 (i : Nat) : BufTy := match i % 128 with
  | 0 => ⟨S2x2094x512, .f32⟩
  | 1 => ⟨S2x2094x512, .f32⟩
  | 2 => ⟨S2x2064x512, .f32⟩
  | 3 => ⟨S_, .f32⟩
  | 4 => ⟨S2x512, .f32⟩
  | 5 => ⟨S2x1x512, .f32⟩
  | 6 => ⟨S2x2064x512, .f32⟩
  | 7 => ⟨S2x2064x512, .f32⟩
  | 8 => ⟨S_, .f32⟩
  | 9 => ⟨S2x31x512, .f32⟩
  | 10 => ⟨S2x31x512, .f32⟩
  | 11 => ⟨S_, .f32⟩
  | 12 => ⟨S2x2094x512, .f32⟩
  | 13 => ⟨S2x2094x512, .f32⟩
  | 14 => ⟨S2x2064x512, .f32⟩
  | 15 => ⟨S_, .f32⟩
  | 16 => ⟨S2x512, .f32⟩
  | 17 => ⟨S2x1x512, .f32⟩
  | 18 => ⟨S2x2064x512, .f32⟩
  | 19 => ⟨S2x2064x512, .f32⟩
  | 20 => ⟨S_, .f32⟩
  | 21 => ⟨S2x31x512, .f32⟩
  | 22 => ⟨S2x31x512, .f32⟩
  | 23 => ⟨S_, .f32⟩
  | 24 => ⟨S2x2094x512, .f32⟩
  | 25 => ⟨S2x2094x512, .f32⟩
  | 26 => ⟨S2x2064x512, .f32⟩
  | 27 => ⟨S_, .f32⟩
  | 28 => ⟨S2x512, .f32⟩
  | 29 => ⟨S2x1x512, .f32⟩
  | 30 => ⟨S2x2064x512, .f32⟩
  | 31 => ⟨S2x2064x512, .f32⟩
  | 32 => ⟨S_, .f32⟩
  | 33 => ⟨S2x31x512, .f32⟩
  | 34 => ⟨S2x31x512, .f32⟩
  | 35 => ⟨S_, .f32⟩
  | 36 => ⟨S2x2094x512, .f32⟩
  | 37 => ⟨S2x2094x512, .f32⟩
  | 38 => ⟨S2x2064x512, .f32⟩
  | 39 => ⟨S_, .f32⟩
  | 40 => ⟨S2x512, .f32⟩
  | 41 => ⟨S2x1x512, .f32⟩
  | 42 => ⟨S2x2064x512, .f32⟩
  | 43 => ⟨S2x2064x512, .f32⟩
  | 44 => ⟨S_, .f32⟩
  | 45 => ⟨S2x31x512, .f32⟩
  | 46 => ⟨S2x31x512, .f32⟩
  | 47 => ⟨S_, .f32⟩
  | 48 => ⟨S2x2094x512, .f32⟩
  | 49 => ⟨S2x2094x512, .f32⟩
  | 50 => ⟨S2x2064x512, .f32⟩
  | 51 => ⟨S_, .f32⟩
  | 52 => ⟨S2x512, .f32⟩
  | 53 => ⟨S2x1x512, .f32⟩
  | 54 => ⟨S2x2064x512, .f32⟩
  | 55 => ⟨S2x2064x512, .f32⟩
  | 56 => ⟨S_, .f32⟩
  | 57 => ⟨S2x31x512, .f32⟩
  | 58 => ⟨S2x31x512, .f32⟩
  | 59 => ⟨S_, .f32⟩
  | 60 => ⟨S2x2094x512, .f32⟩
  | 61 => ⟨S2x2094x512, .f32⟩
  | 62 => ⟨S2x2064x512, .f32⟩
  | 63 => ⟨S_, .f32⟩
  | 64 => ⟨S2x512, .f32⟩
  | 65 => ⟨S2x1x512, .f32⟩
  | 66 => ⟨S2x2064x512, .f32⟩
  | 67 => ⟨S2x2064x512, .f32⟩
  | 68 => ⟨S_, .f32⟩
  | 69 => ⟨S2x31x512, .f32⟩
  | 70 => ⟨S2x31x512, .f32⟩
  | 71 => ⟨S_, .f32⟩
  | 72 => ⟨S2x2094x512, .f32⟩
  | 73 => ⟨S2x2094x512, .f32⟩
  | 74 => ⟨S2x2064x512, .f32⟩
  | 75 => ⟨S_, .f32⟩
  | 76 => ⟨S2x512, .f32⟩
  | 77 => ⟨S2x1x512, .f32⟩
  | 78 => ⟨S2x2064x512, .f32⟩
  | 79 => ⟨S2x2064x512, .f32⟩
  | 80 => ⟨S_, .f32⟩
  | 81 => ⟨S2x31x512, .f32⟩
  | 82 => ⟨S2x31x512, .f32⟩
  | 83 => ⟨S_, .f32⟩
  | 84 => ⟨S2x2094x512, .f32⟩
  | 85 => ⟨S2x2094x512, .f32⟩
  | 86 => ⟨S2x2064x512, .f32⟩
  | 87 => ⟨S_, .f32⟩
  | 88 => ⟨S2x512, .f32⟩
  | 89 => ⟨S2x1x512, .f32⟩
  | 90 => ⟨S2x2064x512, .f32⟩
  | 91 => ⟨S2x2064x512, .f32⟩
  | 92 => ⟨S_, .f32⟩
  | 93 => ⟨S2x31x512, .f32⟩
  | 94 => ⟨S2x31x512, .f32⟩
  | 95 => ⟨S_, .f32⟩
  | 96 => ⟨S2x2094x512, .f32⟩
  | 97 => ⟨S2x2094x512, .f32⟩
  | 98 => ⟨S2x2064x512, .f32⟩
  | 99 => ⟨S_, .f32⟩
  | 100 => ⟨S2x512, .f32⟩
  | 101 => ⟨S2x1x512, .f32⟩
  | 102 => ⟨S2x2064x512, .f32⟩
  | 103 => ⟨S2x2064x512, .f32⟩
  | 104 => ⟨S_, .f32⟩
  | 105 => ⟨S2x31x512, .f32⟩
  | 106 => ⟨S2x31x512, .f32⟩
  | 107 => ⟨S_, .f32⟩
  | 108 => ⟨S2x2094x512, .f32⟩
  | 109 => ⟨S2x2094x512, .f32⟩
  | 110 => ⟨S2x2064x512, .f32⟩
  | 111 => ⟨S_, .f32⟩
  | 112 => ⟨S2x512, .f32⟩
  | 113 => ⟨S2x1x512, .f32⟩
  | 114 => ⟨S2x2064x512, .f32⟩
  | 115 => ⟨S2x2064x512, .f32⟩
  | 116 => ⟨S_, .f32⟩
  | 117 => ⟨S2x31x512, .f32⟩
  | 118 => ⟨S2x31x512, .f32⟩
  | 119 => ⟨S_, .f32⟩
  | 120 => ⟨S2x2094x512, .f32⟩
  | 121 => ⟨S2x2094x512, .f32⟩
  | 122 => ⟨S2x2064x512, .f32⟩
  | 123 => ⟨S_, .f32⟩
  | 124 => ⟨S2x512, .f32⟩
  | 125 => ⟨S2x1x512, .f32⟩
  | 126 => ⟨S2x2064x512, .f32⟩
  | 127 => ⟨S2x2064x512, .f32⟩
  | _ => ⟨S2x2064x2576, .f32⟩

abbrev hbmTy0_4 (i : Nat) : BufTy := match i % 128 with
  | 0 => ⟨S_, .f32⟩
  | 1 => ⟨S2x31x512, .f32⟩
  | 2 => ⟨S2x31x512, .f32⟩
  | 3 => ⟨S_, .f32⟩
  | 4 => ⟨S2x2094x512, .f32⟩
  | 5 => ⟨S2x2094x512, .f32⟩
  | 6 => ⟨S2x2064x512, .f32⟩
  | 7 => ⟨S_, .f32⟩
  | 8 => ⟨S2x512, .f32⟩
  | 9 => ⟨S2x1x512, .f32⟩
  | 10 => ⟨S2x2064x512, .f32⟩
  | 11 => ⟨S2x2064x512, .f32⟩
  | 12 => ⟨S_, .f32⟩
  | 13 => ⟨S2x31x512, .f32⟩
  | 14 => ⟨S2x31x512, .f32⟩
  | 15 => ⟨S_, .f32⟩
  | 16 => ⟨S2x2094x512, .f32⟩
  | 17 => ⟨S2x2094x512, .f32⟩
  | 18 => ⟨S2x2064x512, .f32⟩
  | 19 => ⟨S_, .f32⟩
  | 20 => ⟨S2x512, .f32⟩
  | 21 => ⟨S2x1x512, .f32⟩
  | 22 => ⟨S2x2064x512, .f32⟩
  | 23 => ⟨S2x2064x512, .f32⟩
  | 24 => ⟨S_, .f32⟩
  | 25 => ⟨S2x31x512, .f32⟩
  | 26 => ⟨S2x31x512, .f32⟩
  | 27 => ⟨S_, .f32⟩
  | 28 => ⟨S2x2094x512, .f32⟩
  | 29 => ⟨S2x2094x512, .f32⟩
  | 30 => ⟨S2x2064x512, .f32⟩
  | 31 => ⟨S_, .f32⟩
  | 32 => ⟨S2x512, .f32⟩
  | 33 => ⟨S2x1x512, .f32⟩
  | 34 => ⟨S2x2064x512, .f32⟩
  | 35 => ⟨S2x2064x512, .f32⟩
  | 36 => ⟨S_, .f32⟩
  | 37 => ⟨S2x31x512, .f32⟩
  | 38 => ⟨S2x31x512, .f32⟩
  | 39 => ⟨S_, .f32⟩
  | 40 => ⟨S2x2094x512, .f32⟩
  | 41 => ⟨S2x2094x512, .f32⟩
  | 42 => ⟨S2x30x512, .f32⟩
  | 43 => ⟨S2x2064x512, .f32⟩
  | 44 => ⟨S2x2064x512, .f32⟩
  | 45 => ⟨S2x2064x512, .f32⟩
  | 46 => ⟨S2x2064x512, .f32⟩
  | 47 => ⟨S_, .i32⟩
  | 48 => ⟨S_, .f32⟩
  | 49 => ⟨S2x2112x512, .f32⟩
  | 50 => ⟨S_, .i32⟩
  | 51 => ⟨S_, .f32⟩
  | 52 => ⟨S2x2112x512, .f32⟩
  | 53 => ⟨S_, .i32⟩
  | 54 => ⟨S_, .f32⟩
  | 55 => ⟨S2x32x512, .f32⟩
  | 56 => ⟨S2x2112x512, .bf16⟩
  | 57 => ⟨S2x2112x512, .bf16⟩
  | _ => ⟨S2x2064x2576, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2064x2576, .f32⟩

abbrev bufTy : (tb : Table) → Fin (tcTables nBuf tb) → BufTy
  | .hbm, ⟨i, _⟩ => hbmTy i
  | _, _ => ⟨S2x2064x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_cst_5 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_cst_6 : Ref sig .tc := ⟨.hbm, 190, rfl⟩
abbrev main_v180 : Ref sig .tc := ⟨.hbm, 191, rfl⟩
abbrev main_cst_7 : Ref sig .tc := ⟨.hbm, 192, rfl⟩
abbrev main_v181 : Ref sig .tc := ⟨.hbm, 193, rfl⟩
abbrev main_v182 : Ref sig .tc := ⟨.hbm, 194, rfl⟩
abbrev main_cst_8 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_cst_9 : Ref sig .tc := ⟨.hbm, 200, rfl⟩
abbrev main_v187 : Ref sig .tc := ⟨.hbm, 201, rfl⟩
abbrev main_v188 : Ref sig .tc := ⟨.hbm, 202, rfl⟩
abbrev main_cst_10 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_cst_11 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_cst_12 : Ref sig .tc := ⟨.hbm, 212, rfl⟩
abbrev main_v196 : Ref sig .tc := ⟨.hbm, 213, rfl⟩
abbrev main_v197 : Ref sig .tc := ⟨.hbm, 214, rfl⟩
abbrev main_cst_13 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_cst_14 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_cst_15 : Ref sig .tc := ⟨.hbm, 224, rfl⟩
abbrev main_v205 : Ref sig .tc := ⟨.hbm, 225, rfl⟩
abbrev main_v206 : Ref sig .tc := ⟨.hbm, 226, rfl⟩
abbrev main_cst_16 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_cst_17 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_cst_18 : Ref sig .tc := ⟨.hbm, 236, rfl⟩
abbrev main_v214 : Ref sig .tc := ⟨.hbm, 237, rfl⟩
abbrev main_v215 : Ref sig .tc := ⟨.hbm, 238, rfl⟩
abbrev main_cst_19 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_cst_20 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_cst_21 : Ref sig .tc := ⟨.hbm, 248, rfl⟩
abbrev main_v223 : Ref sig .tc := ⟨.hbm, 249, rfl⟩
abbrev main_v224 : Ref sig .tc := ⟨.hbm, 250, rfl⟩
abbrev main_cst_22 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_cst_23 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_cst_24 : Ref sig .tc := ⟨.hbm, 260, rfl⟩
abbrev main_v232 : Ref sig .tc := ⟨.hbm, 261, rfl⟩
abbrev main_v233 : Ref sig .tc := ⟨.hbm, 262, rfl⟩
abbrev main_cst_25 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_cst_26 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_cst_27 : Ref sig .tc := ⟨.hbm, 272, rfl⟩
abbrev main_v241 : Ref sig .tc := ⟨.hbm, 273, rfl⟩
abbrev main_v242 : Ref sig .tc := ⟨.hbm, 274, rfl⟩
abbrev main_cst_28 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_cst_29 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_cst_30 : Ref sig .tc := ⟨.hbm, 284, rfl⟩
abbrev main_v250 : Ref sig .tc := ⟨.hbm, 285, rfl⟩
abbrev main_v251 : Ref sig .tc := ⟨.hbm, 286, rfl⟩
abbrev main_cst_31 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_32 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_cst_33 : Ref sig .tc := ⟨.hbm, 296, rfl⟩
abbrev main_v259 : Ref sig .tc := ⟨.hbm, 297, rfl⟩
abbrev main_v260 : Ref sig .tc := ⟨.hbm, 298, rfl⟩
abbrev main_cst_34 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_cst_35 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_cst_36 : Ref sig .tc := ⟨.hbm, 308, rfl⟩
abbrev main_v268 : Ref sig .tc := ⟨.hbm, 309, rfl⟩
abbrev main_v269 : Ref sig .tc := ⟨.hbm, 310, rfl⟩
abbrev main_cst_37 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_cst_38 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_cst_39 : Ref sig .tc := ⟨.hbm, 320, rfl⟩
abbrev main_v277 : Ref sig .tc := ⟨.hbm, 321, rfl⟩
abbrev main_v278 : Ref sig .tc := ⟨.hbm, 322, rfl⟩
abbrev main_cst_40 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_cst_41 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_cst_42 : Ref sig .tc := ⟨.hbm, 332, rfl⟩
abbrev main_v286 : Ref sig .tc := ⟨.hbm, 333, rfl⟩
abbrev main_v287 : Ref sig .tc := ⟨.hbm, 334, rfl⟩
abbrev main_cst_43 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_cst_44 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_cst_45 : Ref sig .tc := ⟨.hbm, 344, rfl⟩
abbrev main_v295 : Ref sig .tc := ⟨.hbm, 345, rfl⟩
abbrev main_v296 : Ref sig .tc := ⟨.hbm, 346, rfl⟩
abbrev main_cst_46 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_cst_47 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_cst_48 : Ref sig .tc := ⟨.hbm, 356, rfl⟩
abbrev main_v304 : Ref sig .tc := ⟨.hbm, 357, rfl⟩
abbrev main_v305 : Ref sig .tc := ⟨.hbm, 358, rfl⟩
abbrev main_cst_49 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_cst_50 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_cst_51 : Ref sig .tc := ⟨.hbm, 368, rfl⟩
abbrev main_v313 : Ref sig .tc := ⟨.hbm, 369, rfl⟩
abbrev main_v314 : Ref sig .tc := ⟨.hbm, 370, rfl⟩
abbrev main_cst_52 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_53 : Ref sig .tc := ⟨.hbm, 375, rfl⟩
abbrev main_v318 : Ref sig .tc := ⟨.hbm, 376, rfl⟩
abbrev main_v319 : Ref sig .tc := ⟨.hbm, 377, rfl⟩
abbrev main_v320 : Ref sig .tc := ⟨.hbm, 378, rfl⟩
abbrev main_v321 : Ref sig .tc := ⟨.hbm, 379, rfl⟩
abbrev main_cst_54 : Ref sig .tc := ⟨.hbm, 380, rfl⟩
abbrev main_v322 : Ref sig .tc := ⟨.hbm, 381, rfl⟩
abbrev main_v323 : Ref sig .tc := ⟨.hbm, 382, rfl⟩
abbrev main_cst_55 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_cst_56 : Ref sig .tc := ⟨.hbm, 387, rfl⟩
abbrev main_v327 : Ref sig .tc := ⟨.hbm, 388, rfl⟩
abbrev main_v328 : Ref sig .tc := ⟨.hbm, 389, rfl⟩
abbrev main_v329 : Ref sig .tc := ⟨.hbm, 390, rfl⟩
abbrev main_v330 : Ref sig .tc := ⟨.hbm, 391, rfl⟩
abbrev main_cst_57 : Ref sig .tc := ⟨.hbm, 392, rfl⟩
abbrev main_v331 : Ref sig .tc := ⟨.hbm, 393, rfl⟩
abbrev main_v332 : Ref sig .tc := ⟨.hbm, 394, rfl⟩
abbrev main_cst_58 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_cst_59 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_cst_60 : Ref sig .tc := ⟨.hbm, 404, rfl⟩
abbrev main_v340 : Ref sig .tc := ⟨.hbm, 405, rfl⟩
abbrev main_v341 : Ref sig .tc := ⟨.hbm, 406, rfl⟩
abbrev main_cst_61 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_cst_62 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_cst_63 : Ref sig .tc := ⟨.hbm, 416, rfl⟩
abbrev main_v349 : Ref sig .tc := ⟨.hbm, 417, rfl⟩
abbrev main_v350 : Ref sig .tc := ⟨.hbm, 418, rfl⟩
abbrev main_cst_64 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_cst_65 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_cst_66 : Ref sig .tc := ⟨.hbm, 428, rfl⟩
abbrev main_v358 : Ref sig .tc := ⟨.hbm, 429, rfl⟩
abbrev main_v359 : Ref sig .tc := ⟨.hbm, 430, rfl⟩
abbrev main_cst_67 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_cst_68 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_cst_69 : Ref sig .tc := ⟨.hbm, 440, rfl⟩
abbrev main_v367 : Ref sig .tc := ⟨.hbm, 441, rfl⟩
abbrev main_v368 : Ref sig .tc := ⟨.hbm, 442, rfl⟩
abbrev main_cst_70 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_cst_71 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_v375 : Ref sig .tc := ⟨.hbm, 451, rfl⟩
abbrev main_cst_72 : Ref sig .tc := ⟨.hbm, 452, rfl⟩
abbrev main_v376 : Ref sig .tc := ⟨.hbm, 453, rfl⟩
abbrev main_v377 : Ref sig .tc := ⟨.hbm, 454, rfl⟩
abbrev main_cst_73 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_cst_74 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_cst_75 : Ref sig .tc := ⟨.hbm, 464, rfl⟩
abbrev main_v385 : Ref sig .tc := ⟨.hbm, 465, rfl⟩
abbrev main_v386 : Ref sig .tc := ⟨.hbm, 466, rfl⟩
abbrev main_cst_76 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_cst_77 : Ref sig .tc := ⟨.hbm, 471, rfl⟩
abbrev main_v390 : Ref sig .tc := ⟨.hbm, 472, rfl⟩
abbrev main_v391 : Ref sig .tc := ⟨.hbm, 473, rfl⟩
abbrev main_v392 : Ref sig .tc := ⟨.hbm, 474, rfl⟩
abbrev main_v393 : Ref sig .tc := ⟨.hbm, 475, rfl⟩
abbrev main_cst_78 : Ref sig .tc := ⟨.hbm, 476, rfl⟩
abbrev main_v394 : Ref sig .tc := ⟨.hbm, 477, rfl⟩
abbrev main_v395 : Ref sig .tc := ⟨.hbm, 478, rfl⟩
abbrev main_cst_79 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_cst_80 : Ref sig .tc := ⟨.hbm, 483, rfl⟩
abbrev main_v399 : Ref sig .tc := ⟨.hbm, 484, rfl⟩
abbrev main_v400 : Ref sig .tc := ⟨.hbm, 485, rfl⟩
abbrev main_v401 : Ref sig .tc := ⟨.hbm, 486, rfl⟩
abbrev main_v402 : Ref sig .tc := ⟨.hbm, 487, rfl⟩
abbrev main_cst_81 : Ref sig .tc := ⟨.hbm, 488, rfl⟩
abbrev main_v403 : Ref sig .tc := ⟨.hbm, 489, rfl⟩
abbrev main_v404 : Ref sig .tc := ⟨.hbm, 490, rfl⟩
abbrev main_cst_82 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_cst_83 : Ref sig .tc := ⟨.hbm, 495, rfl⟩
abbrev main_v408 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_cst_84 : Ref sig .tc := ⟨.hbm, 500, rfl⟩
abbrev main_v412 : Ref sig .tc := ⟨.hbm, 501, rfl⟩
abbrev main_v413 : Ref sig .tc := ⟨.hbm, 502, rfl⟩
abbrev main_cst_85 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_cst_86 : Ref sig .tc := ⟨.hbm, 507, rfl⟩
abbrev main_v417 : Ref sig .tc := ⟨.hbm, 508, rfl⟩
abbrev main_v418 : Ref sig .tc := ⟨.hbm, 509, rfl⟩
abbrev main_v419 : Ref sig .tc := ⟨.hbm, 510, rfl⟩
abbrev main_v420 : Ref sig .tc := ⟨.hbm, 511, rfl⟩
abbrev main_cst_87 : Ref sig .tc := ⟨.hbm, 512, rfl⟩
abbrev main_v421 : Ref sig .tc := ⟨.hbm, 513, rfl⟩
abbrev main_v422 : Ref sig .tc := ⟨.hbm, 514, rfl⟩
abbrev main_cst_88 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_cst_89 : Ref sig .tc := ⟨.hbm, 519, rfl⟩
abbrev main_v426 : Ref sig .tc := ⟨.hbm, 520, rfl⟩
abbrev main_v427 : Ref sig .tc := ⟨.hbm, 521, rfl⟩
abbrev main_v428 : Ref sig .tc := ⟨.hbm, 522, rfl⟩
abbrev main_v429 : Ref sig .tc := ⟨.hbm, 523, rfl⟩
abbrev main_cst_90 : Ref sig .tc := ⟨.hbm, 524, rfl⟩
abbrev main_v430 : Ref sig .tc := ⟨.hbm, 525, rfl⟩
abbrev main_v431 : Ref sig .tc := ⟨.hbm, 526, rfl⟩
abbrev main_cst_91 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_cst_92 : Ref sig .tc := ⟨.hbm, 531, rfl⟩
abbrev main_v435 : Ref sig .tc := ⟨.hbm, 532, rfl⟩
abbrev main_v436 : Ref sig .tc := ⟨.hbm, 533, rfl⟩
abbrev main_v437 : Ref sig .tc := ⟨.hbm, 534, rfl⟩
abbrev main_v438 : Ref sig .tc := ⟨.hbm, 535, rfl⟩
abbrev main_cst_93 : Ref sig .tc := ⟨.hbm, 536, rfl⟩
abbrev main_v439 : Ref sig .tc := ⟨.hbm, 537, rfl⟩
abbrev main_v440 : Ref sig .tc := ⟨.hbm, 538, rfl⟩
abbrev main_cst_94 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩
abbrev main_cst_95 : Ref sig .tc := ⟨.hbm, 543, rfl⟩
abbrev main_v444 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_cst_96 : Ref sig .tc := ⟨.hbm, 548, rfl⟩
abbrev main_v448 : Ref sig .tc := ⟨.hbm, 549, rfl⟩
abbrev main_v449 : Ref sig .tc := ⟨.hbm, 550, rfl⟩
abbrev main_cst_97 : Ref sig .tc := ⟨.hbm, 551, rfl⟩
abbrev main_v450 : Ref sig .tc := ⟨.hbm, 552, rfl⟩
abbrev main_v451 : Ref sig .tc := ⟨.hbm, 553, rfl⟩
abbrev main_v452 : Ref sig .tc := ⟨.hbm, 554, rfl⟩
abbrev main_v453 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_c : Ref sig .tc := ⟨.hbm, 559, rfl⟩
abbrev main_call0_v0 : Ref sig .tc := ⟨.hbm, 560, rfl⟩
abbrev main_v457 : Ref sig .tc := ⟨.hbm, 561, rfl⟩
abbrev main_c_98 : Ref sig .tc := ⟨.hbm, 562, rfl⟩
abbrev main_call1_v0 : Ref sig .tc := ⟨.hbm, 563, rfl⟩
abbrev main_v458 : Ref sig .tc := ⟨.hbm, 564, rfl⟩
abbrev main_c_99 : Ref sig .tc := ⟨.hbm, 565, rfl⟩
abbrev main_call2_v0 : Ref sig .tc := ⟨.hbm, 566, rfl⟩
abbrev main_v459 : Ref sig .tc := ⟨.hbm, 567, rfl⟩
abbrev main_v460 : Ref sig .tc := ⟨.hbm, 568, rfl⟩
abbrev main_v461 : Ref sig .tc := ⟨.hbm, 569, rfl⟩

abbrev nD : Nat := 1
abbrev τ : Topo := Topo.v7x

variable {F : FTy → Type} [FloatOps F]
-- ==== Kernel2.lean ====
abbrev S4224x1024 : Shape := ⟨2, ![4224, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4224x4096 : Shape := ⟨2, ![4224, 4096]⟩
abbrev S704x1024 : Shape := ⟨2, ![704, 1024]⟩
abbrev S704x4096 : Shape := ⟨2, ![704, 4096]⟩
abbrev S1x1024x1024 : Shape := ⟨3, ![1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4224x1024, .bf16⟩
  | .hbm, ⟨6, _⟩ => ⟨S4224x4096, .bf16⟩
  | .local _ .vmem, ⟨0, _⟩ => ⟨S704x1024, .bf16⟩
  | .local _ .vmem, ⟨1, _⟩ => ⟨S704x1024, .bf16⟩
  | .local _ .vmem, ⟨2, _⟩ => ⟨S4x1024x1024, .bf16⟩
  | .local _ .vmem, ⟨3, _⟩ => ⟨S704x4096, .bf16⟩
  | .local _ .vmem, ⟨4, _⟩ => ⟨S704x4096, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4224x1024 : Shape := ⟨2, ![4224, 1024]⟩
abbrev S1024x4096 : Shape := ⟨2, ![1024, 4096]⟩
abbrev S4224x4096 : Shape := ⟨2, ![4224, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S_, .f32⟩
  | .hbm, ⟨4, _⟩ => ⟨S4224x4096, .f32⟩
  | .hbm, ⟨5, _⟩ => ⟨S4224x4096, .f32⟩
  | .hbm, ⟨6, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel3.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S704x1024 : Shape := ⟨2, ![704, 1024]⟩
abbrev S704x4096 : Shape := ⟨2, ![704, 4096]⟩

abbrev nBuf : Space → Nat
  | .hbm => 12
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .bf16⟩
  | .hbm, ⟨9, _⟩ => ⟨S4224x1024, .bf16⟩
  | .hbm, ⟨10, _⟩ => ⟨S4096x1024, .bf16⟩
  | .hbm, ⟨11, _⟩ => ⟨S4224x4096, .bf16⟩
  | .local _ .vmem, ⟨0, _⟩ => ⟨S704x1024, .bf16⟩
  | .local _ .vmem, ⟨1, _⟩ => ⟨S704x1024, .bf16⟩
  | .local _ .vmem, ⟨2, _⟩ => ⟨S4096x1024, .bf16⟩
  | .local _ .vmem, ⟨3, _⟩ => ⟨S704x4096, .bf16⟩
  | .local _ .vmem, ⟨4, _⟩ => ⟨S704x4096, .bf16⟩
  | .local _ .vmem, ⟨5, _⟩ => ⟨S704x4096, .bf16⟩
  | .local _ .vmem, ⟨6, _⟩ => ⟨S704x4096, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel4.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S2112x1024 : Shape := ⟨2, ![2112, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .bf16⟩
  | .hbm, ⟨9, _⟩ => ⟨S4224x1024, .bf16⟩
  | .hbm, ⟨10, _⟩ => ⟨S4096x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .f32⟩
  | .local _ .vmem, ⟨5, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S4224x4096, .f32⟩
  | .hbm, ⟨9, _⟩ => ⟨S4224x1024, .f32⟩
  | .hbm, ⟨10, _⟩ => ⟨S1024x4096, .f32⟩
  | .hbm, ⟨11, _⟩ => ⟨S4096x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel5.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S4x1024x1024 : Shape := ⟨3, ![4, 1024, 1024]⟩
abbrev S2112x1024 : Shape := ⟨2, ![2112, 1024]⟩
abbrev S1x1024x1024 : Shape := ⟨3, ![1, 1024, 1024]⟩
abbrev S1024x1024 : Shape := ⟨2, ![1024, 1024]⟩

abbrev nBuf : Space → Nat
  | .hbm => 26
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4224x1024, .bf16⟩
  | .hbm, ⟨24, _⟩ => ⟨S4224x4096, .bf16⟩
  | .hbm, ⟨25, _⟩ => ⟨S4x1024x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1x1024x1024, .f32⟩
  | .local _ .vmem, ⟨5, _⟩ => ⟨S1x1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S4224x4096, .f32⟩
  | .hbm, ⟨19, _⟩ => ⟨S4224x4096, .f32⟩
  | .hbm, ⟨20, _⟩ => ⟨S_, .f32⟩
  | .hbm, ⟨21, _⟩ => ⟨S4224x4096, .f32⟩
  | .hbm, ⟨22, _⟩ => ⟨S4224x4096, .f32⟩
  | .hbm, ⟨23, _⟩ => ⟨S4096x1024, .f32⟩
  | .hbm, ⟨24, _⟩ => ⟨S1024x4096, .f32⟩
  | .hbm, ⟨25, _⟩ => ⟨S1024x4x1024, .f32⟩
  | .hbm, ⟨26, _⟩ => ⟨S4x1024x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel6.lean ====
abbrev S4224x512 : Shape := ⟨2, ![4224, 512]⟩
abbrev S1024x1024 : Shape := ⟨2, ![1024, 1024]⟩
abbrev S4224x1024 : Shape := ⟨2, ![4224, 1024]⟩
abbrev S2112x512 : Shape := ⟨2, ![2112, 512]⟩
abbrev S2112x1024 : Shape := ⟨2, ![2112, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1024x1024, .f32⟩
  | .hbm, ⟨3, _⟩ => ⟨S4224x1024, .f32⟩
  | .hbm, ⟨4, _⟩ => ⟨S4224x512, .bf16⟩
  | .hbm, ⟨5, _⟩ => ⟨S4224x512, .bf16⟩
  | .hbm, ⟨6, _⟩ => ⟨S4224x1024, .bf16⟩
  | .hbm, ⟨7, _⟩ => ⟨S1024x1024, .f32⟩
  | .local _ .vmem, ⟨0, _⟩ => ⟨S2112x512, .bf16⟩
  | .local _ .vmem, ⟨1, _⟩ => ⟨S2112x512, .bf16⟩
  | .local _ .vmem, ⟨2, _⟩ => ⟨S2112x512, .bf16⟩
  | .local _ .vmem, ⟨3, _⟩ => ⟨S2112x512, .bf16⟩
  | .local _ .vmem, ⟨4, _⟩ => ⟨S2112x1024, .bf16⟩
  | .local _ .vmem, ⟨5, _⟩ => ⟨S2112x1024, .bf16⟩
  | .local _ .vmem, ⟨6, _⟩ => ⟨S512x1024, .f32⟩
  | .local _ .vmem, ⟨7, _⟩ => ⟨S512x1024, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S4224x512 : Shape := ⟨2, ![4224, 512]⟩
abbrev S1024x1024 : Shape := ⟨2, ![1024, 1024]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S1024x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1024x1024, .f32⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4224x1024 : Shape := ⟨2, ![4224, 1024]⟩
abbrev S1024x2576 : Shape := ⟨2, ![1024, 2576]⟩
abbrev S2576x1024 : Shape := ⟨2, ![2576, 1024]⟩
abbrev S_ : Shape := ⟨0, ![]⟩
abbrev S2688x1024 : Shape := ⟨2, ![2688, 1024]⟩
abbrev S4224x2688 : Shape := ⟨2, ![4224, 2688]⟩
abbrev S704x1024 : Shape := ⟨2, ![704, 1024]⟩
abbrev S704x2688 : Shape := ⟨2, ![704, 2688]⟩

abbrev nBuf : Space → Nat
  | .hbm => 9
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x2576, .f32⟩
  | .hbm, ⟨2, _⟩ => ⟨S2576x1024, .f32⟩
  | .hbm, ⟨3, _⟩ => ⟨S2576x1024, .bf16⟩
  | .hbm, ⟨4, _⟩ => ⟨S_, .i32⟩
  | .hbm, ⟨5, _⟩ => ⟨S_, .bf16⟩
  | .hbm, ⟨6, _⟩ => ⟨S2688x1024, .bf16⟩
  | .hbm, ⟨7, _⟩ => ⟨S4224x1024, .bf16⟩
  | .hbm, ⟨8, _⟩ => ⟨S4224x2688, .f32⟩
  | .local _ .vmem, ⟨0, _⟩ => ⟨S704x1024, .bf16⟩
  | .local _ .vmem, ⟨1, _⟩ => ⟨S704x1024, .bf16⟩
  | .local _ .vmem, ⟨2, _⟩ => ⟨S2688x1024, .bf16⟩
  | .local _ .vmem, ⟨3, _⟩ => ⟨S704x2688, .f32⟩
  | .local _ .vmem, ⟨4, _⟩ => ⟨S704x2688, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4224x1024 : Shape := ⟨2, ![4224, 1024]⟩
abbrev S1024x2576 : Shape := ⟨2, ![1024, 2576]⟩
abbrev S4224x2576 : Shape := ⟨2, ![4224, 2576]⟩
abbrev S_ : Shape := ⟨0, ![]⟩
abbrev S4224x2688 : Shape := ⟨2, ![4224, 2688]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2576, .f32⟩
  | .hbm, ⟨2, _⟩ => ⟨S4224x2576, .f32⟩
  | .hbm, ⟨3, _⟩ => ⟨S_, .i32⟩
  | .hbm, ⟨4, _⟩ => ⟨S_, .f32⟩
  | .hbm, ⟨5, _⟩ => ⟨S4224x2688, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel8.lean ====
abbrev S4224x1024 : Shape := ⟨2, ![4224, 1024]⟩
abbrev S1024x2576 : Shape := ⟨2, ![1024, 2576]⟩
abbrev S4224x512 : Shape := ⟨2, ![4224, 512]⟩
abbrev S4224x256 : Shape := ⟨2, ![4224, 256]⟩
abbrev S2x2x2112x16 : Shape := ⟨4, ![2, 2, 2112, 16]⟩
abbrev S2576x1024 : Shape := ⟨2, ![2576, 1024]⟩
abbrev S_ : Shape := ⟨0, ![]⟩
abbrev S2688x1024 : Shape := ⟨2, ![2688, 1024]⟩
abbrev S2x2x2112x128 : Shape := ⟨4, ![2, 2, 2112, 128]⟩
abbrev S704x512 : Shape := ⟨2, ![704, 512]⟩
abbrev S704x256 : Shape := ⟨2, ![704, 256]⟩
abbrev S1x1x704x128 : Shape := ⟨4, ![1, 1, 704, 128]⟩
abbrev S704x1024 : Shape := ⟨2, ![704, 1024]⟩
abbrev S704x128 : Shape := ⟨2, ![704, 128]⟩
abbrev S512x1024 : Shape := ⟨2, ![512, 1024]⟩
abbrev S256x1024 : Shape := ⟨2, ![256, 1024]⟩
abbrev S128x1024 : Shape := ⟨2, ![128, 1024]⟩

abbrev nBuf : Space → Nat
  | .hbm => 26
  | .vmem => 21
  | .smem => 0
  | _ => 0

abbrev bufTy : (tb : Table) → Fin (tcTables nBuf tb) → BufTy
  | .hbm, ⟨0, _⟩ => ⟨S4224x1024, .f32⟩
  | .hbm, ⟨1, _⟩ => ⟨S1024x2576, .f32⟩
  | .hbm, ⟨2, _⟩ => ⟨S4224x512, .f32⟩
  | .hbm, ⟨3, _⟩ => ⟨S4224x512, .f32⟩
  | .hbm, ⟨4, _⟩ => ⟨S4224x256, .f32⟩
  | .hbm, ⟨5, _⟩ => ⟨S4224x256, .f32⟩
  | .hbm, ⟨6, _⟩ => ⟨S4224x512, .f32⟩
  | .hbm, ⟨7, _⟩ => ⟨S4224x512, .f32⟩
  | .hbm, ⟨8, _⟩ => ⟨S2x2x2112x16, .f32⟩
  | .hbm, ⟨9, _⟩ => ⟨S4224x1024, .f32⟩
  | .hbm, ⟨10, _⟩ => ⟨S2576x1024, .f32⟩
  | .hbm, ⟨11, _⟩ => ⟨S2576x1024, .bf16⟩
  | .hbm, ⟨12, _⟩ => ⟨S_, .i32⟩
  | .hbm, ⟨13, _⟩ => ⟨S_, .bf16⟩
  | .hbm, ⟨14, _⟩ => ⟨S2688x1024, .bf16⟩
  | .hbm, ⟨15, _⟩ => ⟨S4224x512, .bf16⟩
  | .hbm, ⟨16, _⟩ => ⟨S4224x512, .bf16⟩
  | .hbm, ⟨17, _⟩ => ⟨S4224x256, .bf16⟩
  | .hbm, ⟨18, _⟩ => ⟨S4224x256, .bf16⟩
  | .hbm, ⟨19, _⟩ => ⟨S4224x512, .bf16⟩
  | .hbm, ⟨20, _⟩ => ⟨S4224x512, .bf16⟩
  | .hbm, ⟨21, _⟩ => ⟨S_, .i32⟩
  | .hbm, ⟨22, _⟩ => ⟨S_, .f32⟩
  | .hbm, ⟨23, _⟩ => ⟨S2x2x2112x128, .f32⟩
  | .hbm, ⟨24, _⟩ => ⟨S2x2x2112x128, .bf16⟩
  | .hbm, ⟨25, _⟩ => ⟨S4224x1024, .f32⟩
  | .local _ .vmem, ⟨0, _⟩ => ⟨S704x512, .bf16⟩
  | .local _ .vmem, ⟨1, _⟩ => ⟨S704x512, .bf16⟩
  | .local _ .vmem, ⟨2, _⟩ => ⟨S704x512, .bf16⟩
  | .local _ .vmem, ⟨3, _⟩ => ⟨S704x512, .bf16⟩
  | .local _ .vmem, ⟨4, _⟩ => ⟨S704x256, .bf16⟩
  | .local _ .vmem, ⟨5, _⟩ => ⟨S704x256, .bf16⟩
  | .local _ .vmem, ⟨6, _⟩ => ⟨S704x256, .bf16⟩
  | .local _ .vmem, ⟨7, _⟩ => ⟨S704x256, .bf16⟩
  | .local _ .vmem, ⟨8, _⟩ => ⟨S704x512, .bf16⟩
  | .local _ .vmem, ⟨9, _⟩ => ⟨S704x512, .bf16⟩
  | .local _ .vmem, ⟨10, _⟩ => ⟨S704x512, .bf16⟩
  | .local _ .vmem, ⟨11, _⟩ => ⟨S704x512, .bf16⟩
  | .local _ .vmem, ⟨12, _⟩ => ⟨S1x1x704x128, .bf16⟩
  | .local _ .vmem, ⟨13, _⟩ => ⟨S1x1x704x128, .bf16⟩
  | .local _ .vmem, ⟨14, _⟩ => ⟨S1x1x704x128, .bf16⟩
  | .local _ .vmem, ⟨15, _⟩ => ⟨S1x1x704x128, .bf16⟩
  | .local _ .vmem, ⟨16, _⟩ => ⟨S2688x1024, .bf16⟩
  | .local _ .vmem, ⟨17, _⟩ => ⟨S704x1024, .f32⟩
  | .local _ .vmem, ⟨18, _⟩ => ⟨S704x1024, .f32⟩
  | .local _ .vmem, ⟨19, _⟩ => ⟨S704x1024, .f32⟩
  | .local _ .vmem, ⟨20, _⟩ => ⟨S704x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x704x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x704x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2688x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S704x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S704x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S4224x1024 : Shape := ⟨2, ![4224, 1024]⟩
abbrev S1024x2576 : Shape := ⟨2, ![1024, 2576]⟩
abbrev S4224x512 : Shape := ⟨2, ![4224, 512]⟩
abbrev S4224x256 : Shape := ⟨2, ![4224, 256]⟩
abbrev S2x2x2112x16 : Shape := ⟨4, ![2, 2, 2112, 16]⟩
abbrev S_ : Shape := ⟨0, ![]⟩
abbrev S2x2112x16 : Shape := ⟨3, ![2, 2112, 16]⟩
abbrev S4224x16 : Shape := ⟨2, ![4224, 16]⟩
abbrev S4224x2576 : Shape := ⟨2, ![4224, 2576]⟩

abbrev nBuf : Space → Nat
  | .hbm => 30
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2576, .f32⟩
  | .hbm, ⟨2, _⟩ => ⟨S4224x512, .f32⟩
  | .hbm, ⟨3, _⟩ => ⟨S4224x512, .f32⟩
  | .hbm, ⟨4, _⟩ => ⟨S4224x256, .f32⟩
  | .hbm, ⟨5, _⟩ => ⟨S4224x256, .f32⟩
  | .hbm, ⟨6, _⟩ => ⟨S4224x512, .f32⟩
  | .hbm, ⟨7, _⟩ => ⟨S4224x512, .f32⟩
  | .hbm, ⟨8, _⟩ => ⟨S2x2x2112x16, .f32⟩
  | .hbm, ⟨9, _⟩ => ⟨S4224x1024, .f32⟩
  | .hbm, ⟨10, _⟩ => ⟨S_, .f32⟩
  | .hbm, ⟨11, _⟩ => ⟨S2x2112x16, .f32⟩
  | .hbm, ⟨12, _⟩ => ⟨S4224x16, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S4224x2576, .f32⟩
  | .hbm, ⟨17, _⟩ => ⟨S4224x512, .f32⟩
  | .hbm, ⟨18, _⟩ => ⟨S4224x512, .f32⟩
  | .hbm, ⟨19, _⟩ => ⟨S4224x256, .f32⟩
  | .hbm, ⟨20, _⟩ => ⟨S4224x256, .f32⟩
  | .hbm, ⟨21, _⟩ => ⟨S4224x512, .f32⟩
  | .hbm, ⟨22, _⟩ => ⟨S4224x512, .f32⟩
  | .hbm, ⟨23, _⟩ => ⟨S4224x16, .f32⟩
  | .hbm, ⟨24, _⟩ => ⟨S4224x2576, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Kernel9.lean ====
abbrev S1024x2576 : Shape := ⟨2, ![1024, 2576]⟩
abbrev S4224x512 : Shape := ⟨2, ![4224, 512]⟩
abbrev S4224x256 : Shape := ⟨2, ![4224, 256]⟩
abbrev S2x2x2112x16 : Shape := ⟨4, ![2, 2, 2112, 16]⟩
abbrev S4224x1024 : Shape := ⟨2, ![4224, 1024]⟩
abbrev S_ : Shape := ⟨0, ![]⟩
abbrev S2x2x2112x128 : Shape := ⟨4, ![2, 2, 2112, 128]⟩
abbrev S2688x1024 : Shape := ⟨2, ![2688, 1024]⟩
abbrev S1056x512 : Shape := ⟨2, ![1056, 512]⟩
abbrev S1056x256 : Shape := ⟨2, ![1056, 256]⟩
abbrev S1x1x1056x128 : Shape := ⟨4, ![1, 1, 1056, 128]⟩
abbrev S1056x1024 : Shape := ⟨2, ![1056, 1024]⟩
abbrev S1056x128 : Shape := ⟨2, ![1056, 128]⟩
abbrev S512x1024 : Shape := ⟨2, ![512, 1024]⟩
abbrev S256x1024 : Shape := ⟨2, ![256, 1024]⟩
abbrev S128x1024 : Shape := ⟨2, ![128, 1024]⟩

abbrev nBuf : Space → Nat
  | .hbm => 21
  | .vmem => 19
  | .smem => 0
  | _ => 0

abbrev bufTy : (tb : Table) → Fin (tcTables nBuf tb) → BufTy
  | .hbm, ⟨0, _⟩ => ⟨S1024x2576, .f32⟩
  | .hbm, ⟨1, _⟩ => ⟨S4224x512, .f32⟩
  | .hbm, ⟨2, _⟩ => ⟨S4224x512, .f32⟩
  | .hbm, ⟨3, _⟩ => ⟨S4224x256, .f32⟩
  | .hbm, ⟨4, _⟩ => ⟨S4224x256, .f32⟩
  | .hbm, ⟨5, _⟩ => ⟨S4224x512, .f32⟩
  | .hbm, ⟨6, _⟩ => ⟨S4224x512, .f32⟩
  | .hbm, ⟨7, _⟩ => ⟨S2x2x2112x16, .f32⟩
  | .hbm, ⟨8, _⟩ => ⟨S4224x1024, .f32⟩
  | .hbm, ⟨9, _⟩ => ⟨S4224x512, .bf16⟩
  | .hbm, ⟨10, _⟩ => ⟨S4224x512, .bf16⟩
  | .hbm, ⟨11, _⟩ => ⟨S4224x256, .bf16⟩
  | .hbm, ⟨12, _⟩ => ⟨S4224x256, .bf16⟩
  | .hbm, ⟨13, _⟩ => ⟨S4224x512, .bf16⟩
  | .hbm, ⟨14, _⟩ => ⟨S4224x512, .bf16⟩
  | .hbm, ⟨15, _⟩ => ⟨S_, .i32⟩
  | .hbm, ⟨16, _⟩ => ⟨S_, .f32⟩
  | .hbm, ⟨17, _⟩ => ⟨S2x2x2112x128, .f32⟩
  | .hbm, ⟨18, _⟩ => ⟨S2x2x2112x128, .bf16⟩
  | .hbm, ⟨19, _⟩ => ⟨S4224x1024, .bf16⟩
  | .hbm, ⟨20, _⟩ => ⟨S2688x1024, .f32⟩
  | .local _ .vmem, ⟨0, _⟩ => ⟨S1056x512, .bf16⟩
  | .local _ .vmem, ⟨1, _⟩ => ⟨S1056x512, .bf16⟩
  | .local _ .vmem, ⟨2, _⟩ => ⟨S1056x512, .bf16⟩
  | .local _ .vmem, ⟨3, _⟩ => ⟨S1056x512, .bf16⟩
  | .local _ .vmem, ⟨4, _⟩ => ⟨S1056x256, .bf16⟩
  | .local _ .vmem, ⟨5, _⟩ => ⟨S1056x256, .bf16⟩
  | .local _ .vmem, ⟨6, _⟩ => ⟨S1056x256, .bf16⟩
  | .local _ .vmem, ⟨7, _⟩ => ⟨S1056x256, .bf16⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | .local _ .vmem, ⟨12, _⟩ => ⟨S1x1x1056x128, .bf16⟩
  | .local _ .vmem, ⟨13, _⟩ => ⟨S1x1x1056x128, .bf16⟩
  | .local _ .vmem, ⟨14, _⟩ => ⟨S1x1x1056x128, .bf16⟩
  | .local _ .vmem, ⟨15, _⟩ => ⟨S1x1x1056x128, .bf16⟩
  | .local _ .vmem, ⟨16, _⟩ => ⟨S1056x1024, .bf16⟩
  | .local _ .vmem, ⟨17, _⟩ => ⟨S1056x1024, .bf16⟩
  | .local _ .vmem, ⟨18, _⟩ => ⟨S2688x1024, .f32⟩
  | _, _ => ⟨S1024x2576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1056x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1056x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1056x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2688x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S1024x2576 : Shape := ⟨2, ![1024, 2576]⟩
abbrev S4224x512 : Shape := ⟨2, ![4224, 512]⟩
abbrev S4224x256 : Shape := ⟨2, ![4224, 256]⟩
abbrev S2x2x2112x16 : Shape := ⟨4, ![2, 2, 2112, 16]⟩
abbrev S4224x1024 : Shape := ⟨2, ![4224, 1024]⟩
abbrev S_ : Shape := ⟨0, ![]⟩
abbrev S2x2112x16 : Shape := ⟨3, ![2, 2112, 16]⟩
abbrev S4224x16 : Shape := ⟨2, ![4224, 16]⟩
abbrev S4224x2576 : Shape := ⟨2, ![4224, 2576]⟩
abbrev S2576x1024 : Shape := ⟨2, ![2576, 1024]⟩
abbrev S2688x1024 : Shape := ⟨2, ![2688, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1024x2576, .f32⟩
  | .hbm, ⟨1, _⟩ => ⟨S4224x512, .f32⟩
  | .hbm, ⟨2, _⟩ => ⟨S4224x512, .f32⟩
  | .hbm, ⟨3, _⟩ => ⟨S4224x256, .f32⟩
  | .hbm, ⟨4, _⟩ => ⟨S4224x256, .f32⟩
  | .hbm, ⟨5, _⟩ => ⟨S4224x512, .f32⟩
  | .hbm, ⟨6, _⟩ => ⟨S4224x512, .f32⟩
  | .hbm, ⟨7, _⟩ => ⟨S2x2x2112x16, .f32⟩
  | .hbm, ⟨8, _⟩ => ⟨S4224x1024, .f32⟩
  | .hbm, ⟨9, _⟩ => ⟨S_, .f32⟩
  | .hbm, ⟨10, _⟩ => ⟨S2x2112x16, .f32⟩
  | .hbm, ⟨11, _⟩ => ⟨S4224x16, .f32⟩
  | .hbm, ⟨12, _⟩ => ⟨S4224x2576, .f32⟩
  | .hbm, ⟨13, _⟩ => ⟨S4224x512, .f32⟩
  | .hbm, ⟨14, _⟩ => ⟨S4224x512, .f32⟩
  | .hbm, ⟨15, _⟩ => ⟨S4224x256, .f32⟩
  | .hbm, ⟨16, _⟩ => ⟨S4224x256, .f32⟩
  | .hbm, ⟨17, _⟩ => ⟨S4224x512, .f32⟩
  | .hbm, ⟨18, _⟩ => ⟨S4224x512, .f32⟩
  | .hbm, ⟨19, _⟩ => ⟨S4224x16, .f32⟩
  | .hbm, ⟨20, _⟩ => ⟨S4224x2576, .f32⟩
  | .hbm, ⟨21, _⟩ => ⟨S2576x1024, .f32⟩
  | .hbm, ⟨22, _⟩ => ⟨S1024x2576, .f32⟩
  | .hbm, ⟨23, _⟩ => ⟨S2576x1024, .f32⟩
  | .hbm, ⟨24, _⟩ => ⟨S_, .i32⟩
  | .hbm, ⟨25, _⟩ => ⟨S_, .f32⟩
  | .hbm, ⟨26, _⟩ => ⟨S2688x1024, .f32⟩
  | _, _ => ⟨S1024x2576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Kernel10.lean ====
abbrev S4224x1024 : Shape := ⟨2, ![4224, 1024]⟩
abbrev S1x1024 : Shape := ⟨2, ![1, 1024]⟩
abbrev S1024x4096 : Shape := ⟨2, ![1024, 4096]⟩
abbrev S4224x4096 : Shape := ⟨2, ![4224, 4096]⟩
abbrev S_ : Shape := ⟨0, ![]⟩
abbrev S4224 : Shape := ⟨1, ![4224]⟩
abbrev S4224x1 : Shape := ⟨2, ![4224, 1]⟩
abbrev S1024x4x1024 : Shape := ⟨3, ![1024, 4, 1024]⟩
abbrev S4x1024x1024 : Shape := ⟨3, ![4, 1024, 1024]⟩
abbrev S8x1024 : Shape := ⟨2, ![8, 1024]⟩
abbrev S704x4096 : Shape := ⟨2, ![704, 4096]⟩
abbrev S704x1024 : Shape := ⟨2, ![704, 1024]⟩
abbrev S704x1 : Shape := ⟨2, ![704, 1]⟩
abbrev S1x1024x1024 : Shape := ⟨3, ![1, 1024, 1024]⟩
abbrev S1024x1024 : Shape := ⟨2, ![1024, 1024]⟩
abbrev S704 : Shape := ⟨1, ![704]⟩
abbrev S1024 : Shape := ⟨1, ![1024]⟩

abbrev nBuf : Space → Nat
  | .hbm => 35
  | .vmem => 15
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x4096, .f32⟩
  | .hbm, ⟨3, _⟩ => ⟨S4224x4096, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S4224x1024, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | .hbm, ⟨27, _⟩ => ⟨S4224x4096, .bf16⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .bf16⟩
  | .hbm, ⟨34, _⟩ => ⟨S8x1024, .f32⟩
  | .local _ .vmem, ⟨0, _⟩ => ⟨S704x4096, .bf16⟩
  | .local _ .vmem, ⟨1, _⟩ => ⟨S704x4096, .bf16⟩
  | .local _ .vmem, ⟨2, _⟩ => ⟨S4x1024x1024, .bf16⟩
  | .local _ .vmem, ⟨3, _⟩ => ⟨S704x1024, .f32⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1, .f32⟩
  | .local _ .vmem, ⟨8, _⟩ => ⟨S704x1, .f32⟩
  | .local _ .vmem, ⟨9, _⟩ => ⟨S1x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .bf16⟩
  | .local _ .vmem, ⟨13, _⟩ => ⟨S704x1024, .bf16⟩
  | .local _ .vmem, ⟨14, _⟩ => ⟨S8x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4224x1024 : Shape := ⟨2, ![4224, 1024]⟩
abbrev S1x1024 : Shape := ⟨2, ![1, 1024]⟩
abbrev S1024x4096 : Shape := ⟨2, ![1024, 4096]⟩
abbrev S4224x4096 : Shape := ⟨2, ![4224, 4096]⟩
abbrev S_ : Shape := ⟨0, ![]⟩
abbrev S4224 : Shape := ⟨1, ![4224]⟩
abbrev S4224x1 : Shape := ⟨2, ![4224, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S1024x4096, .f32⟩
  | .hbm, ⟨3, _⟩ => ⟨S4224x4096, .f32⟩
  | .hbm, ⟨4, _⟩ => ⟨S4224x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x1, .f32⟩
  | .hbm, ⟨32, _⟩ => ⟨S_, .f32⟩
  | .hbm, ⟨33, _⟩ => ⟨S4224x1, .f32⟩
  | .hbm, ⟨34, _⟩ => ⟨S4224x1, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224x1024, .f32⟩
  | .hbm, ⟨43, _⟩ => ⟨S4224x1024, .f32⟩
  | .hbm, ⟨44, _⟩ => ⟨S4224x4096, .f32⟩
  | .hbm, ⟨45, _⟩ => ⟨S4224x1024, .f32⟩
  | .hbm, ⟨46, _⟩ => ⟨S_, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4224x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S_, .f32⟩
  | .hbm, ⟨61, _⟩ => ⟨S4224, .f32⟩
  | .hbm, ⟨62, _⟩ => ⟨S4224x1, .f32⟩
  | .hbm, ⟨63, _⟩ => ⟨S4224x1024, .f32⟩
  | .hbm, ⟨64, _⟩ => ⟨S4224x1024, .f32⟩
  | .hbm, ⟨65, _⟩ => ⟨S4224x1, .f32⟩
  | .hbm, ⟨66, _⟩ => ⟨S4224x1024, .f32⟩
  | .hbm, ⟨67, _⟩ => ⟨S_, .f32⟩
  | .hbm, ⟨68, _⟩ => ⟨S4224, .f32⟩
  | .hbm, ⟨69, _⟩ => ⟨S4224x1, .f32⟩
  | .hbm, ⟨70, _⟩ => ⟨S_, .f32⟩
  | .hbm, ⟨71, _⟩ => ⟨S4224x1, .f32⟩
  | .hbm, ⟨72, _⟩ => ⟨S4224x1, .f32⟩
  | .hbm, ⟨73, _⟩ => ⟨S_, .f32⟩
  | .hbm, ⟨74, _⟩ => ⟨S4224, .f32⟩
  | .hbm, ⟨75, _⟩ => ⟨S4224x1024, .f32⟩
  | .hbm, ⟨76, _⟩ => ⟨S4224x1024, .f32⟩
  | .hbm, ⟨77, _⟩ => ⟨S4224x1024, .f32⟩
  | .hbm, ⟨78, _⟩ => ⟨S_, .f32⟩
  | .hbm, ⟨79, _⟩ => ⟨S4224, .f32⟩
  | .hbm, ⟨80, _⟩ => ⟨S4224x1, .f32⟩
  | .hbm, ⟨81, _⟩ => ⟨S4224x1024, .f32⟩
  | .hbm, ⟨82, _⟩ => ⟨S4224x1, .f32⟩
  | .hbm, ⟨83, _⟩ => ⟨S_, .f32⟩
  | .hbm, ⟨84, _⟩ => ⟨S4224x1, .f32⟩
  | .hbm, ⟨85, _⟩ => ⟨S4224x1, .f32⟩
  | .hbm, ⟨86, _⟩ => ⟨S_, .f32⟩
  | .hbm, ⟨87, _⟩ => ⟨S4224, .f32⟩
  | .hbm, ⟨88, _⟩ => ⟨S4224x1024, .f32⟩
  | .hbm, ⟨89, _⟩ => ⟨S4224x1024, .f32⟩
  | .hbm, ⟨90, _⟩ => ⟨S4224x1024, .bf16⟩
  | .hbm, ⟨91, _⟩ => ⟨S_, .f32⟩
  | .hbm, ⟨92, _⟩ => ⟨S6x1024, .f32⟩
  | .hbm, ⟨93, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel11.lean ====
abbrev S448x1024 : Shape := ⟨2, ![448, 1024]⟩
abbrev S56x1024 : Shape := ⟨2, ![56, 1024]⟩
abbrev S1x1 : Shape := ⟨2, ![1, 1]⟩
abbrev S1x1024 : Shape := ⟨2, ![1, 1024]⟩
abbrev S1 : Shape := ⟨1, ![1]⟩

abbrev nBuf : Space → Nat
  | .hbm => 3
  | .vmem => 3
  | .smem => 0
  | _ => 0

abbrev bufTy : (tb : Table) → Fin (tcTables nBuf tb) → BufTy
  | .hbm, ⟨0, _⟩ => ⟨S448x1024, .f32⟩
  | .hbm, ⟨1, _⟩ => ⟨S56x1024, .f32⟩
  | .hbm, ⟨2, _⟩ => ⟨S1x1, .f32⟩
  | .local _ .vmem, ⟨0, _⟩ => ⟨S448x1024, .f32⟩
  | .local _ .vmem, ⟨1, _⟩ => ⟨S56x1024, .f32⟩
  | .local _ .vmem, ⟨2, _⟩ => ⟨S1x1, .f32⟩
  | _, _ => ⟨S448x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference11Ideal.lean ====
abbrev S448x1024 : Shape := ⟨2, ![448, 1024]⟩
abbrev S8x56x1024 : Shape := ⟨3, ![8, 56, 1024]⟩
abbrev S_ : Shape := ⟨0, ![]⟩
abbrev S56x1024 : Shape := ⟨2, ![56, 1024]⟩
abbrev S1x1024 : Shape := ⟨2, ![1, 1024]⟩
abbrev S1024 : Shape := ⟨1, ![1024]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S448x1024, .f32⟩
  | .hbm, ⟨1, _⟩ => ⟨S8x56x1024, .f32⟩
  | .hbm, ⟨2, _⟩ => ⟨S_, .f32⟩
  | .hbm, ⟨3, _⟩ => ⟨S56x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S1x1, .f32⟩
  | _, _ => ⟨S448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.ConvHalves.lean ====
/- The body of the convolution's gradient kernel in three pieces: the stores before its loop, the loop, and the stores after it. -/
module

public import proofs.«01_k».proof.Proof.Gen.KernelIdeal.Frame
public import proofs.«01_k».proof.Proof.Gen.KernelIdeal.Loops

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the run. -/
local notation "𝕄" => MT nD τ sig Unit (Elt F) ℕ (UR sig nD τ) ℕ

/-- A memref of core `c` holding `x`. -/
abbrev holds (c : Dev nD) {S : Shape} {e : EltTy} (a : Memref sig .tc .vmem S e) (x : Vec F S e) : sProp 𝕄 :=
  owns (c : Thread nD τ) a fullShare x
/-- A memref of core `c` holding anything. -/
abbrev some' (c : Dev nD) {S : Shape} {e : EltTy} (a : Memref sig .tc .vmem S e) : sProp 𝕄 :=
  iprop(∃ d, owns (c : Thread nD τ) a fullShare d)
/-- A memref of core `c` with the pieces `L` written over anything. -/
abbrev wrote (c : Dev nD) {S : Shape} {e : EltTy} (a : Memref sig .tc .vmem S e) (L : List (View.Piece (Elt F) S e)) : sProp 𝕄 :=
  iprop(∃ f, a.view.loc (c : Thread nD τ) ↦[a.view.set]{fullShare} a.view.writes (Elt F) f L)

/-- The body before its loop: the padded operands and the zeros of the running sums. -/
noncomputable def prologue (i : grid0.Coords) (arg2 : Memref sig .tc .vmem S1x2112x128 .f32) (harg2 : arg2.IsWhole) (arg3 : Memref sig .tc .vmem S1x2112x128 .f32) (harg3 : arg3.IsWhole) (arg4 : Memref sig .tc .vmem S1x2112x128 .f32) (harg4 : arg4.IsWhole) (arg5 : Memref sig .tc .vmem S32x128 .f32) (harg5 : arg5.IsWhole) (arg6 : Memref sig .tc .vmem S1x2112x128 .bf16) (harg6 : arg6.IsWhole) (arg7 : Memref sig .tc .vmem S1x2112x128 .bf16) (harg7 : arg7.IsWhole) (arg8 : Memref sig .tc .vmem S1x32x128 .f32) (harg8 : arg8.IsWhole) (arg9 : Memref sig .tc .vmem S2144x128 .f32) (harg9 : arg9.IsWhole) (arg10 : Memref sig .tc .vmem S2144x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S248x128 .f32) (harg13 : arg13.IsWhole) :
    Prog (TpuEff nD τ sig (Elt F) Λ₀ .tc) (FVec F S248x128 .f32) := do
  let v28 : FVec F S248x128 .f32 ← k0_part16 i arg2 harg2 arg3 harg3 arg4 harg4 arg5 harg5 arg6 harg6 arg7 harg7 arg8 harg8 arg9 harg9 arg10 harg10 arg11 harg11 arg12 harg12 arg13 harg13
  let v29 : Vec F S248x128 .f32 ← Prog.lift (.load arg13 (Rect.unit (s := S248x128) ![0, 0] S248x128.size inb_S248x128_S248x128_0_0).toLoadRect (View.loadsAt_vmem h_S248x128))
  Prog.lift (.store arg13 (Rect.unit (s := S248x128) ![0, 0] S248x128.size inb_S248x128_S248x128_0_0) (k0_pay66 v28) Finset.univ (View.stores_vmem_bits_univ h_S248x128 rfl) (.inl rfl))
  pure v28

/-- The loop. -/
noncomputable def loop (i : grid0.Coords) (arg2 : Memref sig .tc .vmem S1x2112x128 .f32) (harg2 : arg2.IsWhole) (arg3 : Memref sig .tc .vmem S1x2112x128 .f32) (harg3 : arg3.IsWhole) (arg4 : Memref sig .tc .vmem S1x2112x128 .f32) (harg4 : arg4.IsWhole) (arg5 : Memref sig .tc .vmem S32x128 .f32) (harg5 : arg5.IsWhole) (arg6 : Memref sig .tc .vmem S1x2112x128 .bf16) (harg6 : arg6.IsWhole) (arg7 : Memref sig .tc .vmem S1x2112x128 .bf16) (harg7 : arg7.IsWhole) (arg8 : Memref sig .tc .vmem S1x32x128 .f32) (harg8 : arg8.IsWhole) (arg9 : Memref sig .tc .vmem S2144x128 .f32) (harg9 : arg9.IsWhole) (arg10 : Memref sig .tc .vmem S2144x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S248x128 .f32) (harg13 : arg13.IsWhole) (v28 : FVec F S248x128 .f32) :
    Prog (TpuEff nD τ sig (Elt F) Λ₀ .tc) Unit :=
  Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 v28)

/-- The rest of the part the loop ends in. -/
noncomputable def rest17 (i : grid0.Coords) (arg2 : Memref sig .tc .vmem S1x2112x128 .f32) (harg2 : arg2.IsWhole) (arg3 : Memref sig .tc .vmem S1x2112x128 .f32) (harg3 : arg3.IsWhole) (arg4 : Memref sig .tc .vmem S1x2112x128 .f32) (harg4 : arg4.IsWhole) (arg5 : Memref sig .tc .vmem S32x128 .f32) (harg5 : arg5.IsWhole) (arg6 : Memref sig .tc .vmem S1x2112x128 .bf16) (harg6 : arg6.IsWhole) (arg7 : Memref sig .tc .vmem S1x2112x128 .bf16) (harg7 : arg7.IsWhole) (arg8 : Memref sig .tc .vmem S1x32x128 .f32) (harg8 : arg8.IsWhole) (arg9 : Memref sig .tc .vmem S2144x128 .f32) (harg9 : arg9.IsWhole) (arg10 : Memref sig .tc .vmem S2144x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S248x128 .f32) (harg13 : arg13.IsWhole) :
    Prog (TpuEff nD τ sig (Elt F) Λ₀ .tc) PUnit := do
  let v34 : Vec F S1x32x128 .f32 ← Prog.lift (.load arg8 (Rect.unit (s := S1x32x128) ![0, 0, 0] S1x32x128.size inb_S1x32x128_S1x32x128_0_0_0).toLoadRect (View.loadsAt_vmem h_S1x32x128))
  Prog.lift (.store arg8 (Rect.unit (s := S1x32x128) ![0, 0, 0] S1x32x128.size inb_S1x32x128_S1x32x128_0_0_0) (k0_pay68 (F := F)) Finset.univ (View.stores_vmem_bits_univ h_S1x32x128 rfl) (.inl rfl))
  let v37 : Vec F S8x128 .f32 ← Prog.lift (.load arg13 (Rect.unit (s := S248x128) ![0, 0] S8x128.size inb_S248x128_S8x128_0_0).toLoadRect (View.loadsAt_vmem h_S8x128))
  let v40 : Vec F S1x1x128 .f32 ← Prog.lift (.load arg8 (Rect.unit (s := S1x32x128) ![0, 0, 0] S1x1x128.size inb_S1x32x128_S1x1x128_0_0_0).toLoadRect (View.loadsAt_vmem h_S1x1x128))
  Prog.lift (.store arg8 (Rect.unit (s := S1x32x128) ![0, 0, 0] S1x1x128.size inb_S1x32x128_S1x1x128_0_0_0) (k0_pay69 v37) Finset.univ (View.stores_vmem_bits_univ h_S1x1x128 rfl) (.inl rfl))
  let v43 : Vec F S8x128 .f32 ← Prog.lift (.load arg13 (Rect.unit (s := S248x128) ![8, 0] S8x128.size inb_S248x128_S8x128_8_0).toLoadRect (View.loadsAt_vmem h_S8x128))
  let v46 : Vec F S1x1x128 .f32 ← Prog.lift (.load arg8 (Rect.unit (s := S1x32x128) ![0, 1, 0] S1x1x128.size inb_S1x32x128_S1x1x128_0_1_0).toLoadRect (View.loadsAt_vmem h_S1x1x128))
  Prog.lift (.store arg8 (Rect.unit (s := S1x32x128) ![0, 1, 0] S1x1x128.size inb_S1x32x128_S1x1x128_0_1_0) (k0_pay70 v43) Finset.univ (View.stores_vmem_bits_univ h_S1x1x128 rfl) (.inl rfl))
  let v49 : Vec F S8x128 .f32 ← Prog.lift (.load arg13 (Rect.unit (s := S248x128) ![16, 0] S8x128.size inb_S248x128_S8x128_16_0).toLoadRect (View.loadsAt_vmem h_S8x128))
  let v52 : Vec F S1x1x128 .f32 ← Prog.lift (.load arg8 (Rect.unit (s := S1x32x128) ![0, 2, 0] S1x1x128.size inb_S1x32x128_S1x1x128_0_2_0).toLoadRect (View.loadsAt_vmem h_S1x1x128))
  Prog.lift (.store arg8 (Rect.unit (s := S1x32x128) ![0, 2, 0] S1x1x128.size inb_S1x32x128_S1x1x128_0_2_0) (k0_pay71 v49) Finset.univ (View.stores_vmem_bits_univ h_S1x1x128 rfl) (.inl rfl))
  pure ⟨⟩

/-- The body after its loop: the stores of the weight gradient's rows. -/
noncomputable def tail (i : grid0.Coords) (arg2 : Memref sig .tc .vmem S1x2112x128 .f32) (harg2 : arg2.IsWhole) (arg3 : Memref sig .tc .vmem S1x2112x128 .f32) (harg3 : arg3.IsWhole) (arg4 : Memref sig .tc .vmem S1x2112x128 .f32) (harg4 : arg4.IsWhole) (arg5 : Memref sig .tc .vmem S32x128 .f32) (harg5 : arg5.IsWhole) (arg6 : Memref sig .tc .vmem S1x2112x128 .bf16) (harg6 : arg6.IsWhole) (arg7 : Memref sig .tc .vmem S1x2112x128 .bf16) (harg7 : arg7.IsWhole) (arg8 : Memref sig .tc .vmem S1x32x128 .f32) (harg8 : arg8.IsWhole) (arg9 : Memref sig .tc .vmem S2144x128 .f32) (harg9 : arg9.IsWhole) (arg10 : Memref sig .tc .vmem S2144x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S248x128 .f32) (harg13 : arg13.IsWhole) :
    Prog (TpuEff nD τ sig (Elt F) Λ₀ .tc) PUnit := do
  rest17 i arg2 harg2 arg3 harg3 arg4 harg4 arg5 harg5 arg6 harg6 arg7 harg7 arg8 harg8 arg9 harg9 arg10 harg10 arg11 harg11 arg12 harg12 arg13 harg13
  let ⟨v81, v82⟩ : Σ' (v81 : FVec F S1x128 .f32), Vec F S1x1x128 .f32 ← k0_part18 i arg2 harg2 arg3 harg3 arg4 harg4 arg5 harg5 arg6 harg6 arg7 harg7 arg8 harg8 arg9 harg9 arg10 harg10 arg11 harg11 arg12 harg12 arg13 harg13
  let v110 : FVec F S128 .f32 ← k0_part19 i arg2 harg2 arg3 harg3 arg4 harg4 arg5 harg5 arg6 harg6 arg7 harg7 arg8 harg8 arg9 harg9 arg10 harg10 arg11 harg11 arg12 harg12 arg13 harg13 v81 v82
  k0_part20 i arg2 harg2 arg3 harg3 arg4 harg4 arg5 harg5 arg6 harg6 arg7 harg7 arg8 harg8 arg9 harg9 arg10 harg10 arg11 harg11 arg12 harg12 arg13 harg13 v110
  let v165 : FVec F S1x128 .f32 ← k0_part21 i arg2 harg2 arg3 harg3 arg4 harg4 arg5 harg5 arg6 harg6 arg7 harg7 arg8 harg8 arg9 harg9 arg10 harg10 arg11 harg11 arg12 harg12 arg13 harg13
  let v193 : Vec F S8x128 .f32 ← k0_part22 i arg2 harg2 arg3 harg3 arg4 harg4 arg5 harg5 arg6 harg6 arg7 harg7 arg8 harg8 arg9 harg9 arg10 harg10 arg11 harg11 arg12 harg12 arg13 harg13 v165
  let v219 : FVec F S1x128 .f32 ← k0_part23 i arg2 harg2 arg3 harg3 arg4 harg4 arg5 harg5 arg6 harg6 arg7 harg7 arg8 harg8 arg9 harg9 arg10 harg10 arg11 harg11 arg12 harg12 arg13 harg13 v193
  Prog.lift (.store arg8 (Rect.unit (s := S1x32x128) ![0, 30, 0] S1x1x128.size inb_S1x32x128_S1x1x128_0_30_0) (k0_pay1 v219) Finset.univ (View.stores_vmem_bits_univ h_S1x1x128 rfl) (.inl rfl))
  pure ⟨⟩

set_option maxHeartbeats 2000000 in
/-- The body is its three pieces. -/
theorem halves (i : grid0.Coords) (arg2 : Memref sig .tc .vmem S1x2112x128 .f32) (harg2 : arg2.IsWhole) (arg3 : Memref sig .tc .vmem S1x2112x128 .f32) (harg3 : arg3.IsWhole) (arg4 : Memref sig .tc .vmem S1x2112x128 .f32) (harg4 : arg4.IsWhole) (arg5 : Memref sig .tc .vmem S32x128 .f32) (harg5 : arg5.IsWhole) (arg6 : Memref sig .tc .vmem S1x2112x128 .bf16) (harg6 : arg6.IsWhole) (arg7 : Memref sig .tc .vmem S1x2112x128 .bf16) (harg7 : arg7.IsWhole) (arg8 : Memref sig .tc .vmem S1x32x128 .f32) (harg8 : arg8.IsWhole) (arg9 : Memref sig .tc .vmem S2144x128 .f32) (harg9 : arg9.IsWhole) (arg10 : Memref sig .tc .vmem S2144x128 .f32) (harg10 : arg10.IsWhole) (arg11 : Memref sig .tc .vmem S96x128 .f32) (harg11 : arg11.IsWhole) (arg12 : Memref sig .tc .vmem S96x128 .f32) (harg12 : arg12.IsWhole) (arg13 : Memref sig .tc .vmem S248x128 .f32) (harg13 : arg13.IsWhole) :
    cc0_conv_bwd (F := F) i arg2 harg2 arg3 harg3 arg4 harg4 arg5 harg5 arg6 harg6 arg7 harg7 arg8 harg8 arg9 harg9 arg10 harg10 arg11 harg11 arg12 harg12 arg13 harg13 = (prologue i arg2 harg2 arg3 harg3 arg4 harg4 arg5 harg5 arg6 harg6 arg7 harg7 arg8 harg8 arg9 harg9 arg10 harg10 arg11 harg11 arg12 harg12 arg13 harg13 >>= fun v28 => loop i arg2 harg2 arg3 harg3 arg4 harg4 arg5 harg5 arg6 harg6 arg7 harg7 arg8 harg8 arg9 harg9 arg10 harg10 arg11 harg11 arg12 harg12 arg13 harg13 v28 >>= fun _ => tail i arg2 harg2 arg3 harg3 arg4 harg4 arg5 harg5 arg6 harg6 arg7 harg7 arg8 harg8 arg9 harg9 arg10 harg10 arg11 harg11 arg12 harg12 arg13 harg13) := by
  rw [cc0_conv_bwd_eq_skeleton]
  unfold cc0_conv_bwd_skel prologue loop tail rest17
  rw [k0_part17_eq_skeleton]
  unfold k0_part17_skel
  simp only [bind_assoc, pure_bind]

end Cert.ConvBwd

end
-- ==== Proof.ConvHead.lean ====
/- The stores before the loop, and the loop, run once at symbolic operands over any `F`. -/
module

public import proofs.«01_k».proof.Proof.ConvHalves
public import proofs.«01_k».proof.Proof.Gen.KernelIdeal.Loops

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the run. -/
local notation "𝕄" => MT nD τ sig Unit (Elt F) ℕ (UR sig nD τ) ℕ

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

set_option maxHeartbeats 8000000 in
/-- The stores before the loop: the padded operands and the zeros, whatever their buffers held. -/
noncomputable def proRun (X2 : BufTy.Contents (Elt F) a2.view.ty) (X3 : BufTy.Contents (Elt F) a3.view.ty) (X4 : BufTy.Contents (Elt F) a4.view.ty) :
    Σ' (L9 : List (View.Piece (Elt F) S2144x128 .f32)) (L10 : List (View.Piece (Elt F) S2144x128 .f32)),
      { L13 : List (View.Piece (Elt F) S248x128 .f32) // ∀ (f9 : BufTy.Contents (Elt F) a9.view.ty) (f10 : BufTy.Contents (Elt F) a10.view.ty) (f13 : BufTy.Contents (Elt F) a13.view.ty) (E : Set ℕ) (K : _ → sProp 𝕄),
        iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4)
            ∗ (a9.view.loc (c : Thread nD τ) ↦[a9.view.set]{fullShare} f9) ∗ (a10.view.loc (c : Thread nD τ) ↦[a10.view.set]{fullShare} f10) ∗ (a13.view.loc (c : Thread nD τ) ↦[a13.view.set]{fullShare} f13)
            ∗ (iprop((a2.view.loc (c : Thread nD τ) ↦[a2.view.set]{fullShare} X2) ∗ (a3.view.loc (c : Thread nD τ) ↦[a3.view.set]{fullShare} X3) ∗ (a4.view.loc (c : Thread nD τ) ↦[a4.view.set]{fullShare} X4)
            ∗ (a9.view.loc (c : Thread nD τ) ↦[a9.view.set]{fullShare} a9.view.writes (Elt F) (View.junk _) L9) ∗ (a10.view.loc (c : Thread nD τ) ↦[a10.view.set]{fullShare} a10.view.writes (Elt F) (View.junk _) L10) ∗ (a13.view.loc (c : Thread nD τ) ↦[a13.view.set]{fullShare} a13.view.writes (Elt F) (View.junk _) L13)) -∗ K (k0_pay65 (F := F))))
          ⊢ wp frame (wpE (defs₀ (F := F)) Variants.none c none) E (prologue i a2 h2 a3 h3 a4 h4 a5 h5 a6 h6 a7 h7 a8 h8 a9 h9 a10 h10 a11 h11 a12 h12 a13 h13) K } := by
  refine ⟨?_, ?_, ?_, fun f9 f10 f13 E K => ?run⟩
  case run =>
    unfold prologue
    simp only [k0_part16_eq_skeleton]
    iintro ⟨H2, H3, H4, H9, H10, H13, HK⟩
    sl_exec!
    sl_step
    iapply HK
    isplitl [H2]; · iexact H2
    isplitl [H3]; · iexact H3
    isplitl [H4]; · iexact H4
    isplitl [H9]; · iexact H9
    isplitl [H10]; · iexact H10
    iexact H13

end Body

end Cert.ConvBwd

end
-- ==== Proof.ConvLoop.lean ====
/- The loop, over any `F`: what a trip leaves, and what all of them leave. -/
module

public import proofs.«01_k».proof.Proof.ConvHalves
public import proofs.«01_k».proof.Proof.Gen.KernelIdeal.Loops

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the run. -/
local notation "𝕄" => MT nD τ sig Unit (Elt F) ℕ (UR sig nD τ) ℕ

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

variable (v28 : FVec F S248x128 .f32) (X3 : BufTy.Contents (Elt F) a3.view.ty) (X4 : BufTy.Contents (Elt F) a4.view.ty) (X5 : BufTy.Contents (Elt F) a5.view.ty)
    (X9 : BufTy.Contents (Elt F) a9.view.ty) (X10 : BufTy.Contents (Elt F) a10.view.ty)
    (f6 : BufTy.Contents (Elt F) a6.view.ty) (f7 : BufTy.Contents (Elt F) a7.view.ty) (f11 : BufTy.Contents (Elt F) a11.view.ty) (f12 : BufTy.Contents (Elt F) a12.view.ty) (f13 : BufTy.Contents (Elt F) a13.view.ty)

/-- What a trip writes into the value's gradient. -/
def step6 (k : Fin k0_t1_loop.trips) : List (View.Piece (Elt F) S1x2112x128 .bf16) :=
  (trip_k0_t1 (F := F) Variants.none c none i a2 h2 a3 h3 a4 h4 a5 h5 a6 h6 a7 h7 a8 h8 a9 h9 a10 h10 a11 h11 a12 h12 a13 h13 v28 X3 X4 X5 X9 X10 k).1 (View.junk _) (View.junk _) (View.junk _) (View.junk _) (View.junk _)
/-- What a trip writes into the gate's gradient. -/
def step7 (k : Fin k0_t1_loop.trips) : List (View.Piece (Elt F) S1x2112x128 .bf16) :=
  (trip_k0_t1 (F := F) Variants.none c none i a2 h2 a3 h3 a4 h4 a5 h5 a6 h6 a7 h7 a8 h8 a9 h9 a10 h10 a11 h11 a12 h12 a13 h13 v28 X3 X4 X5 X9 X10 k).2.1 (View.junk _) (View.junk _) (View.junk _) (View.junk _) (View.junk _)
/-- What a trip writes into the running sums, which it finds at `f`. -/
def step13 (k : Fin k0_t1_loop.trips) (f : BufTy.Contents (Elt F) a13.view.ty) : List (View.Piece (Elt F) S248x128 .f32) :=
  (trip_k0_t1 (F := F) Variants.none c none i a2 h2 a3 h3 a4 h4 a5 h5 a6 h6 a7 h7 a8 h8 a9 h9 a10 h10 a11 h11 a12 h12 a13 h13 v28 X3 X4 X5 X9 X10 k).2.2.2.2.1 (View.junk _) (View.junk _) (View.junk _) (View.junk _) f

theorem trip6 (k : Fin k0_t1_loop.trips) : (trip_k0_t1 (F := F) Variants.none c none i a2 h2 a3 h3 a4 h4 a5 h5 a6 h6 a7 h7 a8 h8 a9 h9 a10 h10 a11 h11 a12 h12 a13 h13 v28 X3 X4 X5 X9 X10 k).1 f6 f7 f11 f12 f13 = step6 c i h2 h3 h4 h5 h6 h7 h8 h9 h10 h11 h12 h13 v28 X3 X4 X5 X9 X10 k := by
  unfold step6 trip_k0_t1; rfl
theorem trip7 (k : Fin k0_t1_loop.trips) : (trip_k0_t1 (F := F) Variants.none c none i a2 h2 a3 h3 a4 h4 a5 h5 a6 h6 a7 h7 a8 h8 a9 h9 a10 h10 a11 h11 a12 h12 a13 h13 v28 X3 X4 X5 X9 X10 k).2.1 f6 f7 f11 f12 f13 = step7 c i h2 h3 h4 h5 h6 h7 h8 h9 h10 h11 h12 h13 v28 X3 X4 X5 X9 X10 k := by
  unfold step7 trip_k0_t1; rfl
theorem trip13 (k : Fin k0_t1_loop.trips) : (trip_k0_t1 (F := F) Variants.none c none i a2 h2 a3 h3 a4 h4 a5 h5 a6 h6 a7 h7 a8 h8 a9 h9 a10 h10 a11 h11 a12 h12 a13 h13 v28 X3 X4 X5 X9 X10 k).2.2.2.2.1 f6 f7 f11 f12 f13 = step13 c i h2 h3 h4 h5 h6 h7 h8 h9 h10 h11 h12 h13 v28 X3 X4 X5 X9 X10 k f13 := by
  unfold step13 trip_k0_t1; rfl

/-- A trip writes one block of rows into each of the two gradients. -/
theorem step6_eq (k : Fin k0_t1_loop.trips) : step6 c i h2 h3 h4 h5 h6 h7 h8 h9 h10 h11 h12 h13 v28 X3 X4 X5 X9 X10 k
    = [⟨Rect.unit (s := S1x2112x128) (k0_off2 k) S1x64x128.size (k0_off2_inb k), trip_k0_t1.sl.r_27 (F := F) a4 a5 a10 a12 X4 X5 X10 k⟩] := by
  unfold step6 trip_k0_t1; rfl
theorem step7_eq (k : Fin k0_t1_loop.trips) : step7 c i h2 h3 h4 h5 h6 h7 h8 h9 h10 h11 h12 h13 v28 X3 X4 X5 X9 X10 k
    = [⟨Rect.unit (s := S1x2112x128) (k0_off2 k) S1x64x128.size (k0_off2_inb k), k0_pay67 (F := F) (trip_k0_t1.sl.r_25 (F := F) a4 X4 k) (trip_k0_t1.sl.r_26 (F := F) a5 a10 a12 X5 X10 k)
        (View.readAt (Elt F) a3.view (Rect.unit (s := S1x2112x128) (k0_off2 k) S1x64x128.size (k0_off2_inb k)).toLoadRect X3)⟩] := by
  unfold step7 trip_k0_t1; rfl

/-- The pieces of the first `k` trips, the last first. -/
def piecesOf (f : Fin k0_t1_loop.trips → List (View.Piece (Elt F) S1x2112x128 .bf16)) : ℕ → List (View.Piece (Elt F) S1x2112x128 .bf16)
  | 0 => []
  | k + 1 => (if h : k < k0_t1_loop.trips then f ⟨k, h⟩ else []) ++ piecesOf f k

/-- The running sums after `k` trips. -/
def sums : ℕ → BufTy.Contents (Elt F) a13.view.ty
  | 0 => f13
  | k + 1 => if h : k < k0_t1_loop.trips then a13.view.writes (Elt F) (sums k) (step13 c i h2 h3 h4 h5 h6 h7 h8 h9 h10 h11 h12 h13 v28 X3 X4 X5 X9 X10 ⟨k, h⟩ (sums k)) else sums k

/-- The loop's pieces so far. -/
abbrev pbAt (k : ℕ) := pb_k0_t1 (F := F) Variants.none c none i a2 h2 a3 h3 a4 h4 a5 h5 a6 h6 a7 h7 a8 h8 a9 h9 a10 h10 a11 h11 a12 h12 a13 h13 v28 X3 X4 X5 X9 X10 f6 f7 f11 f12 f13 k

theorem pb_eq : ∀ k : ℕ, k ≤ k0_t1_loop.trips →
    (pbAt c i h2 h3 h4 h5 h6 h7 h8 h9 h10 h11 h12 h13 v28 X3 X4 X5 X9 X10 f6 f7 f11 f12 f13 k).1 = piecesOf (step6 c i h2 h3 h4 h5 h6 h7 h8 h9 h10 h11 h12 h13 v28 X3 X4 X5 X9 X10) k
    ∧ (pbAt c i h2 h3 h4 h5 h6 h7 h8 h9 h10 h11 h12 h13 v28 X3 X4 X5 X9 X10 f6 f7 f11 f12 f13 k).2.1 = piecesOf (step7 c i h2 h3 h4 h5 h6 h7 h8 h9 h10 h11 h12 h13 v28 X3 X4 X5 X9 X10) k
    ∧ a13.view.writes (Elt F) f13 (pbAt c i h2 h3 h4 h5 h6 h7 h8 h9 h10 h11 h12 h13 v28 X3 X4 X5 X9 X10 f6 f7 f11 f12 f13 k).2.2.2.2 = sums c i h2 h3 h4 h5 h6 h7 h8 h9 h10 h11 h12 h13 v28 X3 X4 X5 X9 X10 f13 k
  | 0, _ => ⟨rfl, rfl, rfl⟩
  | k + 1, hk => by
    obtain ⟨e6, e7, e13⟩ := pb_eq k (by omega)
    have hlt : k < k0_t1_loop.trips := by omega
    have hs := pb_k0_t1_succ (F := F) Variants.none c none i a2 h2 a3 h3 a4 h4 a5 h5 a6 h6 a7 h7 a8 h8 a9 h9 a10 h10 a11 h11 a12 h12 a13 h13 v28 X3 X4 X5 X9 X10 f6 f7 f11 f12 f13 ⟨k, hlt⟩
    refine ⟨?_, ?_, ?_⟩
    · refine (congrArg (fun p => p.1) hs).trans ((congrArg₂ (· ++ ·) (trip6 c i h2 h3 h4 h5 h6 h7 h8 h9 h10 h11 h12 h13 v28 X3 X4 X5 X9 X10 _ _ _ _ _ ⟨k, hlt⟩) e6).trans ?_)
      exact congrArg (· ++ _) (by rw [dif_pos hlt])
    · refine (congrArg (fun p => p.2.1) hs).trans ((congrArg₂ (· ++ ·) (trip7 c i h2 h3 h4 h5 h6 h7 h8 h9 h10 h11 h12 h13 v28 X3 X4 X5 X9 X10 _ _ _ _ _ ⟨k, hlt⟩) e7).trans ?_)
      exact congrArg (· ++ _) (by rw [dif_pos hlt])
    · refine (congrArg (fun p => a13.view.writes (Elt F) f13 p.2.2.2.2) hs).trans ?_
      refine (View.writes_append ..).trans ?_
      refine (congrArg (a13.view.writes (Elt F) _) (trip13 c i h2 h3 h4 h5 h6 h7 h8 h9 h10 h11 h12 h13 v28 X3 X4 X5 X9 X10 _ _ _ _ _ ⟨k, hlt⟩)).trans ?_
      refine Eq.trans ?_ (show _ = dite _ _ _ by rw [dif_pos hlt])
      show a13.view.writes (Elt F) (a13.view.writes (Elt F) f13 (pbAt c i h2 h3 h4 h5 h6 h7 h8 h9 h10 h11 h12 h13 v28 X3 X4 X5 X9 X10 f6 f7 f11 f12 f13 k).2.2.2.2)
        (step13 c i h2 h3 h4 h5 h6 h7 h8 h9 h10 h11 h12 h13 v28 X3 X4 X5 X9 X10 ⟨k, hlt⟩ (a13.view.writes (Elt F) f13 (pbAt c i h2 h3 h4 h5 h6 h7 h8 h9 h10 h11 h12 h13 v28 X3 X4 X5 X9 X10 f6 f7 f11 f12 f13 k).2.2.2.2)) = _
      rw [e13]

set_option maxHeartbeats 8000000 in
/-- The loop's run. -/
theorem loopRun (E : Set ℕ) (K : Unit → sProp 𝕄) :
    iprop((a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a9.view.loc (c : Thread nD τ) ↦[a9.view.set]{fullShare} X9) ∗ (a10.view.loc (c : Thread nD τ) ↦[a10.view.set]{fullShare} X10)
        ∗ (a6.view.loc (c : Thread nD τ) ↦[a6.view.set]{fullShare} f6) ∗ (a7.view.loc (c : Thread nD τ) ↦[a7.view.set]{fullShare} f7) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13)
        ∗ (iprop((a3.view.loc (c : Thread nD τ) ↦[a3.view.set]{fullShare} X3) ∗ (a4.view.loc (c : Thread nD τ) ↦[a4.view.set]{fullShare} X4) ∗ (a5.view.loc (c : Thread nD τ) ↦[a5.view.set]{fullShare} X5) ∗ (a9.view.loc (c : Thread nD τ) ↦[a9.view.set]{fullShare} X9) ∗ (a10.view.loc (c : Thread nD τ) ↦[a10.view.set]{fullShare} X10)
            ∗ (a6.view.loc (c : Thread nD τ) ↦[a6.view.set]{fullShare} a6.view.writes (Elt F) f6 (piecesOf (step6 c i h2 h3 h4 h5 h6 h7 h8 h9 h10 h11 h12 h13 v28 X3 X4 X5 X9 X10) k0_t1_loop.trips))
            ∗ (a7.view.loc (c : Thread nD τ) ↦[a7.view.set]{fullShare} a7.view.writes (Elt F) f7 (piecesOf (step7 c i h2 h3 h4 h5 h6 h7 h8 h9 h10 h11 h12 h13 v28 X3 X4 X5 X9 X10) k0_t1_loop.trips))
            ∗ (∃ f, (a11.view.loc (c : Thread nD τ) ↦[a11.view.set]{fullShare} f)) ∗ (∃ f, (a12.view.loc (c : Thread nD τ) ↦[a12.view.set]{fullShare} f))
            ∗ (a13.view.loc (c : Thread nD τ) ↦[a13.view.set]{fullShare} sums c i h2 h3 h4 h5 h6 h7 h8 h9 h10 h11 h12 h13 v28 X3 X4 X5 X9 X10 f13 k0_t1_loop.trips)) -∗ K ⟨⟩))
      ⊢ wp frame (wpE (defs₀ (F := F)) Variants.none c none) E (loop i a2 h2 a3 h3 a4 h4 a5 h5 a6 h6 a7 h7 a8 h8 a9 h9 a10 h10 a11 h11 a12 h12 a13 h13 v28) K := by
  obtain ⟨e6, e7, e13⟩ := pb_eq c i h2 h3 h4 h5 h6 h7 h8 h9 h10 h11 h12 h13 v28 X3 X4 X5 X9 X10 f6 f7 f11 f12 f13 k0_t1_loop.trips le_rfl
  rw [← e6, ← e7, ← e13]
  unfold loop
  iintro ⟨H3, H4, H5, H9, H10, H6, H7, H11, H12, H13, HK⟩
  sl_exec
  iapply HK
  isplitl [H3]; · iexact H3
  isplitl [H4]; · iexact H4
  isplitl [H5]; · iexact H5
  isplitl [H9]; · iexact H9
  isplitl [H10]; · iexact H10
  isplitl [H6]; · iexact H6
  isplitl [H7]; · iexact H7
  isplitl [H11]; · iexists _; iexact H11
  isplitl [H12]; · iexists _; iexact H12
  iexact H13

end Body

end Cert.ConvBwd

end
-- ==== Proof.ConvTail.lean ====
/- The stores after the loop, run once at symbolic operands over any `F`. -/
module

public import proofs.«01_k».proof.Proof.ConvHalves

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the run. -/
local notation "𝕄" => MT nD τ sig Unit (Elt F) ℕ (UR sig nD τ) ℕ

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

set_option maxHeartbeats 8000000 in
/-- The stores after the loop: the running sums are read at whatever they hold, the result's block gets the pieces of
    the witness. -/
noncomputable def tailRun (X13 : BufTy.Contents (Elt F) a13.view.ty) :
    { Lw : List (View.Piece (Elt F) S1x32x128 .f32) // ∀ (f8 : BufTy.Contents (Elt F) a8.view.ty) (E : Set ℕ) (K : PUnit → sProp 𝕄),
        iprop((a8.view.loc (c : Thread nD τ) ↦[a8.view.set]{fullShare} f8) ∗ (a13.view.loc (c : Thread nD τ) ↦[a13.view.set]{fullShare} X13)
            ∗ (iprop((a8.view.loc (c : Thread nD τ) ↦[a8.view.set]{fullShare} a8.view.writes (Elt F) f8 Lw) ∗ (a13.view.loc (c : Thread nD τ) ↦[a13.view.set]{fullShare} X13)) -∗ K ⟨⟩))
          ⊢ wp frame (wpE (defs₀ (F := F)) Variants.none c none) E (tail i a2 h2 a3 h3 a4 h4 a5 h5 a6 h6 a7 h7 a8 h8 a9 h9 a10 h10 a11 h11 a12 h12 a13 h13) K } := by
  refine ⟨?_, fun f8 E K => ?run⟩
  case run =>
    unfold tail rest17
    simp only [k0_part18_eq_skeleton, k0_part19_eq_skeleton, k0_part20_eq_skeleton, k0_part21_eq_skeleton, k0_part22_eq_skeleton, k0_part23_eq_skeleton]
    iintro ⟨H8, H13, HK⟩
    sl_exec
    sl_step
    iapply HK
    isplitl [H8]; · iexact H8
    iexact H13

end Body

end Cert.ConvBwd

end
-- ==== Proof.ConvBody.lean ====
/- The body over any `F`: the three pieces one after another. -/
module

public import proofs.«01_k».proof.Proof.ConvHead
public import proofs.«01_k».proof.Proof.ConvLoop
public import proofs.«01_k».proof.Proof.ConvTail

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the run. -/
local notation "𝕄" => MT nD τ sig Unit (Elt F) ℕ (UR sig nD τ) ℕ

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

variable (dh cv cg : Vec F S1x2112x128 .f32) (w : Vec F S32x128 .f32)

/-- The padded activation the loop reads. -/
def x9 : BufTy.Contents (Elt F) a9.view.ty := a9.view.writes (Elt F) (View.junk _) (proRun (F := F) c i h2 h3 h4 h5 h6 h7 h8 h9 h10 h11 h12 h13 (h2.unread dh) (h3.unread cv) (h4.unread cg)).1
/-- The padded gradient the loop reads. -/
def x10 : BufTy.Contents (Elt F) a10.view.ty := a10.view.writes (Elt F) (View.junk _) (proRun (F := F) c i h2 h3 h4 h5 h6 h7 h8 h9 h10 h11 h12 h13 (h2.unread dh) (h3.unread cv) (h4.unread cg)).2.1
/-- The running sums before the loop. -/
def x13 : BufTy.Contents (Elt F) a13.view.ty := a13.view.writes (Elt F) (View.junk _) (proRun (F := F) c i h2 h3 h4 h5 h6 h7 h8 h9 h10 h11 h12 h13 (h2.unread dh) (h3.unread cv) (h4.unread cg)).2.2.1
/-- The running sums after it. -/
def y13 : BufTy.Contents (Elt F) a13.view.ty := sums c i h2 h3 h4 h5 h6 h7 h8 h9 h10 h11 h12 h13 (k0_pay65 (F := F)) (h3.unread cv) (h4.unread cg) (h5.unread w) (x9 c i h2 h3 h4 h5 h6 h7 h8 h9 h10 h11 h12 h13 dh cv cg) (x10 c i h2 h3 h4 h5 h6 h7 h8 h9 h10 h11 h12 h13 dh cv cg) (x13 c i h2 h3 h4 h5 h6 h7 h8 h9 h10 h11 h12 h13 dh cv cg) k0_t1_loop.trips

/-- What the body leaves in the value's gradient, in the gate's and in the taps'. -/
def lv : List (View.Piece (Elt F) S1x2112x128 .bf16) := piecesOf (step6 c i h2 h3 h4 h5 h6 h7 h8 h9 h10 h11 h12 h13 (k0_pay65 (F := F)) (h3.unread cv) (h4.unread cg) (h5.unread w) (x9 c i h2 h3 h4 h5 h6 h7 h8 h9 h10 h11 h12 h13 dh cv cg) (x10 c i h2 h3 h4 h5 h6 h7 h8 h9 h10 h11 h12 h13 dh cv cg)) k0_t1_loop.trips
def lg : List (View.Piece (Elt F) S1x2112x128 .bf16) := piecesOf (step7 c i h2 h3 h4 h5 h6 h7 h8 h9 h10 h11 h12 h13 (k0_pay65 (F := F)) (h3.unread cv) (h4.unread cg) (h5.unread w) (x9 c i h2 h3 h4 h5 h6 h7 h8 h9 h10 h11 h12 h13 dh cv cg) (x10 c i h2 h3 h4 h5 h6 h7 h8 h9 h10 h11 h12 h13 dh cv cg)) k0_t1_loop.trips
def lw : List (View.Piece (Elt F) S1x32x128 .f32) := (tailRun (F := F) c i h2 h3 h4 h5 h6 h7 h8 h9 h10 h11 h12 h13 (y13 c i h2 h3 h4 h5 h6 h7 h8 h9 h10 h11 h12 h13 dh cv cg w)).1

set_option maxHeartbeats 2000000 in
/-- The body at symbolic operands: the four operands at their contents, everything else at anything; it returns the
    operands as they were, the results with their pieces written, the scratch at anything. -/
theorem bodyRun (E : Set ℕ) (K : PUnit → sProp 𝕄) :
    iprop(holds c a2 dh ∗ holds c a3 cv ∗ holds c a4 cg ∗ holds c a5 w ∗ some' c a6 ∗ some' c a7 ∗ some' c a8
        ∗ some' c a9 ∗ some' c a10 ∗ some' c a11 ∗ some' c a12 ∗ some' c a13
        ∗ (iprop(holds c a2 dh ∗ holds c a3 cv ∗ holds c a4 cg ∗ holds c a5 w ∗ wrote c a6 (lv c i h2 h3 h4 h5 h6 h7 h8 h9 h10 h11 h12 h13 dh cv cg w) ∗ wrote c a7 (lg c i h2 h3 h4 h5 h6 h7 h8 h9 h10 h11 h12 h13 dh cv cg w) ∗ wrote c a8 (lw c i h2 h3 h4 h5 h6 h7 h8 h9 h10 h11 h12 h13 dh cv cg w)
            ∗ some' c a9 ∗ some' c a10 ∗ some' c a11 ∗ some' c a12 ∗ some' c a13) -∗ K ⟨⟩))
      ⊢ wp frame (wpE (defs₀ (F := F)) Variants.none c none) E
          (cc0_conv_bwd i a2 h2 a3 h3 a4 h4 a5 h5 a6 h6 a7 h7 a8 h8 a9 h9 a10 h10 a11 h11 a12 h12 a13 h13) K := by
  rw [halves, wp_bind]
  unfold holds some' wrote owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, HK⟩
  obtain rfl := h2.eq_unread e2
  obtain rfl := h3.eq_unread e3
  obtain rfl := h4.eq_unread e4
  obtain rfl := h5.eq_unread e5
  iapply ((proRun (F := F) c i h2 h3 h4 h5 h6 h7 h8 h9 h10 h11 h12 h13 (h2.unread dh) (h3.unread cv) (h4.unread cg)).2.2.2 f9 f10 f13 E _)
  isplitl [H2]; · iexact H2
  isplitl [H3]; · iexact H3
  isplitl [H4]; · iexact H4
  isplitl [H9]; · iexact H9
  isplitl [H10]; · iexact H10
  isplitl [H13]; · iexact H13
  iintro ⟨H2, H3, H4, H9, H10, H13⟩
  rw [wp_bind]
  iapply (loopRun c i h2 h3 h4 h5 h6 h7 h8 h9 h10 h11 h12 h13 (k0_pay65 (F := F)) (h3.unread cv) (h4.unread cg) (h5.unread w) (x9 c i h2 h3 h4 h5 h6 h7 h8 h9 h10 h11 h12 h13 dh cv cg) (x10 c i h2 h3 h4 h5 h6 h7 h8 h9 h10 h11 h12 h13 dh cv cg) f6 f7 f11 f12 (x13 c i h2 h3 h4 h5 h6 h7 h8 h9 h10 h11 h12 h13 dh cv cg) E _)
  isplitl [H3]; · iexact H3
  isplitl [H4]; · iexact H4
  isplitl [H5]; · iexact H5
  isplitl [H9]; · iexact H9
  isplitl [H10]; · iexact H10
  isplitl [H6]; · iexact H6
  isplitl [H7]; · iexact H7
  isplitl [H11]; · iexact H11
  isplitl [H12]; · iexact H12
  isplitl [H13]; · iexact H13
  iintro ⟨H3, H4, H5, H9, H10, H6, H7, ⟨%g11, H11⟩, ⟨%g12, H12⟩, H13⟩
  iapply ((tailRun (F := F) c i h2 h3 h4 h5 h6 h7 h8 h9 h10 h11 h12 h13 (y13 c i h2 h3 h4 h5 h6 h7 h8 h9 h10 h11 h12 h13 dh cv cg w)).2 f8 E _)
  isplitl [H8]; · iexact H8
  isplitl [H13]; · iexact H13
  iintro ⟨H8, H13⟩
  iapply HK
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]; · iexists _; iexact H6
  isplitl [H7]; · iexists _; iexact H7
  isplitl [H8]; · iexists _; iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Body

end Cert.ConvBwd

end
-- ==== Proof.ConvRun.lean ====
/- The frame of the convolution's gradient kernel: what a point's run leaves in its output
   buffers, and the launch. Stated over any `F`, so that it serves both programs of the same text. -/
module

public import proofs.«01_k».proof.Proof.ConvBody
public import Idealize.ShloMosaic.Lib.Claim

@[expose] public section

set_option maxRecDepth 16384

noncomputable section

namespace Cert.ConvBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra of the run. -/
local notation "𝕄" => MT nD τ sig Unit (Elt F) ℕ (UR sig nD τ) ℕ

/-! ## At a point of the grid -/

variable (m : (ℓ : Loc nD τ sig) → Buf (Elt F) ℓ) (ρ : Dev nD → PrngReg)

/-- What the body leaves at point `t` in the value's gradient. -/
def lvAt (c : Dev nD) (t : Fin cfg0.N) : List (View.Piece (Elt F) S1x2112x128 .bf16) :=
  lv c (grid0.coords t) (a2 := win0_0.stage (cfg0.slots t 0)) (hstage0_0 ((cfg0.slots t 0).cast nbuf0_0))
    (a3 := win0_1.stage (cfg0.slots t 1)) (hstage0_1 ((cfg0.slots t 1).cast nbuf0_1))
    (a4 := win0_2.stage (cfg0.slots t 2)) (hstage0_2 ((cfg0.slots t 2).cast nbuf0_2))
    (a5 := win0_3.stage (cfg0.slots t 3)) (hstage0_3 ((cfg0.slots t 3).cast nbuf0_3))
    (a6 := win0_4.stage (cfg0.slots t 4)) (hstage0_4 ((cfg0.slots t 4).cast nbuf0_4))
    (a7 := win0_5.stage (cfg0.slots t 5)) (hstage0_5 ((cfg0.slots t 5).cast nbuf0_5))
    (a8 := win0_6.stage (cfg0.slots t 6)) (hstage0_6 ((cfg0.slots t 6).cast nbuf0_6))
    (Memref.isWhole_whole cc0_scratch0) (Memref.isWhole_whole cc0_scratch1) (Memref.isWhole_whole cc0_scratch2)
    (Memref.isWhole_whole cc0_scratch3) (Memref.isWhole_whole cc0_scratch4)
    (iblk m c 0 t) (iblk m c 1 t) (iblk m c 2 t) (iblk m c 3 t)
/-- In the gate's. -/
def lgAt (c : Dev nD) (t : Fin cfg0.N) : List (View.Piece (Elt F) S1x2112x128 .bf16) :=
  lg c (grid0.coords t) (a2 := win0_0.stage (cfg0.slots t 0)) (hstage0_0 ((cfg0.slots t 0).cast nbuf0_0))
    (a3 := win0_1.stage (cfg0.slots t 1)) (hstage0_1 ((cfg0.slots t 1).cast nbuf0_1))
    (a4 := win0_2.stage (cfg0.slots t 2)) (hstage0_2 ((cfg0.slots t 2).cast nbuf0_2))
    (a5 := win0_3.stage (cfg0.slots t 3)) (hstage0_3 ((cfg0.slots t 3).cast nbuf0_3))
    (a6 := win0_4.stage (cfg0.slots t 4)) (hstage0_4 ((cfg0.slots t 4).cast nbuf0_4))
    (a7 := win0_5.stage (cfg0.slots t 5)) (hstage0_5 ((cfg0.slots t 5).cast nbuf0_5))
    (a8 := win0_6.stage (cfg0.slots t 6)) (hstage0_6 ((cfg0.slots t 6).cast nbuf0_6))
    (Memref.isWhole_whole cc0_scratch0) (Memref.isWhole_whole cc0_scratch1) (Memref.isWhole_whole cc0_scratch2)
    (Memref.isWhole_whole cc0_scratch3) (Memref.isWhole_whole cc0_scratch4)
    (iblk m c 0 t) (iblk m c 1 t) (iblk m c 2 t) (iblk m c 3 t)
/-- In the taps'. -/
def lwAt (c : Dev nD) (t : Fin cfg0.N) : List (View.Piece (Elt F) S1x32x128 .f32) :=
  lw c (grid0.coords t) (a2 := win0_0.stage (cfg0.slots t 0)) (hstage0_0 ((cfg0.slots t 0).cast nbuf0_0))
    (a3 := win0_1.stage (cfg0.slots t 1)) (hstage0_1 ((cfg0.slots t 1).cast nbuf0_1))
    (a4 := win0_2.stage (cfg0.slots t 2)) (hstage0_2 ((cfg0.slots t 2).cast nbuf0_2))
    (a5 := win0_3.stage (cfg0.slots t 3)) (hstage0_3 ((cfg0.slots t 3).cast nbuf0_3))
    (a6 := win0_4.stage (cfg0.slots t 4)) (hstage0_4 ((cfg0.slots t 4).cast nbuf0_4))
    (a7 := win0_5.stage (cfg0.slots t 5)) (hstage0_5 ((cfg0.slots t 5).cast nbuf0_5))
    (a8 := win0_6.stage (cfg0.slots t 6)) (hstage0_6 ((cfg0.slots t 6).cast nbuf0_6))
    (Memref.isWhole_whole cc0_scratch0) (Memref.isWhole_whole cc0_scratch1) (Memref.isWhole_whole cc0_scratch2)
    (Memref.isWhole_whole cc0_scratch3) (Memref.isWhole_whole cc0_scratch4)
    (iblk m c 0 t) (iblk m c 1 t) (iblk m c 2 t) (iblk m c 3 t)

/-- Pieces written over junk and read back (through the first staging buffer of the window: where the pieces cover the
    block the buffer does not matter). -/
def outV (L : List (View.Piece (Elt F) S1x2112x128 .bf16)) : Vec F S1x2112x128 .bf16 :=
  (Memref.whole cc0_stg4_0 : Memref sig .tc .vmem S1x2112x128 .bf16).view.read (Elt F)
    ((Memref.whole cc0_stg4_0 : Memref sig .tc .vmem S1x2112x128 .bf16).view.writes (Elt F) (View.junk _) L)
def outW (L : List (View.Piece (Elt F) S1x32x128 .f32)) : Vec F S1x32x128 .f32 :=
  (Memref.whole cc0_stg6_0 : Memref sig .tc .vmem S1x32x128 .f32).view.read (Elt F)
    ((Memref.whole cc0_stg6_0 : Memref sig .tc .vmem S1x32x128 .f32).view.writes (Elt F) (View.junk _) L)

/-- A trip's pieces are among those of all trips. -/
theorem mem_piecesOf (f : Fin k0_t1_loop.trips → List (View.Piece (Elt F) S1x2112x128 .bf16)) (k : Fin k0_t1_loop.trips)
    (p : View.Piece (Elt F) S1x2112x128 .bf16) (hp : p ∈ f k) : ∀ n : ℕ, k.val < n → p ∈ piecesOf f n
  | 0, h => absurd h (Nat.not_lt_zero _)
  | n + 1, h => by
    unfold piecesOf
    rcases Nat.lt_or_ge k.val n with h' | h'
    · exact List.mem_append_right _ (mem_piecesOf f k p hp n h')
    · obtain rfl : n = k.val := by omega
      refine List.mem_append_left _ ?_
      rw [dif_pos k.isLt]
      exact hp

/-- A trip's block of rows. -/
abbrev rows (k : Fin k0_t1_loop.trips) : Rect S1x2112x128 := Rect.unit (s := S1x2112x128) (k0_off2 k) S1x64x128.size (k0_off2_inb k)

theorem off2_eq : ∀ k : Fin k0_t1_loop.trips, k0_off2 k = ![0, 64 * k.val, 0] := by decide +kernel
theorem trips_eq : k0_t1_loop.trips = 33 := by decide +kernel

/-- The trips' blocks cover the array's. -/
theorem rows_cover (y : S1x2112x128.Idx) : ∃ k : Fin k0_t1_loop.trips, y ∈ (rows k).set := by
  have h0 : (y 0).val < 1 := (y 0).isLt
  have h1 : (y 1).val < 2112 := (y 1).isLt
  have h2 : (y 2).val < 128 := (y 2).isLt
  have hk : (y 1).val / 64 < k0_t1_loop.trips := by rw [trips_eq]; omega
  refine ⟨⟨(y 1).val / 64, hk⟩, Rect.mem_set_unit.mpr fun a => ?_⟩
  rw [off2_eq]
  fin_cases a
  · show 0 ≤ (y 0).val ∧ (y 0).val < 0 + 1; omega
  · show 64 * ((y 1).val / 64) ≤ (y 1).val ∧ (y 1).val < 64 * ((y 1).val / 64) + 64; omega
  · show 0 ≤ (y 2).val ∧ (y 2).val < 0 + 128; omega

/-- Blocks of rows at every trip's place cover the array's. -/
theorem cover_of_rows (f : Fin k0_t1_loop.trips → List (View.Piece (Elt F) S1x2112x128 .bf16)) (hf : ∀ k, ∃ v, f k = [⟨rows k, v⟩])
    (y : S1x2112x128.Idx) : ∃ p ∈ piecesOf f k0_t1_loop.trips, y ∈ p.1.set := by
  obtain ⟨k, hk⟩ := rows_cover y
  obtain ⟨v, hv⟩ := hf k
  exact ⟨⟨rows k, v⟩, mem_piecesOf f k _ (by rw [hv]; exact List.mem_singleton.mpr rfl) _ k.isLt, hk⟩

/-- The value gradient's row blocks cover its block. -/
theorem cover_v (c : Dev nD) (t : Fin cfg0.N) (y : S1x2112x128.Idx) : ∃ p ∈ lvAt m c t, y ∈ p.1.set := by
  unfold lvAt lv
  exact cover_of_rows _ (fun k => ⟨_, step6_eq ..⟩) y
/-- The gate gradient's row blocks cover its block. -/
theorem cover_g (c : Dev nD) (t : Fin cfg0.N) (y : S1x2112x128.Idx) : ∃ p ∈ lgAt m c t, y ∈ p.1.set := by
  unfold lgAt lg
  exact cover_of_rows _ (fun k => ⟨_, step7_eq ..⟩) y
/-- The weight gradient's stores cover its block (the first of them whole). -/
theorem cover_w (c : Dev nD) (t : Fin cfg0.N) (y : S1x32x128.Idx) : ∃ p ∈ lwAt m c t, y ∈ p.1.set :=
  View.cover_of_tiledBy (lwAt m c t) ![1, 1, 128] (by sl_kernel_rfl) y

/-- The proof data of the pipeline: operands' buffers keep their blocks, results' buffers hold what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV (lvAt m c t)
    | ⟨5, _⟩ => outV (lgAt m c t)
    | ⟨6, _⟩ => outW (lwAt m c t)
  Φ _ := Pipeline.ΦA spec0 c
  q w := Pipeline.shareOf spec0 w
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outV (lvAt m c t) := by dsimp only [dats]
theorem after_5 (c : Dev nD) (t : Fin cfg0.N) : (dats m 0 c).after 5 t = outV (lgAt m c t) := by dsimp only [dats]
theorem after_6 (c : Dev nD) (t : Fin cfg0.N) : (dats m 0 c).after 6 t = outW (lwAt m c t) := by dsimp only [dats]

/-- The pipeline's invariant: the five scratch buffers at anything, and the generator's register. -/
theorem inv_eq (c : Dev nD) : (Pipeline.ΦA spec0 c : sProp 𝕄)
    = iprop(iprop(some' c (Memref.whole cc0_scratch0) ∗ some' c (Memref.whole cc0_scratch1) ∗ some' c (Memref.whole cc0_scratch2)
        ∗ some' c (Memref.whole cc0_scratch3) ∗ some' c (Memref.whole cc0_scratch4)) ∗ (∃ r, prngReg c r)) := by
  unfold Pipeline.ΦA
  rw [scopedRest0_eq]
  simp only [some', owns_whole]
  try rfl

set_option maxHeartbeats 1200000 in
/-- The body's triple at a point, from the run. -/
theorem body_sound (c : Dev nD) (t : Fin cfg0.N) :
    iprop((dats m 0 c).Φ t.castSucc ∗ (dats m 0 c).owesAt () t.castSucc
        ∗ (∃ d, holds c (win0_0.stage (cfg0.slots t 0)) ((dats m 0 c).before 0 t d))
        ∗ (∃ d, holds c (win0_1.stage (cfg0.slots t 1)) ((dats m 0 c).before 1 t d))
        ∗ (∃ d, holds c (win0_2.stage (cfg0.slots t 2)) ((dats m 0 c).before 2 t d))
        ∗ (∃ d, holds c (win0_3.stage (cfg0.slots t 3)) ((dats m 0 c).before 3 t d))
        ∗ (∃ d, holds c (win0_4.stage (cfg0.slots t 4)) ((dats m 0 c).before 4 t d))
        ∗ (∃ d, holds c (win0_5.stage (cfg0.slots t 5)) ((dats m 0 c).before 5 t d))
        ∗ (∃ d, holds c (win0_6.stage (cfg0.slots t 6)) ((dats m 0 c).before 6 t d)))
      ⊢ wp frame (wpE (defs₀ (F := F)) Variants.none c none) Set.univ (bodyAt0 t) (fun _ =>
        iprop((dats m 0 c).Φ t.succ ∗ (dats m 0 c).owesAt () t.succ
          ∗ holds c (win0_0.stage (cfg0.slots t 0)) ((dats m 0 c).after 0 t)
          ∗ holds c (win0_1.stage (cfg0.slots t 1)) ((dats m 0 c).after 1 t)
          ∗ holds c (win0_2.stage (cfg0.slots t 2)) ((dats m 0 c).after 2 t)
          ∗ holds c (win0_3.stage (cfg0.slots t 3)) ((dats m 0 c).after 3 t)
          ∗ holds c (win0_4.stage (cfg0.slots t 4)) ((dats m 0 c).after 4 t)
          ∗ holds c (win0_5.stage (cfg0.slots t 5)) ((dats m 0 c).after 5 t)
          ∗ holds c (win0_6.stage (cfg0.slots t 6)) ((dats m 0 c).after 6 t))) := by
  unfold bodyAt0
  simp only [before0_0_of m (dats m 0 c) (dats_A m c 0) (after_0 m c), before0_1_of m (dats m 0 c) (dats_A m c 1) (after_1 m c),
    before0_2_of m (dats m 0 c) (dats_A m c 2) (after_2 m c), before0_3_of m (dats m 0 c) (dats_A m c 3) (after_3 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, inv_eq]
  unfold outV outW
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) (a2 := win0_0.stage (cfg0.slots t 0)) (hstage0_0 ((cfg0.slots t 0).cast nbuf0_0))
    (a3 := win0_1.stage (cfg0.slots t 1)) (hstage0_1 ((cfg0.slots t 1).cast nbuf0_1))
    (a4 := win0_2.stage (cfg0.slots t 2)) (hstage0_2 ((cfg0.slots t 2).cast nbuf0_2))
    (a5 := win0_3.stage (cfg0.slots t 3)) (hstage0_3 ((cfg0.slots t 3).cast nbuf0_3))
    (a6 := win0_4.stage (cfg0.slots t 4)) (hstage0_4 ((cfg0.slots t 4).cast nbuf0_4))
    (a7 := win0_5.stage (cfg0.slots t 5)) (hstage0_5 ((cfg0.slots t 5).cast nbuf0_5))
    (a8 := win0_6.stage (cfg0.slots t 6)) (hstage0_6 ((cfg0.slots t 6).cast nbuf0_6))
    (Memref.isWhole_whole cc0_scratch0) (Memref.isWhole_whole cc0_scratch1) (Memref.isWhole_whole cc0_scratch2)
    (Memref.isWhole_whole cc0_scratch3) (Memref.isWhole_whole cc0_scratch4)
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexact S0
  isplitl [S1]; · iexact S1
  isplitl [S2]; · iexact S2
  isplitl [S3]; · iexact S3
  isplitl [S4]; · iexact S4
  iintro ⟨H0, H1, H2, H3, ⟨%e4, H4⟩, ⟨%e5, H5⟩, ⟨%e6, H6⟩, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]
  · unfold holds owns; iexists _; isplitr
    swap; · iexact H4
    ipureintro; exact View.read_writes_of_cover _ _ _ _ _ (cover_v m c t)
  isplitl [H5]
  · unfold holds owns; iexists _; isplitr
    swap; · iexact H5
    ipureintro; exact View.read_writes_of_cover _ _ _ _ _ (cover_g m c t)
  unfold holds owns; iexists _; isplitr
  swap; · iexact H6
  ipureintro; exact View.read_writes_of_cover _ _ _ _ _ (cover_w m c t)

/-- The library's obligation at every point. -/
theorem body_obligation (c : Dev nD) : BodyObligation (dats (F := F) m 0 c) (defs₀ (F := F)) Variants.none () Set.univ := fun t => by
  have row : defs₀ (F := F) .tc cfg0.body (cfg0.bodyArgs t (cfg0.slots t)) = bodyAt0 t := by unfold defs₀; rw [Defs.onTc_tc]
  rw [bigSep_W0, bigSep_W0, row]
  exact triple_restated (body_sound m c t) rfl .rfl fun _ => .rfl

set_option backward.isDefEq.respectTransparency.types false in
/-- The launch: every execution terminates, each array ends as the proof data say, every counter at zero. -/
theorem launch : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hΦ := fun _ _ => rfl)

/-- The frame: the argument arrays end unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch m ρ)))
    ((θ_run defs _ _).mono (fun _ h => h.2) (launch m ρ))

end Cert.ConvBwd

end
-- ==== Proof.Plain.lean ====
/- Arrays of extended reals read at plain numbers, and sums over consecutive numbers. -/
module

public import Idealize.ShloMosaic.PureOps.Ideal
public import Idealize.ShloMosaic.Lib.Pointwise
public import Idealize.ShloMosaic.Lib.KernelVsHost

@[expose] public section

noncomputable section

namespace Cert.Plain

open Idealize.ShloMosaic Idealize.ShloMosaic.TcCoe Idealize.ShloMosaic.Tactic

/-- A two-axis array of extended reals at row `r`, column `l`; zero outside. -/
def at2 {n m : ℕ} (x : (⟨2, ![n, m]⟩ : Shape).Idx → EReal) (r l : ℕ) : EReal :=
  if h : r < n ∧ l < m then x (ix2 ⟨r, h.1⟩ ⟨l, h.2⟩) else 0
/-- A three-axis array at `(b, r, l)`; zero outside. -/
def at3 {p n m : ℕ} (x : (⟨3, ![p, n, m]⟩ : Shape).Idx → EReal) (b r l : ℕ) : EReal :=
  if h : b < p ∧ r < n ∧ l < m then x (ix3 ⟨b, h.1⟩ ⟨r, h.2.1⟩ ⟨l, h.2.2⟩) else 0

theorem at2_mk {n m : ℕ} (x : (⟨2, ![n, m]⟩ : Shape).Idx → EReal) {r l : ℕ} (hr : r < n) (hl : l < m) :
    at2 x r l = x (ix2 ⟨r, hr⟩ ⟨l, hl⟩) := dif_pos ⟨hr, hl⟩
theorem at3_mk {p n m : ℕ} (x : (⟨3, ![p, n, m]⟩ : Shape).Idx → EReal) {b r l : ℕ} (hb : b < p) (hr : r < n) (hl : l < m) :
    at3 x b r l = x (ix3 ⟨b, hb⟩ ⟨r, hr⟩ ⟨l, hl⟩) := dif_pos ⟨hb, hr, hl⟩

theorem eq_at2 {n m : ℕ} (x : (⟨2, ![n, m]⟩ : Shape).Idx → EReal) (i : (⟨2, ![n, m]⟩ : Shape).Idx) {r l : ℕ}
    (hr : (i 0).val = r) (hl : (i 1).val = l) : x i = at2 x r l := by
  subst hr hl
  rw [at2_mk x (i 0).isLt (i 1).isLt]
  exact congrArg x (funext fun a => match a with | ⟨0, _⟩ => rfl | ⟨1, _⟩ => rfl)
theorem eq_at3 {p n m : ℕ} (x : (⟨3, ![p, n, m]⟩ : Shape).Idx → EReal) (i : (⟨3, ![p, n, m]⟩ : Shape).Idx) {b r l : ℕ}
    (hb : (i 0).val = b) (hr : (i 1).val = r) (hl : (i 2).val = l) : x i = at3 x b r l := by
  subst hb hr hl
  rw [at3_mk x (i 0).isLt (i 1).isLt (i 2).isLt]
  exact congrArg x (funext fun a => match a with | ⟨0, _⟩ => rfl | ⟨1, _⟩ => rfl | ⟨2, _⟩ => rfl)

/-- A four-axis array at `(a, b, r, l)`; zero outside. -/
def at4 {q p n m : ℕ} (x : (⟨4, ![q, p, n, m]⟩ : Shape).Idx → EReal) (a b r l : ℕ) : EReal :=
  if h : a < q ∧ b < p ∧ r < n ∧ l < m then x (ix4 ⟨a, h.1⟩ ⟨b, h.2.1⟩ ⟨r, h.2.2.1⟩ ⟨l, h.2.2.2⟩) else 0
theorem at4_mk {q p n m : ℕ} (x : (⟨4, ![q, p, n, m]⟩ : Shape).Idx → EReal) {a b r l : ℕ} (ha : a < q) (hb : b < p) (hr : r < n) (hl : l < m) :
    at4 x a b r l = x (ix4 ⟨a, ha⟩ ⟨b, hb⟩ ⟨r, hr⟩ ⟨l, hl⟩) := dif_pos ⟨ha, hb, hr, hl⟩
theorem at4_out {q p n m : ℕ} (x : (⟨4, ![q, p, n, m]⟩ : Shape).Idx → EReal) {a b r l : ℕ} (h : ¬ (a < q ∧ b < p ∧ r < n ∧ l < m)) :
    at4 x a b r l = 0 := dif_neg h
theorem eq_at4 {q p n m : ℕ} (x : (⟨4, ![q, p, n, m]⟩ : Shape).Idx → EReal) (i : (⟨4, ![q, p, n, m]⟩ : Shape).Idx) {a b r l : ℕ}
    (ha : (i 0).val = a) (hb : (i 1).val = b) (hr : (i 2).val = r) (hl : (i 3).val = l) : x i = at4 x a b r l := by
  subst ha hb hr hl
  rw [at4_mk x (i 0).isLt (i 1).isLt (i 2).isLt (i 3).isLt]
  exact congrArg x (funext fun a => match a with | ⟨0, _⟩ => rfl | ⟨1, _⟩ => rfl | ⟨2, _⟩ => rfl | ⟨3, _⟩ => rfl)

/-- Padding the last axis with zeros after its last column changes nothing at plain numbers. -/
theorem at4_pad {q p n m m' : ℕ} {hi : Fin 4 → ℕ} (x : (⟨4, ![q, p, n, m]⟩ : Shape).Idx → EReal) {u : Shape} (v : u.Idx → EReal)
    (h : Shape.Pads (⟨4, ![q, p, n, m]⟩ : Shape) ![0, 0, 0, 0] hi ![0, 0, 0, 0] ⟨4, ![q, p, n, m']⟩) (hu : 0 < u.numel)
    (hm : m ≤ m') (hv : v (Shape.Idx.first hu) = 0) (a b r l : ℕ) :
    at4 (pad (⟨4, ![q, p, n, m']⟩ : Shape) ![0, 0, 0, 0] hi ![0, 0, 0, 0] x v h hu) a b r l = at4 x a b r l := by
  by_cases hx : a < q ∧ b < p ∧ r < n ∧ l < m
  · rw [at4_mk _ hx.1 hx.2.1 hx.2.2.1 (hx.2.2.2.trans_le hm), at4_mk x hx.1 hx.2.1 hx.2.2.1 hx.2.2.2]
    exact pad_apply_of_inside _ _ _ x v h hu _ (ix4 ⟨a, hx.1⟩ ⟨b, hx.2.1⟩ ⟨r, hx.2.2.1⟩ ⟨l, hx.2.2.2⟩) fun e => by
      match e with
      | ⟨0, _⟩ => show a = 0 + a * 1; omega
      | ⟨1, _⟩ => show b = 0 + b * 1; omega
      | ⟨2, _⟩ => show r = 0 + r * 1; omega
      | ⟨3, _⟩ => show l = 0 + l * 1; omega
  · rw [at4_out x hx]
    by_cases hy : a < q ∧ b < p ∧ r < n ∧ l < m'
    · rw [at4_mk _ hy.1 hy.2.1 hy.2.2.1 hy.2.2.2]
      refine (pad_apply_of_not_inside _ _ _ x v h hu _ (3 : Fin 4) ?_).trans hv
      rintro ⟨-, -, h3⟩
      have h4 : (l - 0) / 1 < m := h3
      exact hx ⟨hy.1, hy.2.1, hy.2.2.1, by omega⟩
    · exact at4_out _ hy

/-- Two arrays that agree at plain numbers inside are one. -/
theorem ext2 {n m : ℕ} {x y : (⟨2, ![n, m]⟩ : Shape).Idx → EReal}
    (h : ∀ r l : ℕ, r < n → l < m → at2 x r l = at2 y r l) : x = y := by
  funext i
  rw [eq_at2 x i rfl rfl, eq_at2 y i rfl rfl]
  exact h _ _ (i 0).isLt (i 1).isLt
theorem ext3 {p n m : ℕ} {x y : (⟨3, ![p, n, m]⟩ : Shape).Idx → EReal}
    (h : ∀ b r l : ℕ, b < p → r < n → l < m → at3 x b r l = at3 y b r l) : x = y := by
  funext i
  rw [eq_at3 x i rfl rfl rfl, eq_at3 y i rfl rfl rfl]
  exact h _ _ _ (i 0).isLt (i 1).isLt (i 2).isLt

theorem at2_out {n m : ℕ} (x : (⟨2, ![n, m]⟩ : Shape).Idx → EReal) {r l : ℕ} (h : ¬ (r < n ∧ l < m)) :
    at2 x r l = 0 := dif_neg h

theorem at3_out {p n m : ℕ} (x : (⟨3, ![p, n, m]⟩ : Shape).Idx → EReal) {b r l : ℕ} (h : ¬ (b < p ∧ r < n ∧ l < m)) :
    at3 x b r l = 0 := dif_neg h

/-- Zero rows before the first row, anything else after the last: at plain numbers, the array moved down. -/
theorem at3_down {p n n' m m' lo : ℕ} {hi : Fin 3 → ℕ} (x : (⟨3, ![p, n, m]⟩ : Shape).Idx → EReal) {u : Shape} (v : u.Idx → EReal)
    (h : Shape.Pads (⟨3, ![p, n, m]⟩ : Shape) ![0, lo, 0] hi ![0, 0, 0] ⟨3, ![p, n', m']⟩) (hu : 0 < u.numel)
    (hm : m ≤ m') (hv : v (Shape.Idx.first hu) = 0) (b r l : ℕ) (hr : r < n') :
    at3 (pad (⟨3, ![p, n', m']⟩ : Shape) ![0, lo, 0] hi ![0, 0, 0] x v h hu) b r l = if lo ≤ r then at3 x b (r - lo) l else 0 := by
  by_cases hx : b < p ∧ r - lo < n ∧ l < m ∧ lo ≤ r
  · rw [if_pos hx.2.2.2, at3_mk _ hx.1 hr (hx.2.2.1.trans_le hm), at3_mk x hx.1 hx.2.1 hx.2.2.1]
    have hlo := hx.2.2.2
    exact pad_apply_of_inside _ _ _ x v h hu _ (ix3 ⟨b, hx.1⟩ ⟨r - lo, hx.2.1⟩ ⟨l, hx.2.2.1⟩) fun e => by
      match e with
      | ⟨0, _⟩ => show b = 0 + b * 1; omega
      | ⟨1, _⟩ => show r = lo + (r - lo) * 1; omega
      | ⟨2, _⟩ => show l = 0 + l * 1; omega
  · have hz : (if lo ≤ r then at3 x b (r - lo) l else 0) = 0 := by
      split
      · next hlo => exact at3_out x fun hh => hx ⟨hh.1, hh.2.1, hh.2.2, hlo⟩
      · rfl
    rw [hz]
    by_cases hy : b < p ∧ r < n' ∧ l < m'
    · rw [at3_mk _ hy.1 hy.2.1 hy.2.2]
      by_cases hl : l < m
      · refine (pad_apply_of_not_inside _ _ _ x v h hu _ (1 : Fin 3) ?_).trans hv
        rintro ⟨h1, -, h3⟩
        have h4 : lo ≤ r := h1
        have h5 : (r - lo) / 1 < n := h3
        exact hx ⟨hy.1, by omega, hl, h4⟩
      · refine (pad_apply_of_not_inside _ _ _ x v h hu _ (2 : Fin 3) ?_).trans hv
        rintro ⟨-, -, h3⟩
        have h4 : (l - 0) / 1 < m := h3
        omega
    · exact at3_out _ hy

/-- The same with zeros after the last row too: no bound on the row. -/
theorem at3_down' {p n n' m m' lo : ℕ} {hi : Fin 3 → ℕ} (x : (⟨3, ![p, n, m]⟩ : Shape).Idx → EReal) {u : Shape} (v : u.Idx → EReal)
    (h : Shape.Pads (⟨3, ![p, n, m]⟩ : Shape) ![0, lo, 0] hi ![0, 0, 0] ⟨3, ![p, n', m']⟩) (hu : 0 < u.numel)
    (hm : m ≤ m') (hn : lo + n ≤ n') (hv : v (Shape.Idx.first hu) = 0) (b r l : ℕ) :
    at3 (pad (⟨3, ![p, n', m']⟩ : Shape) ![0, lo, 0] hi ![0, 0, 0] x v h hu) b r l = if lo ≤ r then at3 x b (r - lo) l else 0 := by
  by_cases hr : r < n'
  · exact at3_down x v h hu hm hv b r l hr
  · rw [at3_out _ fun hh => hr hh.2.1, at3_out x fun hh => by have := hh.2.1; omega, ite_self]

/-- Padding with zeros after the last row and the last column changes nothing at plain numbers. -/
theorem at2_pad {n n' m m' : ℕ} {hi : Fin 2 → ℕ} (x : (⟨2, ![n, m]⟩ : Shape).Idx → EReal) {u : Shape} (v : u.Idx → EReal)
    (h : Shape.Pads (⟨2, ![n, m]⟩ : Shape) ![0, 0] hi ![0, 0] ⟨2, ![n', m']⟩) (hu : 0 < u.numel)
    (hn : n ≤ n') (hm : m ≤ m') (hv : v (Shape.Idx.first hu) = 0) (r l : ℕ) :
    at2 (pad (⟨2, ![n', m']⟩ : Shape) ![0, 0] hi ![0, 0] x v h hu) r l = at2 x r l := by
  by_cases hx : r < n ∧ l < m
  · rw [at2_mk _ (hx.1.trans_le hn) (hx.2.trans_le hm), at2_mk x hx.1 hx.2]
    exact pad_apply_of_inside _ _ _ x v h hu _ (ix2 ⟨r, hx.1⟩ ⟨l, hx.2⟩) fun a => by
      match a with
      | ⟨0, _⟩ => show r = 0 + r * 1; omega
      | ⟨1, _⟩ => show l = 0 + l * 1; omega
  · rw [at2_out x hx]
    by_cases hy : r < n' ∧ l < m'
    · rw [at2_mk _ hy.1 hy.2]
      by_cases hr : r < n
      · refine (pad_apply_of_not_inside _ _ _ x v h hu _ (1 : Fin 2) ?_).trans hv
        rintro ⟨-, -, h3⟩
        have h4 : (l - 0) / 1 < m := h3
        omega
      · refine (pad_apply_of_not_inside _ _ _ x v h hu _ (0 : Fin 2) ?_).trans hv
        rintro ⟨-, -, h3⟩
        have h4 : (r - 0) / 1 < n := h3
        omega
    · exact at2_out _ hy

theorem sitofp_zero (f : FTy) : FloatOps.sitofp (F := Ideal) f (0#32) = (0 : EReal) := by
  show (((0#32 : BitVec 32).toInt : ℝ) : EReal) = 0
  simp

theorem at2_transpose {n m : ℕ} (x : (⟨2, ![n, m]⟩ : Shape).Idx → EReal)
    (h : Shape.Transposes (⟨2, ![n, m]⟩ : Shape) [1, 0] ⟨2, ![m, n]⟩) (r l : ℕ) :
    at2 (transpose (⟨2, ![m, n]⟩ : Shape) [1, 0] x h) r l = at2 x l r := by
  by_cases hx : l < n ∧ r < m
  · rw [at2_mk _ hx.2 hx.1, at2_mk x hx.1 hx.2]
    pointwise
    try exact congrArg x (funext fun a => match a with | ⟨0, _⟩ => rfl | ⟨1, _⟩ => rfl)
  · rw [at2_out x hx, at2_out _ fun h => hx h.symm]

/-- The sum of `f` over the numbers below `n`. -/
abbrev sumTo (n : ℕ) (f : ℕ → EReal) : EReal := ∑ k ∈ Finset.range n, f k

theorem sumTo_add (n k : ℕ) (f : ℕ → EReal) : sumTo (n + k) f = sumTo n f + sumTo k fun j => f (n + j) :=
  Finset.sum_range_add f n k
theorem sumTo_congr {n : ℕ} {f g : ℕ → EReal} (h : ∀ k < n, f k = g k) : sumTo n f = sumTo n g :=
  Finset.sum_congr rfl fun k hk => h k (Finset.mem_range.mp hk)
theorem sum_fin' {n : ℕ} {g : Fin n → EReal} {f : ℕ → EReal} (h : ∀ k, g k = f k.val) : ∑ k : Fin n, g k = sumTo n f :=
  (Finset.sum_congr rfl fun k _ => h k).trans (Finset.sum_range f).symm

/-- A sum over the projection's 2576 columns, piece by piece. -/
theorem sum_pieces (f : ℕ → EReal) : sumTo 2576 f = sumTo 512 f + sumTo 512 (fun k => f (512 + k)) + sumTo 256 (fun k => f (1024 + k))
    + sumTo 256 (fun k => f (1280 + k)) + sumTo 512 (fun k => f (1536 + k)) + sumTo 512 (fun k => f (2048 + k)) + sumTo 16 (fun k => f (2560 + k)) := by
  have a1 := sumTo_add 2560 16 f
  have a2 := sumTo_add 2048 512 f
  have a3 := sumTo_add 1536 512 f
  have a4 := sumTo_add 1280 256 f
  have a5 := sumTo_add 1024 256 f
  have a6 := sumTo_add 512 512 f
  exact a1.trans (congrArg (· + _) (a2.trans (congrArg (· + _) (a3.trans (congrArg (· + _) (a4.trans (congrArg (· + _) (a5.trans (congrArg (· + _) a6)))))))))

/-- Columns that are all zero add nothing. -/
theorem sumTo_zeros (n k : ℕ) (f : ℕ → EReal) (h : ∀ j, n ≤ j → f j = 0) : sumTo (n + k) f = sumTo n f := by
  rw [sumTo_add, show sumTo k (fun j => f (n + j)) = 0 from Finset.sum_eq_zero fun j _ => h _ (Nat.le_add_right n j), add_zero]

theorem sum_fin (n : ℕ) (f : ℕ → EReal) : ∑ k : Fin n, f k.val = sumTo n f := (Finset.sum_range f).symm

end Cert.Plain

end
-- ==== Proof.ConvTrip.lean ====
/- One trip of the convolution's gradient loop at the extended reals: what its two row blocks and its running sums are. -/
module

public import proofs.«01_k».proof.Proof.ConvRun
public import proofs.«01_k».proof.Proof.Plain
public import Idealize.ShloMosaic.PureOps.Ideal
public import Idealize.ShloMosaic.Lib.Pointwise
public import Idealize.ShloMosaic.Lib.Pipeline.Value
public import Idealize.ShloMosaic.Lib.Pipeline.ReadBack
public import Idealize.ShloMosaic.Lib.VecWindow

@[expose] public section

set_option maxRecDepth 16384

noncomputable section

namespace Cert.ConvBwd

open Cert.KernelIdeal Cert.KernelIdeal.Gen Cert.Plain
open Idealize.ShloMosaic Idealize.ShloMosaic.TcCoe Idealize.ShloMosaic.Tactic

/-- One row, its columns as plain numbers. -/
def tapRow (f : ℕ → EReal) : S1x128.Idx → EReal := fun y => f (y 1).val
/-- The 64 rows from `o` on. -/
def winRows (f : ℕ → ℕ → EReal) (o : ℕ) : S64x128.Idx → EReal := fun y => f (o + (y 0).val) (y 1).val

/-! ## The offsets of a trip -/

theorem off1_eq : ∀ k : Fin k0_t1_loop.trips, k0_off1 k = ![64 * k.val, 0] := by decide +kernel
theorem trip_lt (k : Fin k0_t1_loop.trips) : k.val < 33 := trips_eq ▸ k.isLt

section Trip

variable (a4 : Memref sig .tc .vmem S1x2112x128 .f32) (a5 : Memref sig .tc .vmem S32x128 .f32)
  (a9 a10 : Memref sig .tc .vmem S2144x128 .f32) (a11 a12 : Memref sig .tc .vmem S96x128 .f32)
  (X4 : BufTy.Contents (Elt Ideal) a4.view.ty) (X5 : BufTy.Contents (Elt Ideal) a5.view.ty)
  (X9 : BufTy.Contents (Elt Ideal) a9.view.ty) (X10 : BufTy.Contents (Elt Ideal) a10.view.ty)
  (k : Fin k0_t1_loop.trips)

/-- A 64-row read of the gradient's window. -/
theorem dwin_apply (o : ℕ) (inb : ∀ a, (![o, 0] : Fin S96x128.rank → ℕ) a + ![64, 128] a ≤ S96x128.size a) :
    a12.view.readCov (trip_k0_t1.sl.HW_arg12_1 (F := Ideal) a10 X10 k) (Rect.unit (s := S96x128) ![o, 0] ![64, 128] inb).toLoadRect
      = winRows (at2 (a10.view.read (Elt Ideal) X10)) (64 * k.val + o) := by
  have h0 : ∀ a, (![0, 0] : Fin 2 → ℕ) a = 0 := by decide
  unfold trip_k0_t1.sl.HW_arg12_1
  rw [View.readCov_fill _ _ _ _ _ h0]
  funext y
  refine eq_at2 (a10.view.read (Elt Ideal) X10) ((Rect.unit (s := S2144x128) (k0_off1 k) S96x128.size (k0_off1_inb k)).idx
    (Shape.reshapeEquiv shapeCasts_S96x128_S96x128 ((Rect.unit (s := S96x128) ![o, 0] ![64, 128] inb).idx y))) ?_ ?_
  · rw [show Shape.reshapeEquiv shapeCasts_S96x128_S96x128 ((Rect.unit (s := S96x128) ![o, 0] ![64, 128] inb).idx y)
      = (Rect.unit (s := S96x128) ![o, 0] ![64, 128] inb).idx y from
        congrFun (shapeCast_id (fun i : S96x128.Idx => i) shapeCasts_S96x128_S96x128) _]
    show k0_off1 k 0 + 1 * (o + 1 * (y 0).val) = _
    rw [off1_eq]
    show 64 * k.val + 1 * (o + 1 * (y 0).val) = _
    omega
  · rw [show Shape.reshapeEquiv shapeCasts_S96x128_S96x128 ((Rect.unit (s := S96x128) ![o, 0] ![64, 128] inb).idx y)
      = (Rect.unit (s := S96x128) ![o, 0] ![64, 128] inb).idx y from
        congrFun (shapeCast_id (fun i : S96x128.Idx => i) shapeCasts_S96x128_S96x128) _]
    show k0_off1 k 1 + 1 * (0 + 1 * (y 1).val) = _
    rw [off1_eq]
    show 0 + 1 * (0 + 1 * (y 1).val) = _
    omega

/-- A 64-row read of the activation's window. -/
theorem hwin_apply (o : ℕ) (inb : ∀ a, (![o, 0] : Fin S96x128.rank → ℕ) a + ![64, 128] a ≤ S96x128.size a) :
    a11.view.readCov (trip_k0_t1.sl.HW_arg11_1 (F := Ideal) a9 X9 k) (Rect.unit (s := S96x128) ![o, 0] ![64, 128] inb).toLoadRect
      = winRows (at2 (a9.view.read (Elt Ideal) X9)) (64 * k.val + o) := by
  have h0 : ∀ a, (![0, 0] : Fin 2 → ℕ) a = 0 := by decide
  unfold trip_k0_t1.sl.HW_arg11_1
  rw [View.readCov_fill _ _ _ _ _ h0]
  funext y
  refine eq_at2 (a9.view.read (Elt Ideal) X9) ((Rect.unit (s := S2144x128) (k0_off1 k) S96x128.size (k0_off1_inb k)).idx
    (Shape.reshapeEquiv shapeCasts_S96x128_S96x128 ((Rect.unit (s := S96x128) ![o, 0] ![64, 128] inb).idx y))) ?_ ?_
  · rw [show Shape.reshapeEquiv shapeCasts_S96x128_S96x128 ((Rect.unit (s := S96x128) ![o, 0] ![64, 128] inb).idx y)
      = (Rect.unit (s := S96x128) ![o, 0] ![64, 128] inb).idx y from
        congrFun (shapeCast_id (fun i : S96x128.Idx => i) shapeCasts_S96x128_S96x128) _]
    show k0_off1 k 0 + 1 * (o + 1 * (y 0).val) = _
    rw [off1_eq]
    show 64 * k.val + 1 * (o + 1 * (y 0).val) = _
    omega
  · rw [show Shape.reshapeEquiv shapeCasts_S96x128_S96x128 ((Rect.unit (s := S96x128) ![o, 0] ![64, 128] inb).idx y)
      = (Rect.unit (s := S96x128) ![o, 0] ![64, 128] inb).idx y from
        congrFun (shapeCast_id (fun i : S96x128.Idx => i) shapeCasts_S96x128_S96x128) _]
    show k0_off1 k 1 + 1 * (0 + 1 * (y 1).val) = _
    rw [off1_eq]
    show 0 + 1 * (0 + 1 * (y 1).val) = _
    omega

/-- A row of the taps. -/
theorem wrow_apply (j : ℕ) (inb : ∀ a, (![j, 0] : Fin S32x128.rank → ℕ) a + ![1, 128] a ≤ S32x128.size a) :
    View.readAt (Elt Ideal) a5.view (Rect.unit (s := S32x128) ![j, 0] ![1, 128] inb).toLoadRect X5
      = tapRow (at2 (a5.view.read (Elt Ideal) X5) j) := by
  funext y
  refine eq_at2 (a5.view.read (Elt Ideal) X5) ((Rect.unit (s := S32x128) ![j, 0] ![1, 128] inb).idx y) ?_ ?_
  · show j + 1 * (y 0).val = j
    have : (y 0).val < 1 := (y 0).isLt
    omega
  · show 0 + 1 * (y 1).val = (y 1).val
    omega

/-- The 64 rows from `o` on, under a leading axis of one. -/
def blkRows (f : ℕ → ℕ → EReal) (o : ℕ) : S1x64x128.Idx → EReal := fun y => f (o + (y 1).val) (y 2).val
theorem blkRows_mk (f : ℕ → ℕ → EReal) (o : ℕ) (b : Fin 1) (r : Fin 64) (l : Fin 128) : blkRows f o (ix3 b r l) = f (o + r.val) l.val := rfl

/-- The sigmoid as the kernel forms it. -/
def sgm (x : EReal) : EReal := Ideal.div 1 (1 + Ideal.exp (0 - x))

theorem cast_row (f : ℕ → EReal) (z : S1x128.Idx) : shapeCast S1x128 (tapRow f) shapeCasts_S1x128_S1x128 z = f (z 1).val := by
  rw [shapeCast_id]; rfl

theorem tapRow_mk (f : ℕ → EReal) (r : Fin 1) (l : Fin 128) : tapRow f (ix2 r l) = f l.val := rfl

theorem select_one (x y : EReal) : Scalar.select (1#1) x y = x := rfl
theorem select_zero (x y : EReal) : Scalar.select (0#1) x y = y := rfl

/-- The rows before the forty-eighth are the padding. -/
theorem mask_fin : ∀ (k : Fin 33) (r : Fin 64),
    IntOp.cmpi .sge (IntOp.addi (Scalar.muli (Scf.iv 0#32 1#32 k.val) 64#32) (BitVec.ofNat 32 r.val)) 48#32
      = if 48 ≤ 64 * k.val + r.val then 1#1 else 0#1 := by decide +kernel
theorem mask_eq (k : Fin k0_t1_loop.trips) (r : Fin 64) :
    IntOp.cmpi .sge (IntOp.addi (Scalar.muli (Scf.iv 0#32 1#32 k.val) 64#32) (BitVec.ofNat 32 r.val)) 48#32
      = if 48 ≤ 64 * k.val + r.val then 1#1 else 0#1 := mask_fin ⟨k.val, trip_lt k⟩ r

theorem winRows_mk (f : ℕ → ℕ → EReal) (o : ℕ) (r : Fin 64) (l : Fin 128) : winRows f o (ix2 r l) = f (o + r.val) l.val := rfl

/-- Row `r`, column `l` of the gradient with respect to the gated activation. -/
def dhRow (W D : ℕ → ℕ → EReal) (r l : ℕ) : EReal :=
  if 48 ≤ r then ∑ j ∈ Finset.range 31, W j l * D (r + (30 - j)) l else 0

set_option maxHeartbeats 4000000 in
theorem dh_apply (r : Fin 64) (l : Fin 128) :
    trip_k0_t1.sl.r_26 (F := Ideal) a5 a10 a12 X5 X10 k (ix2 r l)
      = dhRow (at2 (a5.view.read (Elt Ideal) X5)) (at2 (a10.view.read (Elt Ideal) X10)) (64 * k.val + r.val) l.val := by
  simp only [trip_k0_t1.sl.v680, trip_k0_t1.sl.v258, trip_k0_t1.sl.v599, trip_k0_t1.sl.v449, trip_k0_t1.sl.v603, trip_k0_t1.sl.v530, trip_k0_t1.sl.v635, trip_k0_t1.sl.v483, trip_k0_t1.sl.r_1, trip_k0_t1.sl.v273, trip_k0_t1.sl.v494, trip_k0_t1.sl.v374, trip_k0_t1.sl.v318, trip_k0_t1.sl.v408, trip_k0_t1.sl.v419, trip_k0_t1.sl.v545, trip_k0_t1.sl.v674, trip_k0_t1.sl.v425, trip_k0_t1.sl.v528, trip_k0_t1.sl.r_17, trip_k0_t1.sl.v659, trip_k0_t1.sl.v695, trip_k0_t1.sl.v223, trip_k0_t1.sl.r_11, trip_k0_t1.sl.v515, trip_k0_t1.sl.r_23, trip_k0_t1.sl.v303, trip_k0_t1.sl.v378, trip_k0_t1.sl.v663, trip_k0_t1.sl.r_13, trip_k0_t1.sl.r_8, trip_k0_t1.sl.r_16, trip_k0_t1.sl.v410, trip_k0_t1.sl.v239, trip_k0_t1.sl.v618, trip_k0_t1.sl.v573, trip_k0_t1.sl.v320, trip_k0_t1.sl.r_15, trip_k0_t1.sl.v335, trip_k0_t1.sl.r_6, trip_k0_t1.sl.v393, trip_k0_t1.sl.v678, trip_k0_t1.sl.v284, trip_k0_t1.sl.v524, trip_k0_t1.sl.v305, trip_k0_t1.sl.v648, trip_k0_t1.sl.v350, trip_k0_t1.sl.v299, trip_k0_t1.sl.v464, trip_k0_t1.sl.v468, trip_k0_t1.sl.v575, trip_k0_t1.sl.v348, trip_k0_t1.sl.v359, trip_k0_t1.sl.v605, trip_k0_t1.sl.r_20, trip_k0_t1.sl.v620, trip_k0_t1.sl.v453, trip_k0_t1.sl.v404, trip_k0_t1.sl.r, trip_k0_t1.sl.v650, trip_k0_t1.sl.v455, trip_k0_t1.sl.v560, trip_k0_t1.sl.r_26, trip_k0_t1.sl.r_19, trip_k0_t1.sl.v479, trip_k0_t1.sl.r_4, trip_k0_t1.sl.v513, trip_k0_t1.sl.v470, trip_k0_t1.sl.v569, trip_k0_t1.sl.v344, trip_k0_t1.sl.v644, trip_k0_t1.sl.v380, trip_k0_t1.sl.r_22, trip_k0_t1.sl.v365, trip_k0_t1.sl.r_5, trip_k0_t1.sl.v590, trip_k0_t1.sl.v434, trip_k0_t1.sl.r_14, trip_k0_t1.sl.v395, trip_k0_t1.sl.v693, trip_k0_t1.sl.v333, trip_k0_t1.sl.v275, trip_k0_t1.sl.r_24, trip_k0_t1.sl.v665, trip_k0_t1.sl.r_21, trip_k0_t1.sl.v509, trip_k0_t1.sl.v423, trip_k0_t1.sl.v389, trip_k0_t1.sl.v363, trip_k0_t1.sl.r_9, trip_k0_t1.sl.v614, trip_k0_t1.sl.v290, trip_k0_t1.sl.v633, trip_k0_t1.sl.v440, trip_k0_t1.sl.v485, trip_k0_t1.sl.v584, trip_k0_t1.sl.v629, trip_k0_t1.sl.v539, trip_k0_t1.sl.v235, trip_k0_t1.sl.r_27, trip_k0_t1.sl.r_18, trip_k0_t1.sl.v269, trip_k0_t1.sl.arg14, trip_k0_t1.sl.v498, trip_k0_t1.sl.v554, trip_k0_t1.sl.r_25, trip_k0_t1.sl.v288, trip_k0_t1.sl.v314, trip_k0_t1.sl.r_10, trip_k0_t1.sl.v588, trip_k0_t1.sl.v543, trip_k0_t1.sl.v438, trip_k0_t1.sl.r_3, trip_k0_t1.sl.v329, trip_k0_t1.sl.r_12, trip_k0_t1.sl.v254, trip_k0_t1.sl.r_2, trip_k0_t1.sl.r_7, trip_k0_t1.sl.v500, trip_k0_t1.sl.v558, trip_k0_t1.sl.v260]
  simp only [dwin_apply, wrow_apply]
  unfold_payloads
  pointwise
  simp only [cast_row, winRows_mk, ix2_1]
  rw [mask_eq k r]
  generalize at2 (a10.view.read (Elt Ideal) X10) = D
  generalize at2 (a5.view.read (Elt Ideal) X5) = W
  have hd : ∀ o, D (64 * k.val + o + r.val) l.val = D (64 * k.val + r.val + o) l.val := fun o => by rw [Nat.add_right_comm]
  unfold dhRow
  by_cases h : 48 ≤ 64 * k.val + r.val
  · rw [if_pos h, if_pos h, select_one]
    simp only [Finset.sum_range_succ, Finset.sum_range_zero, zero_add, hd, tapRow_mk, Nat.reduceSub, add_zero]
  · rw [if_neg h, if_neg h, select_zero]

/-- A 64-row block of an operand at a trip. -/
theorem blk_apply (a : Memref sig .tc .vmem S1x2112x128 .f32) (X : BufTy.Contents (Elt Ideal) a.view.ty)
    (inb : ∀ b, k0_off2 k b + (![1, 64, 128] : Fin S1x2112x128.rank → ℕ) b ≤ S1x2112x128.size b) :
    View.readAt (Elt Ideal) a.view (Rect.unit (s := S1x2112x128) (k0_off2 k) ![1, 64, 128] inb).toLoadRect X
      = blkRows (at3 (a.view.read (Elt Ideal) X) 0) (64 * k.val) := by
  funext y
  refine eq_at3 (a.view.read (Elt Ideal) X) ((Rect.unit (s := S1x2112x128) (k0_off2 k) ![1, 64, 128] inb).idx y) ?_ ?_ ?_
  · have e : k0_off2 k 0 = 0 := congrFun (off2_eq k) 0
    have : (y 0).val < 1 := (y 0).isLt
    show k0_off2 k 0 + 1 * (y 0).val = 0
    omega
  · have e : k0_off2 k 1 = 64 * k.val := congrFun (off2_eq k) 1
    show k0_off2 k 1 + 1 * (y 1).val = 64 * k.val + (y 1).val
    omega
  · have e : k0_off2 k 2 = 0 := congrFun (off2_eq k) 2
    show k0_off2 k 2 + 1 * (y 2).val = (y 2).val
    omega

theorem sig_apply (r : Fin 64) (l : Fin 128) :
    trip_k0_t1.sl.r_25 (F := Ideal) a4 X4 k (ix2 r l) = sgm (at3 (a4.view.read (Elt Ideal) X4) 0 (64 * k.val + r.val) l.val) := by
  simp only [trip_k0_t1.sl.r_25]
  simp only [blk_apply]
  unfold_payloads
  pointwise
  simp only [blkRows_mk, sgm]

theorem dv_apply (r : Fin 64) (l : Fin 128) :
    trip_k0_t1.sl.r_27 (F := Ideal) a4 a5 a10 a12 X4 X5 X10 k (ix3 0 r l)
      = dhRow (at2 (a5.view.read (Elt Ideal) X5)) (at2 (a10.view.read (Elt Ideal) X10)) (64 * k.val + r.val) l.val
        * sgm (at3 (a4.view.read (Elt Ideal) X4) 0 (64 * k.val + r.val) l.val) := by
  rw [← dh_apply a5 a10 a12 X5 X10 k r l, ← sig_apply a4 X4 k r l]
  have e : trip_k0_t1.sl.r_27 (F := Ideal) a4 a5 a10 a12 X4 X5 X10 k = shapeCast S1x64x128 (truncf .bf16 (mulf
      (trip_k0_t1.sl.r_26 (F := Ideal) a5 a10 a12 X5 X10 k) (trip_k0_t1.sl.r_25 (F := Ideal) a4 X4 k)) bitsLt_bf16_f32)
      shapeCasts_S64x128_S1x64x128 := rfl
  rw [e]
  pointwise

theorem dg_apply (a3 : Memref sig .tc .vmem S1x2112x128 .f32) (X3 : BufTy.Contents (Elt Ideal) a3.view.ty) (r : Fin 64) (l : Fin 128)
    (inb : ∀ b, k0_off2 k b + (![1, 64, 128] : Fin S1x2112x128.rank → ℕ) b ≤ S1x2112x128.size b) :
    k0_pay67 (F := Ideal) (trip_k0_t1.sl.r_25 (F := Ideal) a4 X4 k) (trip_k0_t1.sl.r_26 (F := Ideal) a5 a10 a12 X5 X10 k)
        (View.readAt (Elt Ideal) a3.view (Rect.unit (s := S1x2112x128) (k0_off2 k) ![1, 64, 128] inb).toLoadRect X3) (ix3 0 r l)
      = dhRow (at2 (a5.view.read (Elt Ideal) X5)) (at2 (a10.view.read (Elt Ideal) X10)) (64 * k.val + r.val) l.val
        * at3 (a3.view.read (Elt Ideal) X3) 0 (64 * k.val + r.val) l.val
        * sgm (at3 (a4.view.read (Elt Ideal) X4) 0 (64 * k.val + r.val) l.val)
        * (1 - sgm (at3 (a4.view.read (Elt Ideal) X4) 0 (64 * k.val + r.val) l.val)) := by
  rw [← dh_apply a5 a10 a12 X5 X10 k r l, ← sig_apply a4 X4 k r l]
  simp only [blk_apply]
  unfold_payloads
  pointwise
  simp only [blkRows_mk]

/-- A row's share, of one trip, of the weight gradient's running sums. -/
def dwAdd (H D : ℕ → ℕ → EReal) (k r l : ℕ) : EReal :=
  ∑ g : Fin 8, D (64 * k + (8 * g.val + r % 8)) l * H (64 * k + (2 + r / 8) + (8 * g.val + r % 8)) l

theorem tap_piece (a13 : Memref sig .tc .vmem S248x128 .f32) (f : BufTy.Contents (Elt Ideal) a13.view.ty) (j : ℕ)
    (inb0 : ∀ a, (![0, 0] : Fin S96x128.rank → ℕ) a + (![64, 128] : Fin S96x128.rank → ℕ) a ≤ S96x128.size a)
    (inb : ∀ a, (![2 + j, 0] : Fin S96x128.rank → ℕ) a + (![64, 128] : Fin S96x128.rank → ℕ) a ≤ S96x128.size a)
    (inb' : ∀ a, (![8 * j, 0] : Fin S248x128.rank → ℕ) a + (![8, 128] : Fin S248x128.rank → ℕ) a ≤ S248x128.size a)
    (x : S8x128.Idx) :
    k0_pay5 (F := Ideal)
      (a12.view.readCov (trip_k0_t1.sl.HW_arg12_1 (F := Ideal) a10 X10 k) (Rect.unit (s := S96x128) ![0, 0] ![64, 128] inb0).toLoadRect)
      (a11.view.readCov (trip_k0_t1.sl.HW_arg11_1 (F := Ideal) a9 X9 k) (Rect.unit (s := S96x128) ![2 + j, 0] ![64, 128] inb).toLoadRect)
      (View.readAt (Elt Ideal) a13.view (Rect.unit (s := S248x128) ![8 * j, 0] ![8, 128] inb').toLoadRect f) x
      = a13.view.read (Elt Ideal) f ((Rect.unit (s := S248x128) ![8 * j, 0] ![8, 128] inb').emb x)
        + dwAdd (at2 (a9.view.read (Elt Ideal) X9)) (at2 (a10.view.read (Elt Ideal) X10)) k.val (8 * j + (x 0).val) (x 1).val := by
  obtain ⟨s, l, rfl⟩ : ∃ (s : Fin 8) (l : Fin 128), x = ix2 s l := ⟨x 0, x 1, funext fun a => match a with | ⟨0, _⟩ => rfl | ⟨1, _⟩ => rfl⟩
  simp only [dwin_apply, hwin_apply]
  unfold_payloads
  pointwise
  refine congrArg₂ (· + ·) rfl (Finset.sum_congr rfl fun g _ => ?_)
  have hs := s.isLt
  have e1 : (8 * j + s.val) % 8 = s.val := by omega
  have e2 : (8 * j + s.val) / 8 = j := by omega
  show at2 (a10.view.read (Elt Ideal) X10) _ _ * at2 (a9.view.read (Elt Ideal) X9) _ _ = _
  rw [ix2_0, ix2_1, e1, e2]
  refine congrArg₂ (· * ·) ?_ ?_
  · congr 1; show _ + (g.val * 8 + s.val) = _; omega
  · congr 1; show _ + (g.val * 8 + s.val) = _; omega

end Trip
end Cert.ConvBwd
end
-- ==== Proof.ConvFill.lean ====
/- What the stores before the loop leave, at the extended reals: the gated activation after 32 zero rows, the gradient before 32 zero rows, and zeros. -/
module

public import proofs.«01_k».proof.Proof.ConvTrip
public import proofs.«01_k».proof.Proof.Plain

@[expose] public section

set_option maxRecDepth 16384

noncomputable section

namespace Cert.ConvBwd

open Cert.KernelIdeal Cert.KernelIdeal.Gen Cert.Plain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

variable (dh cv cg : Vec Ideal S1x2112x128 .f32) (w : Vec Ideal S32x128 .f32)

/-- The gated activation, after 32 zero rows. -/
def gated (V G : ℕ → ℕ → EReal) (r l : ℕ) : EReal := if r < 32 then 0 else V (r - 32) l * sgm (G (r - 32) l)
/-- The gradient, before 32 zero rows. -/
def grad (D : ℕ → ℕ → EReal) (r l : ℕ) : EReal := if r < 2112 then D r l else 0

/-- A row of an operand's block. -/
theorem rd3 {a : Memref sig .tc .vmem S1x2112x128 .f32} (h : a.IsWhole) (x : Vec Ideal S1x2112x128 .f32)
    (inb : ∀ b, (![0, 0, 0] : Fin S1x2112x128.rank → ℕ) b + (![1, 2112, 128] : Fin S1x2112x128.rank → ℕ) b ≤ S1x2112x128.size b)
    (r : Fin 2112) (l : Fin 128) :
    View.readAt (Elt Ideal) a.view (Rect.unit (s := S1x2112x128) ![0, 0, 0] ![1, 2112, 128] inb).toLoadRect (h.unread x) (ix3 0 r l) = at3 x 0 r.val l.val := by
  refine (eq_at3 (a.view.read (Elt Ideal) (h.unread x)) ((Rect.unit (s := S1x2112x128) ![0, 0, 0] ![1, 2112, 128] inb).idx (ix3 0 r l)) (b := 0) (r := r.val) (l := l.val) ?_ ?_ ?_).trans (by rw [h.read_unread])
  · rfl
  · show 0 + 1 * r.val = r.val; omega
  · show 0 + 1 * l.val = l.val; omega

set_option maxHeartbeats 2000000 in
theorem x9_read (r l : ℕ) : at2 (a9.view.read (Elt Ideal) (x9 c i h2 h3 h4 h5 h6 h7 h8 h9 h10 h11 h12 h13 dh cv cg)) r l = gated (at3 cv 0) (at3 cg 0) r l := by
  by_cases h : r < 2144 ∧ l < 128
  swap
  · rw [at2_out _ h]
    unfold gated
    split
    · rfl
    · have : at3 cv 0 (r - 32) l = 0 := at3_out _ (by omega)
      rw [this, zero_mul]
  rw [at2_mk _ h.1 h.2]
  unfold x9 proRun
  dsimp only
  unfold proRun.sl.H9_2
  refine (View.read_writes_apply_eq_canon _ _ _ _ ?_).trans ((View.canon_append_of_piecesOf (fun y => gated (at3 cv 0) (at3 cg 0) (y 0).val (y 1).val) [] [_, _] ?_ _ ?_).trans rfl)
  rotate_left
  · refine ⟨fun x => ?_, fun x => ?_, trivial⟩
    · unfold_payloads
      dsimp only
      rw [shapeCast_id]
      show _ = gated _ _ (32 + 1 * (x 0).val) (0 + 1 * (x 1).val)
      unfold gated
      rw [if_neg (by omega), show 32 + 1 * (x 0).val - 32 = (x 0).val by omega, show 0 + 1 * (x 1).val = (x 1).val by omega]
      have hx : x = ix2 (x 0) (x 1) := funext fun a => match a with | ⟨0, _⟩ => rfl | ⟨1, _⟩ => rfl
      rw [hx]
      pointwise
      exact congrArg₂ (fun p q => p * sgm q) (rd3 h3 cv _ _ _) (rd3 h4 cg _ _ _)
    · unfold_payloads
      dsimp only
      have : (x 0).val < 32 := (x 0).isLt
      show _ = gated _ _ (0 + 1 * (x 0).val) (0 + 1 * (x 1).val)
      unfold gated
      rw [if_pos (by omega), shapeCast_id]
      pointwise
  all_goals
    by_cases hr : r < 32
    · refine ⟨_, List.mem_cons_of_mem _ (List.mem_singleton.mpr rfl), (Rect.mem_set_unit (inb := inb_S2144x128_S32x128_0_0)).mpr fun a => ?_⟩
      fin_cases a
      · show 0 ≤ r ∧ r < 0 + 32; omega
      · show 0 ≤ l ∧ l < 0 + 128; omega
    · refine ⟨_, List.mem_cons_self .., (Rect.mem_set_unit (inb := inb_S2144x128_S2112x128_32_0)).mpr fun a => ?_⟩
      fin_cases a
      · show 32 ≤ r ∧ r < 32 + 2112; omega
      · show 0 ≤ l ∧ l < 0 + 128; omega

set_option maxHeartbeats 2000000 in
theorem x10_read (r l : ℕ) : at2 (a10.view.read (Elt Ideal) (x10 c i h2 h3 h4 h5 h6 h7 h8 h9 h10 h11 h12 h13 dh cv cg)) r l = grad (at3 dh 0) r l := by
  by_cases h : r < 2144 ∧ l < 128
  swap
  · rw [at2_out _ h]
    unfold grad
    split
    · exact (at3_out _ (by omega)).symm
    · rfl
  rw [at2_mk _ h.1 h.2]
  unfold x10 proRun
  dsimp only
  unfold proRun.sl.H10_2
  refine (View.read_writes_apply_eq_canon _ _ _ _ ?_).trans ((View.canon_append_of_piecesOf (fun y => grad (at3 dh 0) (y 0).val (y 1).val) [] [_, _] ?_ _ ?_).trans rfl)
  rotate_left
  · refine ⟨fun x => ?_, fun x => ?_, trivial⟩
    · unfold_payloads
      dsimp only
      show _ = grad _ (2112 + 1 * (x 0).val) (0 + 1 * (x 1).val)
      unfold grad
      rw [if_neg (by omega), shapeCast_id]
      pointwise
    · unfold_payloads
      dsimp only
      have : (x 0).val < 2112 := (x 0).isLt
      rw [shapeCast_id]
      show _ = grad _ (0 + 1 * (x 0).val) (0 + 1 * (x 1).val)
      unfold grad
      rw [if_pos (by omega), show 0 + 1 * (x 0).val = (x 0).val by omega, show 0 + 1 * (x 1).val = (x 1).val by omega]
      have hx : x = ix2 (x 0) (x 1) := funext fun a => match a with | ⟨0, _⟩ => rfl | ⟨1, _⟩ => rfl
      rw [hx]
      pointwise
      exact rd3 h2 dh _ _ _
  all_goals
    by_cases hr : r < 2112
    · refine ⟨_, List.mem_cons_of_mem _ (List.mem_singleton.mpr rfl), (Rect.mem_set_unit (inb := inb_S2144x128_S2112x128_0_0)).mpr fun a => ?_⟩
      fin_cases a
      · show 0 ≤ r ∧ r < 0 + 2112; omega
      · show 0 ≤ l ∧ l < 0 + 128; omega
    · refine ⟨_, List.mem_cons_self .., (Rect.mem_set_unit (inb := inb_S2144x128_S32x128_2112_0)).mpr fun a => ?_⟩
      fin_cases a
      · show 2112 ≤ r ∧ r < 2112 + 32; omega
      · show 0 ≤ l ∧ l < 0 + 128; omega

theorem x13_read (y : S248x128.Idx) : a13.view.read (Elt Ideal) (x13 c i h2 h3 h4 h5 h6 h7 h8 h9 h10 h11 h12 h13 dh cv cg) y = 0 := by
  unfold x13 proRun
  dsimp only
  unfold proRun.sl.H13_1
  have hm : ∀ a, (![0, 0] : Fin S248x128.rank → ℕ) a ≤ (y a).val ∧ (y a).val < (![0, 0] : Fin S248x128.rank → ℕ) a + S248x128.size a := fun a => by
    have h := (y a).isLt
    fin_cases a
    · exact ⟨Nat.zero_le _, by show _ < 0 + _; rw [Nat.zero_add]; exact h⟩
    · exact ⟨Nat.zero_le _, by show _ < 0 + _; rw [Nat.zero_add]; exact h⟩
  refine (View.read_writes_apply_eq_canon _ _ _ _ ?_).trans ((View.canon_append_of_piecesOf (fun y => 0) [] [_] ?_ _ ?_).trans rfl)
  rotate_left
  · refine ⟨fun x => ?_, trivial⟩
    unfold_payloads
    dsimp only
    rw [shapeCast_id]
    pointwise
  all_goals
    refine ⟨_, List.mem_singleton.mpr rfl, ?_⟩
    exact (Rect.mem_set_unit (inb := inb_S248x128_S248x128_0_0)).mpr hm

end Body
end Cert.ConvBwd
end
-- ==== Proof.ConvSums.lean ====
/- What the loop leaves at the extended reals: the two blocks of row gradients and the running sums of the taps' gradient. -/
module

public import proofs.«01_k».proof.Proof.ConvFill
public import proofs.«01_k».proof.Proof.Plain

@[expose] public section

set_option maxRecDepth 16384

noncomputable section

namespace Cert.ConvBwd

open Cert.KernelIdeal Cert.KernelIdeal.Gen Cert.Plain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

variable (v28 : FVec Ideal S248x128 .f32) (X3 : BufTy.Contents (Elt Ideal) a3.view.ty) (X4 : BufTy.Contents (Elt Ideal) a4.view.ty) (X5 : BufTy.Contents (Elt Ideal) a5.view.ty)
    (X9 : BufTy.Contents (Elt Ideal) a9.view.ty) (X10 : BufTy.Contents (Elt Ideal) a10.view.ty)

set_option maxHeartbeats 4000000 in
/-- A trip's stores into the running sums are blocks of the sums before it plus the trip's share. -/
theorem step13_pieces (k : Fin k0_t1_loop.trips) (f : BufTy.Contents (Elt Ideal) a13.view.ty) :
    View.PiecesOf (fun y => a13.view.read (Elt Ideal) f y + dwAdd (at2 (a9.view.read (Elt Ideal) X9)) (at2 (a10.view.read (Elt Ideal) X10)) k.val (y 0).val (y 1).val)
      (step13 c i h2 h3 h4 h5 h6 h7 h8 h9 h10 h11 h12 h13 v28 X3 X4 X5 X9 X10 k f) := by
  have tp := fun (j : ℕ) inb0 inb inb' (x : S8x128.Idx) => (tap_piece a9 a10 a11 a12 X9 X10 k a13 f j inb0 inb inb' x).trans
    (show _ = (fun y : S248x128.Idx => a13.view.read (Elt Ideal) f y + dwAdd (at2 (a9.view.read (Elt Ideal) X9)) (at2 (a10.view.read (Elt Ideal) X10)) k.val (y 0).val (y 1).val)
        ((Rect.unit (s := S248x128) ![8 * j, 0] ![8, 128] inb').emb x) from by
      show _ = a13.view.read (Elt Ideal) f _ + dwAdd _ _ _ (8 * j + 1 * (x 0).val) (0 + 1 * (x 1).val)
      rw [show 8 * j + 1 * (x 0).val = 8 * j + (x 0).val by omega, show 0 + 1 * (x 1).val = (x 1).val by omega])
  unfold step13 trip_k0_t1
  dsimp only
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tp 30 (by decide) (by decide) (by decide) x
  · exact tp 29 (by decide) (by decide) (by decide) x
  · exact tp 28 (by decide) (by decide) (by decide) x
  · exact tp 27 (by decide) (by decide) (by decide) x
  · exact tp 26 (by decide) (by decide) (by decide) x
  · exact tp 25 (by decide) (by decide) (by decide) x
  · exact tp 24 (by decide) (by decide) (by decide) x
  · exact tp 23 (by decide) (by decide) (by decide) x
  · exact tp 22 (by decide) (by decide) (by decide) x
  · exact tp 21 (by decide) (by decide) (by decide) x
  · exact tp 20 (by decide) (by decide) (by decide) x
  · exact tp 19 (by decide) (by decide) (by decide) x
  · exact tp 18 (by decide) (by decide) (by decide) x
  · exact tp 17 (by decide) (by decide) (by decide) x
  · exact tp 16 (by decide) (by decide) (by decide) x
  · exact tp 15 (by decide) (by decide) (by decide) x
  · exact tp 14 (by decide) (by decide) (by decide) x
  · exact tp 13 (by decide) (by decide) (by decide) x
  · exact tp 12 (by decide) (by decide) (by decide) x
  · exact tp 11 (by decide) (by decide) (by decide) x
  · exact tp 10 (by decide) (by decide) (by decide) x
  · exact tp 9 (by decide) (by decide) (by decide) x
  · exact tp 8 (by decide) (by decide) (by decide) x
  · exact tp 7 (by decide) (by decide) (by decide) x
  · exact tp 6 (by decide) (by decide) (by decide) x
  · exact tp 5 (by decide) (by decide) (by decide) x
  · exact tp 4 (by decide) (by decide) (by decide) x
  · exact tp 3 (by decide) (by decide) (by decide) x
  · exact tp 2 (by decide) (by decide) (by decide) x
  · exact tp 1 (by decide) (by decide) (by decide) x
  · exact tp 0 (by decide) (by decide) (by decide) x

/-- They cover them. -/
theorem step13_cover (k : Fin k0_t1_loop.trips) (f : BufTy.Contents (Elt Ideal) a13.view.ty) (y : S248x128.Idx) :
    ∃ p ∈ step13 c i h2 h3 h4 h5 h6 h7 h8 h9 h10 h11 h12 h13 v28 X3 X4 X5 X9 X10 k f, y ∈ p.1.set :=
  View.cover_of_tiledBy _ ![8, 128] (by unfold step13 trip_k0_t1; sl_kernel_rfl) y

variable (f13 : BufTy.Contents (Elt Ideal) a13.view.ty)

/-- The running sums after `n` trips. -/
theorem sums_read (y : S248x128.Idx) : ∀ n : ℕ, n ≤ k0_t1_loop.trips →
    a13.view.read (Elt Ideal) (sums c i h2 h3 h4 h5 h6 h7 h8 h9 h10 h11 h12 h13 v28 X3 X4 X5 X9 X10 f13 n) y
      = a13.view.read (Elt Ideal) f13 y + sumTo n fun k => dwAdd (at2 (a9.view.read (Elt Ideal) X9)) (at2 (a10.view.read (Elt Ideal) X10)) k (y 0).val (y 1).val
  | 0, _ => by rw [sumTo, Finset.sum_range_zero, add_zero]; rfl
  | n + 1, h => by
    have hlt : n < k0_t1_loop.trips := by omega
    have e : sums c i h2 h3 h4 h5 h6 h7 h8 h9 h10 h11 h12 h13 v28 X3 X4 X5 X9 X10 f13 (n + 1) = a13.view.writes (Elt Ideal) (sums c i h2 h3 h4 h5 h6 h7 h8 h9 h10 h11 h12 h13 v28 X3 X4 X5 X9 X10 f13 n)
        (step13 c i h2 h3 h4 h5 h6 h7 h8 h9 h10 h11 h12 h13 v28 X3 X4 X5 X9 X10 ⟨n, hlt⟩ (sums c i h2 h3 h4 h5 h6 h7 h8 h9 h10 h11 h12 h13 v28 X3 X4 X5 X9 X10 f13 n)) := dif_pos hlt
    rw [e, View.read_writes_apply_eq_canon _ _ _ _ (step13_cover c i h2 h3 h4 h5 h6 h7 h8 h9 h10 h11 h12 h13 v28 X3 X4 X5 X9 X10 ⟨n, hlt⟩ _ y)]
    have hc := View.canon_append_of_piecesOf _ [] _ (step13_pieces c i h2 h3 h4 h5 h6 h7 h8 h9 h10 h11 h12 h13 v28 X3 X4 X5 X9 X10 ⟨n, hlt⟩ (sums c i h2 h3 h4 h5 h6 h7 h8 h9 h10 h11 h12 h13 v28 X3 X4 X5 X9 X10 f13 n)) y
      (step13_cover c i h2 h3 h4 h5 h6 h7 h8 h9 h10 h11 h12 h13 v28 X3 X4 X5 X9 X10 ⟨n, hlt⟩ _ y)
    rw [List.append_nil] at hc
    rw [hc, sums_read y n (by omega)]
    simp only [sumTo]
    rw [Finset.sum_range_succ, add_assoc]

/-- Row blocks of `G` at every trip's place. -/
theorem piecesOf_blocks (G : S1x2112x128.Idx → EReal) (f : Fin k0_t1_loop.trips → List (View.Piece (Elt Ideal) S1x2112x128 .bf16))
    (hf : ∀ k, View.PiecesOf G (f k)) : ∀ n : ℕ, ∀ p ∈ piecesOf f n, ∀ x : p.1.shape.Idx, p.2 x = G (p.1.emb x)
  | 0, p, hp, x => absurd hp List.not_mem_nil
  | n + 1, p, hp, x => by
    unfold piecesOf at hp
    rcases List.mem_append.mp hp with h | h
    · by_cases hn : n < k0_t1_loop.trips
      · rw [dif_pos hn] at h
        exact (hf _).mem p h x
      · rw [dif_neg hn] at h
        exact absurd h List.not_mem_nil
    · exact piecesOf_blocks G f hf n p h x

/-- The value's gradient at a row and a column. -/
def dvAt (W D G : ℕ → ℕ → EReal) (r l : ℕ) : EReal := dhRow W D r l * sgm (G r l)
/-- The gate's. -/
def dgAt (W D V G : ℕ → ℕ → EReal) (r l : ℕ) : EReal := dhRow W D r l * V r l * sgm (G r l) * (1 - sgm (G r l))

theorem emb_rows (k : Fin k0_t1_loop.trips) (b : Fin 1) (r : Fin 64) (l : Fin 128) :
    (((rows k).emb (ix3 b r l)) 1).val = 64 * k.val + r.val ∧ (((rows k).emb (ix3 b r l)) 2).val = l.val := by
  have e1 : k0_off2 k 1 = 64 * k.val := congrFun (off2_eq k) 1
  have e2 : k0_off2 k 2 = 0 := congrFun (off2_eq k) 2
  constructor
  · show k0_off2 k 1 + 1 * r.val = _; omega
  · show k0_off2 k 2 + 1 * l.val = _; omega

theorem step6_pieces (k : Fin k0_t1_loop.trips) :
    View.PiecesOf (fun y => dvAt (at2 (a5.view.read (Elt Ideal) X5)) (at2 (a10.view.read (Elt Ideal) X10)) (at3 (a4.view.read (Elt Ideal) X4) 0) (y 1).val (y 2).val)
      (step6 c i h2 h3 h4 h5 h6 h7 h8 h9 h10 h11 h12 h13 v28 X3 X4 X5 X9 X10 k) := by
  rw [step6_eq]
  refine ⟨fun x => ?_, trivial⟩
  obtain ⟨r, l, rfl⟩ : ∃ (r : Fin 64) (l : Fin 128), x = ix3 0 r l := ⟨x 1, x 2, funext fun a => match a with
    | ⟨0, _⟩ => Fin.ext (by have : (x 0).val < 1 := (x 0).isLt; show (x 0).val = 0; omega) | ⟨1, _⟩ => rfl | ⟨2, _⟩ => rfl⟩
  refine (dv_apply a4 a5 a10 a12 X4 X5 X10 k r l).trans ?_
  show _ = dvAt _ _ _ (((rows k).emb (ix3 0 r l)) 1).val (((rows k).emb (ix3 0 r l)) 2).val
  rw [(emb_rows k 0 r l).1, (emb_rows k 0 r l).2]
  rfl

theorem step7_pieces (k : Fin k0_t1_loop.trips) :
    View.PiecesOf (fun y => dgAt (at2 (a5.view.read (Elt Ideal) X5)) (at2 (a10.view.read (Elt Ideal) X10)) (at3 (a3.view.read (Elt Ideal) X3) 0) (at3 (a4.view.read (Elt Ideal) X4) 0) (y 1).val (y 2).val)
      (step7 c i h2 h3 h4 h5 h6 h7 h8 h9 h10 h11 h12 h13 v28 X3 X4 X5 X9 X10 k) := by
  rw [step7_eq]
  refine ⟨fun x => ?_, trivial⟩
  obtain ⟨r, l, rfl⟩ : ∃ (r : Fin 64) (l : Fin 128), x = ix3 0 r l := ⟨x 1, x 2, funext fun a => match a with
    | ⟨0, _⟩ => Fin.ext (by have : (x 0).val < 1 := (x 0).isLt; show (x 0).val = 0; omega) | ⟨1, _⟩ => rfl | ⟨2, _⟩ => rfl⟩
  refine (dg_apply a4 a5 a10 a12 X4 X5 X10 k a3 X3 r l _).trans ?_
  show _ = dgAt _ _ _ _ (((rows k).emb (ix3 0 r l)) 1).val (((rows k).emb (ix3 0 r l)) 2).val
  rw [(emb_rows k 0 r l).1, (emb_rows k 0 r l).2]
  rfl

end Body
end Cert.ConvBwd
end
-- ==== Proof.ConvOut.lean ====
/- What the body leaves in its three results at the extended reals, from the operands alone. -/
module

public import proofs.«01_k».proof.Proof.ConvSums
public import proofs.«01_k».proof.Proof.Plain

@[expose] public section

set_option maxRecDepth 16384

noncomputable section

namespace Cert.ConvBwd

open Cert.KernelIdeal Cert.KernelIdeal.Gen Cert.Plain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

section Body

variable (c : Dev nD) (i : grid0.Coords)
  {a2 : Memref sig .tc .vmem S1x2112x128 .f32} (h2 : a2.IsWhole)
  {a3 : Memref sig .tc .vmem S1x2112x128 .f32} (h3 : a3.IsWhole)
  {a4 : Memref sig .tc .vmem S1x2112x128 .f32} (h4 : a4.IsWhole)
  {a5 : Memref sig .tc .vmem S32x128 .f32} (h5 : a5.IsWhole)
  {a6 : Memref sig .tc .vmem S1x2112x128 .bf16} (h6 : a6.IsWhole)
  {a7 : Memref sig .tc .vmem S1x2112x128 .bf16} (h7 : a7.IsWhole)
  {a8 : Memref sig .tc .vmem S1x32x128 .f32} (h8 : a8.IsWhole)
  {a9 : Memref sig .tc .vmem S2144x128 .f32} (h9 : a9.IsWhole)
  {a10 : Memref sig .tc .vmem S2144x128 .f32} (h10 : a10.IsWhole)
  {a11 : Memref sig .tc .vmem S96x128 .f32} (h11 : a11.IsWhole)
  {a12 : Memref sig .tc .vmem S96x128 .f32} (h12 : a12.IsWhole)
  {a13 : Memref sig .tc .vmem S248x128 .f32} (h13 : a13.IsWhole)

/-- The sum of the eight rows kept for a tap. -/
def tapSum (S : ℕ → ℕ → EReal) (j l : ℕ) : EReal := if j < 31 then ∑ s : Fin 8, S (8 * j + s.val) l else 0

theorem pay71_apply (X13 : BufTy.Contents (Elt Ideal) a13.view.ty) (j : ℕ) (hj : j < 31)
    (inb : ∀ a, (![8 * j, 0] : Fin S248x128.rank → ℕ) a + (![8, 128] : Fin S248x128.rank → ℕ) a ≤ S248x128.size a)
    (inb' : ∀ a, (![0, j, 0] : Fin S1x32x128.rank → ℕ) a + (![1, 1, 128] : Fin S1x32x128.rank → ℕ) a ≤ S1x32x128.size a)
    (x : S1x1x128.Idx) :
    k0_pay71 (F := Ideal) (View.readAt (Elt Ideal) a13.view (Rect.unit (s := S248x128) ![8 * j, 0] ![8, 128] inb).toLoadRect X13) x
      = (fun y : S1x32x128.Idx => tapSum (at2 (a13.view.read (Elt Ideal) X13)) (y 1).val (y 2).val) ((Rect.unit (s := S1x32x128) ![0, j, 0] ![1, 1, 128] inb').emb x) := by
  obtain ⟨p, q, l, rfl⟩ : ∃ (p : Fin 1) (q : Fin 1) (l : Fin 128), x = ix3 p q l := ⟨x 0, x 1, x 2, funext fun a => match a with | ⟨0, _⟩ => rfl | ⟨1, _⟩ => rfl | ⟨2, _⟩ => rfl⟩
  show _ = tapSum _ (j + 1 * q.val) (0 + 1 * l.val)
  rw [show j + 1 * q.val = j by omega, show 0 + 1 * l.val = l.val by omega]
  unfold tapSum
  rw [if_pos hj]
  unfold_payloads
  pointwise
  refine Finset.sum_congr rfl fun s _ => ?_
  refine eq_at2 (a13.view.read (Elt Ideal) X13) ((Rect.unit (s := S248x128) ![8 * j, 0] ![8, 128] inb).idx (ix2 s l)) ?_ ?_
  · show 8 * j + 1 * s.val = _; omega
  · show 0 + 1 * l.val = _; omega

/-- The last row is none of the taps'. -/
theorem not_tap (j : ℕ) (hj : j < 31) (inb' : ∀ a, (![0, j, 0] : Fin S1x32x128.rank → ℕ) a + (![1, 1, 128] : Fin S1x32x128.rank → ℕ) a ≤ S1x32x128.size a)
    (y : S1x32x128.Idx) (hy : ¬ (y 1).val < 31) : y ∉ (Rect.unit (s := S1x32x128) ![0, j, 0] ![1, 1, 128] inb').set := fun h => by
  have h1 := (Rect.mem_set_unit (inb := inb')).mp h 1
  have h2 : j ≤ (y 1).val ∧ (y 1).val < j + 1 := h1
  omega

theorem in_tap (j : ℕ) (inb' : ∀ a, (![0, j, 0] : Fin S1x32x128.rank → ℕ) a + (![1, 1, 128] : Fin S1x32x128.rank → ℕ) a ≤ S1x32x128.size a)
    (y : S1x32x128.Idx) (hy : (y 1).val = j) : y ∈ (Rect.unit (s := S1x32x128) ![0, j, 0] ![1, 1, 128] inb').set := by
  have h0 : (y 0).val < 1 := (y 0).isLt
  have h2 : (y 2).val < 128 := (y 2).isLt
  refine (Rect.mem_set_unit (inb := inb')).mpr fun a => ?_
  fin_cases a
  · show 0 ≤ (y 0).val ∧ (y 0).val < 0 + 1; omega
  · show j ≤ (y 1).val ∧ (y 1).val < j + 1; omega
  · show 0 ≤ (y 2).val ∧ (y 2).val < 0 + 128; omega

/-- Pieces an index is in none of are passed over. -/
theorem canon_append_of_forall (y : S1x32x128.Idx) (L' : List (View.Piece (Elt Ideal) S1x32x128 .f32)) :
    ∀ L : List (View.Piece (Elt Ideal) S1x32x128 .f32), L.Forall (fun p => y ∉ p.1.set) → View.canon (L ++ L') y = View.canon L' y
  | [], _ => rfl
  | p :: L, h => by
    rw [List.forall_cons] at h
    exact (View.canon_cons_of_not_mem p (L ++ L') h.1).trans (canon_append_of_forall y L' L h.2)

variable (X13 : BufTy.Contents (Elt Ideal) a13.view.ty)

set_option maxHeartbeats 4000000 in
/-- The stores after the loop: 31 rows over a fill with zeros. -/
theorem tail_list : ∃ (L : List (View.Piece (Elt Ideal) S1x32x128 .f32)) (z : View.Piece (Elt Ideal) S1x32x128 .f32),
    (tailRun (F := Ideal) c i h2 h3 h4 h5 h6 h7 h8 h9 h10 h11 h12 h13 X13).1 = L ++ [z]
      ∧ View.PiecesOf (fun y => tapSum (at2 (a13.view.read (Elt Ideal) X13)) (y 1).val (y 2).val) L
      ∧ (∀ y : S1x32x128.Idx, (y 1).val < 31 → ∃ p ∈ L, y ∈ p.1.set)
      ∧ (∀ y : S1x32x128.Idx, ¬ (y 1).val < 31 → L.Forall fun p => y ∉ p.1.set)
      ∧ (∀ x, z.2 x = 0) ∧ (∀ y, y ∈ z.1.set) := by
  unfold tailRun
  dsimp only
  simp only [tailRun.sl.H8_8]
  refine ⟨[_, _, _, _, _, _, _, _, _, _, _, _, _, _, _, _, _, _, _, _, _, _, _, _, _, _, _, _, _, _, _], _, rfl, ?_, ?_, ?_, ?_, ?_⟩
  · refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
    · exact pay71_apply X13 30 (by decide) (by decide) (by decide) x
    · exact pay71_apply X13 29 (by decide) (by decide) (by decide) x
    · exact pay71_apply X13 28 (by decide) (by decide) (by decide) x
    · exact pay71_apply X13 27 (by decide) (by decide) (by decide) x
    · exact pay71_apply X13 26 (by decide) (by decide) (by decide) x
    · exact pay71_apply X13 25 (by decide) (by decide) (by decide) x
    · exact pay71_apply X13 24 (by decide) (by decide) (by decide) x
    · exact pay71_apply X13 23 (by decide) (by decide) (by decide) x
    · exact pay71_apply X13 22 (by decide) (by decide) (by decide) x
    · exact pay71_apply X13 21 (by decide) (by decide) (by decide) x
    · exact pay71_apply X13 20 (by decide) (by decide) (by decide) x
    · exact pay71_apply X13 19 (by decide) (by decide) (by decide) x
    · exact pay71_apply X13 18 (by decide) (by decide) (by decide) x
    · exact pay71_apply X13 17 (by decide) (by decide) (by decide) x
    · exact pay71_apply X13 16 (by decide) (by decide) (by decide) x
    · exact pay71_apply X13 15 (by decide) (by decide) (by decide) x
    · exact pay71_apply X13 14 (by decide) (by decide) (by decide) x
    · exact pay71_apply X13 13 (by decide) (by decide) (by decide) x
    · exact pay71_apply X13 12 (by decide) (by decide) (by decide) x
    · exact pay71_apply X13 11 (by decide) (by decide) (by decide) x
    · exact pay71_apply X13 10 (by decide) (by decide) (by decide) x
    · exact pay71_apply X13 9 (by decide) (by decide) (by decide) x
    · exact pay71_apply X13 8 (by decide) (by decide) (by decide) x
    · exact pay71_apply X13 7 (by decide) (by decide) (by decide) x
    · exact pay71_apply X13 6 (by decide) (by decide) (by decide) x
    · exact pay71_apply X13 5 (by decide) (by decide) (by decide) x
    · exact pay71_apply X13 4 (by decide) (by decide) (by decide) x
    · exact pay71_apply X13 3 (by decide) (by decide) (by decide) x
    · exact pay71_apply X13 2 (by decide) (by decide) (by decide) x
    · exact pay71_apply X13 1 (by decide) (by decide) (by decide) x
    · exact pay71_apply X13 0 (by decide) (by decide) (by decide) x
  · intro y hy
    generalize hj : (y 1).val = j at hy
    interval_cases j
    · exact ⟨_, List.mem_of_getElem? (i := 30) rfl, in_tap 0 (by decide) y hj⟩
    · exact ⟨_, List.mem_of_getElem? (i := 29) rfl, in_tap 1 (by decide) y hj⟩
    · exact ⟨_, List.mem_of_getElem? (i := 28) rfl, in_tap 2 (by decide) y hj⟩
    · exact ⟨_, List.mem_of_getElem? (i := 27) rfl, in_tap 3 (by decide) y hj⟩
    · exact ⟨_, List.mem_of_getElem? (i := 26) rfl, in_tap 4 (by decide) y hj⟩
    · exact ⟨_, List.mem_of_getElem? (i := 25) rfl, in_tap 5 (by decide) y hj⟩
    · exact ⟨_, List.mem_of_getElem? (i := 24) rfl, in_tap 6 (by decide) y hj⟩
    · exact ⟨_, List.mem_of_getElem? (i := 23) rfl, in_tap 7 (by decide) y hj⟩
    · exact ⟨_, List.mem_of_getElem? (i := 22) rfl, in_tap 8 (by decide) y hj⟩
    · exact ⟨_, List.mem_of_getElem? (i := 21) rfl, in_tap 9 (by decide) y hj⟩
    · exact ⟨_, List.mem_of_getElem? (i := 20) rfl, in_tap 10 (by decide) y hj⟩
    · exact ⟨_, List.mem_of_getElem? (i := 19) rfl, in_tap 11 (by decide) y hj⟩
    · exact ⟨_, List.mem_of_getElem? (i := 18) rfl, in_tap 12 (by decide) y hj⟩
    · exact ⟨_, List.mem_of_getElem? (i := 17) rfl, in_tap 13 (by decide) y hj⟩
    · exact ⟨_, List.mem_of_getElem? (i := 16) rfl, in_tap 14 (by decide) y hj⟩
    · exact ⟨_, List.mem_of_getElem? (i := 15) rfl, in_tap 15 (by decide) y hj⟩
    · exact ⟨_, List.mem_of_getElem? (i := 14) rfl, in_tap 16 (by decide) y hj⟩
    · exact ⟨_, List.mem_of_getElem? (i := 13) rfl, in_tap 17 (by decide) y hj⟩
    · exact ⟨_, List.mem_of_getElem? (i := 12) rfl, in_tap 18 (by decide) y hj⟩
    · exact ⟨_, List.mem_of_getElem? (i := 11) rfl, in_tap 19 (by decide) y hj⟩
    · exact ⟨_, List.mem_of_getElem? (i := 10) rfl, in_tap 20 (by decide) y hj⟩
    · exact ⟨_, List.mem_of_getElem? (i := 9) rfl, in_tap 21 (by decide) y hj⟩
    · exact ⟨_, List.mem_of_getElem? (i := 8) rfl, in_tap 22 (by decide) y hj⟩
    · exact ⟨_, List.mem_of_getElem? (i := 7) rfl, in_tap 23 (by decide) y hj⟩
    · exact ⟨_, List.mem_of_getElem? (i := 6) rfl, in_tap 24 (by decide) y hj⟩
    · exact ⟨_, List.mem_of_getElem? (i := 5) rfl, in_tap 25 (by decide) y hj⟩
    · exact ⟨_, List.mem_of_getElem? (i := 4) rfl, in_tap 26 (by decide) y hj⟩
    · exact ⟨_, List.mem_of_getElem? (i := 3) rfl, in_tap 27 (by decide) y hj⟩
    · exact ⟨_, List.mem_of_getElem? (i := 2) rfl, in_tap 28 (by decide) y hj⟩
    · exact ⟨_, List.mem_of_getElem? (i := 1) rfl, in_tap 29 (by decide) y hj⟩
    · exact ⟨_, List.mem_of_getElem? (i := 0) rfl, in_tap 30 (by decide) y hj⟩
  · intro y hy
    simp only [List.forall_cons]
    refine ⟨not_tap 30 (by decide) (by decide) y hy, not_tap 29 (by decide) (by decide) y hy, not_tap 28 (by decide) (by decide) y hy, not_tap 27 (by decide) (by decide) y hy, not_tap 26 (by decide) (by decide) y hy, not_tap 25 (by decide) (by decide) y hy, not_tap 24 (by decide) (by decide) y hy, not_tap 23 (by decide) (by decide) y hy, not_tap 22 (by decide) (by decide) y hy, not_tap 21 (by decide) (by decide) y hy, not_tap 20 (by decide) (by decide) y hy, not_tap 19 (by decide) (by decide) y hy, not_tap 18 (by decide) (by decide) y hy, not_tap 17 (by decide) (by decide) y hy, not_tap 16 (by decide) (by decide) y hy, not_tap 15 (by decide) (by decide) y hy, not_tap 14 (by decide) (by decide) y hy, not_tap 13 (by decide) (by decide) y hy, not_tap 12 (by decide) (by decide) y hy, not_tap 11 (by decide) (by decide) y hy, not_tap 10 (by decide) (by decide) y hy, not_tap 9 (by decide) (by decide) y hy, not_tap 8 (by decide) (by decide) y hy, not_tap 7 (by decide) (by decide) y hy, not_tap 6 (by decide) (by decide) y hy, not_tap 5 (by decide) (by decide) y hy, not_tap 4 (by decide) (by decide) y hy, not_tap 3 (by decide) (by decide) y hy, not_tap 2 (by decide) (by decide) y hy, not_tap 1 (by decide) (by decide) y hy, not_tap 0 (by decide) (by decide) y hy, trivial⟩
  · intro x
    unfold_payloads
    dsimp only
    pointwise
  · intro y
    refine (Rect.mem_set_unit (inb := inb_S1x32x128_S1x32x128_0_0_0)).mpr fun a => ?_
    have h0 := (y a).isLt
    fin_cases a
    · exact ⟨Nat.zero_le _, by show _ < 0 + _; rw [Nat.zero_add]; exact h0⟩
    · exact ⟨Nat.zero_le _, by show _ < 0 + _; rw [Nat.zero_add]; exact h0⟩
    · exact ⟨Nat.zero_le _, by show _ < 0 + _; rw [Nat.zero_add]; exact h0⟩

/-- What the body leaves in the taps' gradient. -/
theorem tail_canon (y : S1x32x128.Idx) : View.canon (tailRun (F := Ideal) c i h2 h3 h4 h5 h6 h7 h8 h9 h10 h11 h12 h13 X13).1 y = tapSum (at2 (a13.view.read (Elt Ideal) X13)) (y 1).val (y 2).val := by
  obtain ⟨L, z, e, hp, hin, hout, hz, hzc⟩ := tail_list c i h2 h3 h4 h5 h6 h7 h8 h9 h10 h11 h12 h13 X13
  rw [e]
  by_cases hy : (y 1).val < 31
  · exact View.canon_append_of_piecesOf _ [z] L hp y (hin y hy)
  · rw [canon_append_of_forall y [z] L (hout y hy)]
    have h := View.canon_append_of_piecesOf (fun _ => (0 : EReal)) [] [z] ⟨hz, trivial⟩ y ⟨z, List.mem_singleton.mpr rfl, hzc y⟩
    refine Eq.trans h ?_
    unfold tapSum
    rw [if_neg hy]

theorem canon_rows (G : S1x2112x128.Idx → EReal) (f : Fin k0_t1_loop.trips → List (View.Piece (Elt Ideal) S1x2112x128 .bf16))
    (hf : ∀ k, View.PiecesOf G (f k)) (n : ℕ) (y : S1x2112x128.Idx) (hc : ∃ p ∈ piecesOf f n, y ∈ p.1.set) : View.canon (piecesOf f n) y = G y := by
  have h := View.canon_append_of_pieces G [] _ (piecesOf_blocks G f hf n) y hc
  rwa [List.append_nil] at h

variable (dh cv cg : Vec Ideal S1x2112x128 .f32) (w : Vec Ideal S32x128 .f32)

theorem lv_canon (y : S1x2112x128.Idx) (hc : ∃ p ∈ lv c i h2 h3 h4 h5 h6 h7 h8 h9 h10 h11 h12 h13 dh cv cg w, y ∈ p.1.set) :
    View.canon (lv c i h2 h3 h4 h5 h6 h7 h8 h9 h10 h11 h12 h13 dh cv cg w) y = dvAt (at2 w) (grad (at3 dh 0)) (at3 cg 0) (y 1).val (y 2).val := by
  unfold lv at hc ⊢
  rw [canon_rows _ _ (step6_pieces c i h2 h3 h4 h5 h6 h7 h8 h9 h10 h11 h12 h13 (k0_pay65 (F := Ideal)) (h3.unread cv) (h4.unread cg) (h5.unread w) (x9 c i h2 h3 h4 h5 h6 h7 h8 h9 h10 h11 h12 h13 dh cv cg) (x10 c i h2 h3 h4 h5 h6 h7 h8 h9 h10 h11 h12 h13 dh cv cg)) _ y hc, h4.read_unread, h5.read_unread, funext₂ (x10_read c i h2 h3 h4 h5 h6 h7 h8 h9 h10 h11 h12 h13 dh cv cg)]

theorem lg_canon (y : S1x2112x128.Idx) (hc : ∃ p ∈ lg c i h2 h3 h4 h5 h6 h7 h8 h9 h10 h11 h12 h13 dh cv cg w, y ∈ p.1.set) :
    View.canon (lg c i h2 h3 h4 h5 h6 h7 h8 h9 h10 h11 h12 h13 dh cv cg w) y = dgAt (at2 w) (grad (at3 dh 0)) (at3 cv 0) (at3 cg 0) (y 1).val (y 2).val := by
  unfold lg at hc ⊢
  rw [canon_rows _ _ (step7_pieces c i h2 h3 h4 h5 h6 h7 h8 h9 h10 h11 h12 h13 (k0_pay65 (F := Ideal)) (h3.unread cv) (h4.unread cg) (h5.unread w) (x9 c i h2 h3 h4 h5 h6 h7 h8 h9 h10 h11 h12 h13 dh cv cg) (x10 c i h2 h3 h4 h5 h6 h7 h8 h9 h10 h11 h12 h13 dh cv cg)) _ y hc, h3.read_unread, h4.read_unread, h5.read_unread, funext₂ (x10_read c i h2 h3 h4 h5 h6 h7 h8 h9 h10 h11 h12 h13 dh cv cg)]

/-- The taps' gradient at a tap and a channel: eight sums, each over the trips and the eight rows of a trip that it keeps. -/
def dwAt (H D : ℕ → ℕ → EReal) (j l : ℕ) : EReal := tapSum (fun r l => sumTo 33 fun k => dwAdd H D k r l) j l

theorem lw_canon (y : S1x32x128.Idx) :
    View.canon (lw c i h2 h3 h4 h5 h6 h7 h8 h9 h10 h11 h12 h13 dh cv cg w) y = dwAt (gated (at3 cv 0) (at3 cg 0)) (grad (at3 dh 0)) (y 1).val (y 2).val := by
  unfold lw
  rw [tail_canon]
  unfold dwAt tapSum
  by_cases hy : (y 1).val < 31
  · rw [if_pos hy, if_pos hy]
    refine Finset.sum_congr rfl fun s _ => ?_
    have hl : (y 2).val < 128 := (y 2).isLt
    rw [at2_mk _ (show 8 * (y 1).val + s.val < 248 by omega) hl]
    unfold y13
    rw [sums_read _ _ _ _ _ _ _ _ _ _ _ _ _ _ _ _ _ _ _ _ _ _ _ le_rfl, x13_read, zero_add, trips_eq, funext₂ (x9_read c i h2 h3 h4 h5 h6 h7 h8 h9 h10 h11 h12 h13 dh cv cg), funext₂ (x10_read c i h2 h3 h4 h5 h6 h7 h8 h9 h10 h11 h12 h13 dh cv cg)]
    rfl
  · rw [if_neg hy, if_neg hy]

end Body
end Cert.ConvBwd
end
-- ==== Proof.ConvArr.lean ====
/- The convolution's gradient kernel: its three results as functions of its three arguments. -/
module

public import proofs.«01_k».proof.Proof.ConvOut
public import proofs.«01_k».proof.Proof.Plain
public import Idealize.ShloMosaic.Lib.Pipeline.ValueKit

@[expose] public section

set_option maxRecDepth 16384

noncomputable section

namespace Cert.ConvBwd

open Cert.KernelIdeal Cert.KernelIdeal.Gen Cert.Plain
open Idealize.ShloMosaic Idealize.ShloMosaic.TcCoe Idealize.ShloMosaic.Tactic

variable (m : (ℓ : Loc nD τ sig) → Buf (Elt Ideal) ℓ)

/-- The projection, the taps and the result's gradient, at plain numbers. -/
abbrev pU (c : Dev nD) : ℕ → ℕ → ℕ → EReal := at3 (p := 2) (n := 2064) (m := 2576) (m ((c : Thread nD τ).loc main_arg0))
abbrev pT (c : Dev nD) : ℕ → ℕ → EReal := at2 (n := 31) (m := 512) (m ((c : Thread nD τ).loc main_arg1))
abbrev pC (c : Dev nD) : ℕ → ℕ → ℕ → EReal := at3 (p := 2) (n := 2064) (m := 512) (m ((c : Thread nD τ).loc main_arg2))

/-- Forty-eight zero rows first. -/
def dn (X : ℕ → ℕ → ℕ → EReal) (b r l : ℕ) : EReal := if 48 ≤ r then X b (r - 48) l else 0

theorem V_u (c : Dev nD) (b r l : ℕ) : at3 (p := 2) (n := 2112) (m := 2688) (V m c main_v0) b r l = dn (pU m c) b r l := by
  have e : (V m c main_v0 : S2x2112x2688.Idx → EReal) = pad S2x2112x2688 ![0, 48, 0] ![0, 0, 112] ![0, 0, 0]
      (m ((c : Thread nD τ).loc main_arg0)) (sitofp (F := Ideal) .f32 (constantI S_ 32 0#32)) pads_S2x2064x2576_S2x2112x2688_000_4800_01120 h_S_ := by
    unfold V
    simp only [hostOps0, hostOps0_1, hostOps0_2, hostOps0_3, hostOps0_4, hostOps0_5, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body, fn_pad_1.body]
    after_results
  rw [e]; exact at3_down' _ _ _ _ (by decide) (by decide) (sitofp_zero .f32) b r l

theorem V_t (c : Dev nD) (r l : ℕ) : at2 (n := 32) (m := 512) (V m c main_v1) r l = pT m c r l := by
  have e : (V m c main_v1 : S32x512.Idx → EReal) = pad S32x512 ![0, 0] ![1, 0] ![0, 0]
      (m ((c : Thread nD τ).loc main_arg1)) (sitofp (F := Ideal) .f32 (constantI S_ 32 0#32)) pads_S31x512_S32x512_010_000 h_S_ := by
    unfold V
    simp only [hostOps0, hostOps0_1, hostOps0_2, hostOps0_3, hostOps0_4, hostOps0_5, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body, fn_pad_1.body]
    after_results
  rw [e]; exact at2_pad _ _ _ _ (by decide) (by decide) (sitofp_zero .f32) r l

theorem V_c (c : Dev nD) (b r l : ℕ) : at3 (p := 2) (n := 2112) (m := 512) (V m c main_v2) b r l = dn (pC m c) b r l := by
  have e : (V m c main_v2 : S2x2112x512.Idx → EReal) = pad S2x2112x512 ![0, 48, 0] ![0, 0, 0] ![0, 0, 0]
      (m ((c : Thread nD τ).loc main_arg2)) (sitofp (F := Ideal) .f32 (constantI S_ 32 0#32)) pads_S2x2064x512_S2x2112x512_000_4800_000 h_S_ := by
    unfold V
    simp only [hostOps0, hostOps0_1, hostOps0_2, hostOps0_3, hostOps0_4, hostOps0_5, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body, fn_pad_1.body]
    after_results
  rw [e]; exact at3_down' _ _ _ _ (by decide) (by decide) (sitofp_zero .f32) b r l

theorem idx : ∀ t : Fin cfg0.N, (win0_0.index t 0 = t.val / 4 ∧ win0_0.index t 1 = 0 ∧ win0_0.index t 2 = t.val % 4)
    ∧ (win0_1.index t 0 = t.val / 4 ∧ win0_1.index t 1 = 0 ∧ win0_1.index t 2 = t.val % 4)
    ∧ (win0_2.index t 0 = t.val / 4 ∧ win0_2.index t 1 = 0 ∧ win0_2.index t 2 = 4 + t.val % 4)
    ∧ (win0_3.index t 0 = 0 ∧ win0_3.index t 1 = t.val % 4)
    ∧ (win0_4.index t 0 = t.val / 4 ∧ win0_4.index t 1 = 0 ∧ win0_4.index t 2 = t.val % 4)
    ∧ (win0_5.index t 0 = t.val / 4 ∧ win0_5.index t 1 = 0 ∧ win0_5.index t 2 = t.val % 4)
    ∧ (win0_6.index t 0 = t.val / 4 ∧ win0_6.index t 1 = 0 ∧ win0_6.index t 2 = t.val % 4) :=
  (by decide +kernel : ∀ t : Fin grid0.N, _)

theorem blk_c (c : Dev nD) (t : Fin cfg0.N) (r l : ℕ) (hl : l < 128) :
    at3 (p := 1) (n := 2112) (m := 128) (iblk m c 0 t) 0 r l = dn (pC m c) (t.val / 4) r (t.val % 4 * 128 + l) := by
  have hN : cfg0.N = 8 := N_0
  have ht := t.isLt
  rw [← V_c]
  by_cases hr : r < 2112
  · rw [at3_mk _ (by decide) hr hl]
    unfold iblk
    exact eq_at3 (p := 2) (n := 2112) (m := 512) (V m c main_v2) _ (by blk_simp [idx t] <;> first | omega | (dsimp only; omega)) (by blk_simp [idx t] <;> first | omega | (dsimp only; omega)) (by blk_simp [idx t] <;> first | omega | (dsimp only; omega))
  · rw [at3_out _ fun hh => hr hh.2.1, at3_out _ fun hh => hr hh.2.1]

theorem blk_u (c : Dev nD) (t : Fin cfg0.N) (r l : ℕ) (hl : l < 128) :
    at3 (p := 1) (n := 2112) (m := 128) (iblk m c 1 t) 0 r l = dn (pU m c) (t.val / 4) r (t.val % 4 * 128 + l) := by
  have hN : cfg0.N = 8 := N_0
  have ht := t.isLt
  rw [← V_u]
  by_cases hr : r < 2112
  · rw [at3_mk _ (by decide) hr hl]
    unfold iblk
    exact eq_at3 (p := 2) (n := 2112) (m := 2688) (V m c main_v0) _ (by blk_simp [idx t] <;> first | omega | (dsimp only; omega)) (by blk_simp [idx t] <;> first | omega | (dsimp only; omega)) (by blk_simp [idx t] <;> first | omega | (dsimp only; omega))
  · rw [at3_out _ fun hh => hr hh.2.1, at3_out _ fun hh => hr hh.2.1]

theorem blk_g (c : Dev nD) (t : Fin cfg0.N) (r l : ℕ) (hl : l < 128) :
    at3 (p := 1) (n := 2112) (m := 128) (iblk m c 2 t) 0 r l = dn (pU m c) (t.val / 4) r (512 + (t.val % 4 * 128 + l)) := by
  have hN : cfg0.N = 8 := N_0
  have ht := t.isLt
  rw [← V_u]
  by_cases hr : r < 2112
  · rw [at3_mk _ (by decide) hr hl]
    unfold iblk
    exact eq_at3 (p := 2) (n := 2112) (m := 2688) (V m c main_v0) _ (by blk_simp [idx t] <;> first | omega | (dsimp only; omega)) (by blk_simp [idx t] <;> first | omega | (dsimp only; omega)) (by blk_simp [idx t] <;> first | omega | (dsimp only; omega))
  · rw [at3_out _ fun hh => hr hh.2.1, at3_out _ fun hh => hr hh.2.1]

theorem blk_t (c : Dev nD) (t : Fin cfg0.N) (r l : ℕ) (hl : l < 128) :
    at2 (n := 32) (m := 128) (iblk m c 3 t) r l = pT m c r (t.val % 4 * 128 + l) := by
  rw [← V_t]
  by_cases hr : r < 32
  · rw [at2_mk _ hr hl]
    unfold iblk
    exact eq_at2 (n := 32) (m := 512) (V m c main_v1) _ (by blk_simp [idx t] <;> first | omega | (dsimp only; omega)) (by blk_simp [idx t] <;> first | omega | (dsimp only; omega))
  · rw [at2_out _ fun hh => hr hh.1, at2_out _ fun hh => hr hh.1]

/-! The results at a column depend on the operands at that column. -/
theorem dhRow_col {W W' D D' : ℕ → ℕ → EReal} {l l' : ℕ} (r : ℕ) (hW : ∀ j, W j l = W' j l') (hD : ∀ p, D p l = D' p l') :
    dhRow W D r l = dhRow W' D' r l' := by
  unfold dhRow
  simp only [hW, hD]
theorem grad_col {D D' : ℕ → ℕ → EReal} {l l' : ℕ} (hD : ∀ p, D p l = D' p l') (p : ℕ) : grad D p l = grad D' p l' := by
  unfold grad
  simp only [hD]
theorem gated_col {D D' G G' : ℕ → ℕ → EReal} {l l' : ℕ} (hD : ∀ p, D p l = D' p l') (hG : ∀ p, G p l = G' p l') (p : ℕ) :
    gated D G p l = gated D' G' p l' := by
  unfold gated
  simp only [hD, hG]
theorem dvAt_col {W W' D D' G G' : ℕ → ℕ → EReal} {l l' : ℕ} (r : ℕ) (hW : ∀ j, W j l = W' j l') (hD : ∀ p, D p l = D' p l') (hG : ∀ p, G p l = G' p l') :
    dvAt W D G r l = dvAt W' D' G' r l' := by
  unfold dvAt
  rw [dhRow_col r hW hD, hG]
theorem dgAt_col {W W' D D' U U' G G' : ℕ → ℕ → EReal} {l l' : ℕ} (r : ℕ) (hW : ∀ j, W j l = W' j l') (hD : ∀ p, D p l = D' p l')
    (hU : ∀ p, U p l = U' p l') (hG : ∀ p, G p l = G' p l') : dgAt W D U G r l = dgAt W' D' U' G' r l' := by
  unfold dgAt
  rw [dhRow_col r hW hD, hG, hU]
theorem dwAt_col {H H' D D' : ℕ → ℕ → EReal} {l l' : ℕ} (j : ℕ) (hH : ∀ p, H p l = H' p l') (hD : ∀ p, D p l = D' p l') :
    dwAt H D j l = dwAt H' D' j l' := by
  unfold dwAt tapSum dwAdd
  simp only [hH, hD]

/-- The three results at plain numbers. -/
def gv (c : Dev nD) (b r l : ℕ) : EReal := dvAt (pT m c) (grad (dn (pC m c) b)) (fun r l => dn (pU m c) b r (512 + l)) r l
def gg (c : Dev nD) (b r l : ℕ) : EReal := dgAt (pT m c) (grad (dn (pC m c) b)) (dn (pU m c) b) (fun r l => dn (pU m c) b r (512 + l)) r l
def gw (c : Dev nD) (b r l : ℕ) : EReal := dwAt (gated (dn (pU m c) b) (fun r l => dn (pU m c) b r (512 + l))) (grad (dn (pC m c) b)) r l
def GV (c : Dev nD) : S2x2112x512.Idx → EReal := fun i => gv m c (i 0).val (i 1).val (i 2).val
def GG (c : Dev nD) : S2x2112x512.Idx → EReal := fun i => gg m c (i 0).val (i 1).val (i 2).val
def GW (c : Dev nD) : S2x32x512.Idx → EReal := fun i => gw m c (i 0).val (i 1).val (i 2).val

theorem v_at (c : Dev nD) (t : Fin cfg0.N) (y : S1x2112x128.Idx) :
    outV (lvAt m c t) y = gv m c (t.val / 4) (y 1).val (t.val % 4 * 128 + (y 2).val) := by
  have hl : (y 2).val < 128 := (y 2).isLt
  unfold outV
  rw [View.read_writes_apply_eq_canon _ _ y _ (cover_v m c t y)]
  have hc := cover_v m c t y
  unfold lvAt at hc ⊢
  rw [lv_canon _ _ _ _ _ _ _ _ _ _ _ _ _ _ _ _ _ _ y hc]
  unfold gv
  exact dvAt_col _ (fun j => blk_t m c t j _ hl) (grad_col fun p => blk_c m c t p _ hl) (fun p => blk_g m c t p _ hl)

theorem arr_v (c : Dev nD) : (dats m 0 c).arrAt 4 cfg0.N = GV m c := by
  refine (dats m 0 c).arrAt_eq_of_covers 4 _ (by decide +kernel) fun t hf y => ?_
  blk_simp
  rw [after_4]
  refine (v_at m c t _).trans ?_
  have hN : cfg0.N = 8 := N_0
  have ht := t.isLt
  have y0 : (y 0).val < 1 := (y 0).isLt
  have y1 : (y 1).val < 2112 := (y 1).isLt
  have y2 : (y 2).val < 128 := (y 2).isLt
  have e : (GV m c (((cfg0.win 4).blk t).view.emb y) : EReal) = gv m c (t.val / 4 * 1 + (y 0).val) (y 1).val (t.val % 4 * 128 + (y 2).val) := by
    unfold GV
    blk_simp [idx t]
  refine Eq.trans ?_ e.symm
  have e0 : t.val / 4 * 1 + (y 0).val = t.val / 4 := by omega
  rw [e0]

theorem g_at (c : Dev nD) (t : Fin cfg0.N) (y : S1x2112x128.Idx) :
    outV (lgAt m c t) y = gg m c (t.val / 4) (y 1).val (t.val % 4 * 128 + (y 2).val) := by
  have hl : (y 2).val < 128 := (y 2).isLt
  unfold outV
  rw [View.read_writes_apply_eq_canon _ _ y _ (cover_g m c t y)]
  have hc := cover_g m c t y
  unfold lgAt at hc ⊢
  rw [lg_canon _ _ _ _ _ _ _ _ _ _ _ _ _ _ _ _ _ _ y hc]
  unfold gg
  exact dgAt_col _ (fun j => blk_t m c t j _ hl) (grad_col fun p => blk_c m c t p _ hl) (fun p => blk_u m c t p _ hl) (fun p => blk_g m c t p _ hl)

theorem arr_g (c : Dev nD) : (dats m 0 c).arrAt 5 cfg0.N = GG m c := by
  refine (dats m 0 c).arrAt_eq_of_covers 5 _ (by decide +kernel) fun t hf y => ?_
  blk_simp
  rw [after_5]
  refine (g_at m c t _).trans ?_
  have hN : cfg0.N = 8 := N_0
  have ht := t.isLt
  have y0 : (y 0).val < 1 := (y 0).isLt
  have y1 : (y 1).val < 2112 := (y 1).isLt
  have y2 : (y 2).val < 128 := (y 2).isLt
  have e : (GG m c (((cfg0.win 5).blk t).view.emb y) : EReal) = gg m c (t.val / 4 * 1 + (y 0).val) (y 1).val (t.val % 4 * 128 + (y 2).val) := by
    unfold GG
    blk_simp [idx t]
  refine Eq.trans ?_ e.symm
  have e0 : t.val / 4 * 1 + (y 0).val = t.val / 4 := by omega
  rw [e0]

theorem w_at (c : Dev nD) (t : Fin cfg0.N) (y : S1x32x128.Idx) :
    outW (lwAt m c t) y = gw m c (t.val / 4) (y 1).val (t.val % 4 * 128 + (y 2).val) := by
  have hl : (y 2).val < 128 := (y 2).isLt
  unfold outW
  rw [View.read_writes_apply_eq_canon _ _ y _ (cover_w m c t y)]
  have hc := cover_w m c t y
  unfold lwAt at hc ⊢
  rw [lw_canon]
  unfold gw
  exact dwAt_col _ (gated_col (fun p => blk_u m c t p _ hl) (fun p => blk_g m c t p _ hl)) (grad_col fun p => blk_c m c t p _ hl)

theorem arr_w (c : Dev nD) : (dats m 0 c).arrAt 6 cfg0.N = GW m c := by
  refine (dats m 0 c).arrAt_eq_of_covers 6 _ (by decide +kernel) fun t hf y => ?_
  blk_simp
  rw [after_6]
  refine (w_at m c t _).trans ?_
  have hN : cfg0.N = 8 := N_0
  have ht := t.isLt
  have y0 : (y 0).val < 1 := (y 0).isLt
  have y1 : (y 1).val < 32 := (y 1).isLt
  have y2 : (y 2).val < 128 := (y 2).isLt
  have e : (GW m c (((cfg0.win 6).blk t).view.emb y) : EReal) = gw m c (t.val / 4 * 1 + (y 0).val) (y 1).val (t.val % 4 * 128 + (y 2).val) := by
    unfold GW
    blk_simp [idx t]
  refine Eq.trans ?_ e.symm
  have e0 : t.val / 4 * 1 + (y 0).val = t.val / 4 := by omega
  rw [e0]

theorem run_values (ρ : Dev nD → PrngReg) : θ_run defs (onTc (τ := τ) (main (F := Ideal))) ⟨m, fun _ => 0, ρ⟩ fun r => ∀ c : Dev nD,
    r.2.mem ((c.tc : Thread nD τ).loc main_v3_0) = GV m c
      ∧ r.2.mem ((c.tc : Thread nD τ).loc main_v3_1) = GG m c
      ∧ r.2.mem ((c.tc : Thread nD τ).loc main_v3_2) = GW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1.1 c).1 4).trans (arr_v m c), ((h.1.1 c).1 5).trans (arr_g m c), ((h.1.1 c).1 6).trans (arr_w m c), h.2.1 c⟩)
    (θ_run_and (launch m ρ) (unchanged m ρ))

end Cert.ConvBwd

end
-- ==== Proof.ConvRef.lean ====
/- The convolution's gradient as the reference computes it, read at plain numbers. -/
module

public import proofs.«01_k».proof.Proof.Gen.ReferenceIdeal.Read
public import proofs.«01_k».proof.Proof.Plain
public import Idealize.ShloMosaic.Lib.IdealHost
public import Idealize.ShloMosaic.Lib.Pipeline.ValueKit

@[expose] public section

set_option maxRecDepth 16384

noncomputable section

namespace Cert.ConvRef

open Cert.Plain Cert.ReferenceIdeal Cert.ReferenceIdeal.Gen Cert.ReferenceIdeal.Read
open Idealize.ShloMosaic Idealize.ShloMosaic.TcCoe Idealize.ShloMosaic.Tactic

/-- A slice, at plain numbers. -/
theorem at3_slice {p n m n' m' o c : ℕ} (x : (⟨3, ![p, n, m]⟩ : Shape).Idx → EReal)
    (h : Shape.Slices (⟨3, ![p, n, m]⟩ : Shape) ![0, o, c] ⟨3, ![p, n', m']⟩) {b r l : ℕ}
    (hb : b < p) (hr : r < n') (hl : l < m') (hr' : o + r < n) (hl' : c + l < m) :
    at3 (extractStridedSlice (⟨3, ![p, n', m']⟩ : Shape) ![0, o, c] x h) b r l = at3 x b (o + r) (c + l) := by
  rw [at3_mk _ hb hr hl, at3_mk x hb hr' hl']
  exact extractStridedSlice_apply ![0, o, c] x h (ix3 ⟨b, hb⟩ ⟨r, hr⟩ ⟨l, hl⟩) (ix3 ⟨b, hb⟩ ⟨o + r, hr'⟩ ⟨c + l, hl'⟩) fun a => by
    match a with
    | ⟨0, _⟩ => show b = 0 + b; omega
    | ⟨1, _⟩ => show o + r = o + r; rfl
    | ⟨2, _⟩ => show c + l = c + l; rfl

/-- Sums and products of arrays, inside. -/
theorem at3_addf {p n m : ℕ} (x y : FVec Ideal (⟨3, ![p, n, m]⟩ : Shape) .f32) {b r l : ℕ} (hb : b < p) (hr : r < n) (hl : l < m) :
    at3 (p := p) (n := n) (m := m) (addf (F := Ideal) (φ := .f32) x y) b r l = at3 (p := p) (n := n) (m := m) x b r l + at3 (p := p) (n := n) (m := m) y b r l := by
  rw [at3_mk _ hb hr hl, at3_mk _ hb hr hl, at3_mk _ hb hr hl]; rfl
theorem at3_mulf {p n m : ℕ} (x y : FVec Ideal (⟨3, ![p, n, m]⟩ : Shape) .f32) {b r l : ℕ} (hb : b < p) (hr : r < n) (hl : l < m) :
    at3 (p := p) (n := n) (m := m) (mulf (F := Ideal) (φ := .f32) x y) b r l = at3 (p := p) (n := n) (m := m) x b r l * at3 (p := p) (n := n) (m := m) y b r l := by
  rw [at3_mk _ hb hr hl, at3_mk _ hb hr hl, at3_mk _ hb hr hl]; rfl

variable (x0 : (⟨S2x2064x2576, .f32⟩ : BufTy).Contents (Elt Ideal)) (x1 : (⟨S31x512, .f32⟩ : BufTy).Contents (Elt Ideal))
  (x2 : (⟨S2x2064x512, .f32⟩ : BufTy).Contents (Elt Ideal))

abbrev A {p n m : ℕ} (x : (⟨(⟨3, ![p, n, m]⟩ : Shape), .f32⟩ : BufTy).Contents (Elt Ideal)) : ℕ → ℕ → ℕ → EReal := at3 (p := p) (n := n) (m := m) x

/-- The logistic function. -/
def sg (x : EReal) : EReal := Ideal.div 1 (1 + Ideal.exp (-x))

theorem v0_at {b r l : ℕ} (hb : b < 2) (hr : r < 2064) (hl : l < 512) : A (val_main_v0 (F := Ideal) x0) b r l = A x0 b r l := by
  unfold val_main_v0
  refine (at3_slice (p := 2) (n := 2064) (m := 2576) (n' := 2064) (m' := 512) (o := 0) (c := 0) x0 slices_S2x2064x2576_S2x2064x512_0_0_0 hb hr hl (by omega) (by omega)).trans ?_
  rw [Nat.zero_add, Nat.zero_add]

theorem v1_at {b r l : ℕ} (hb : b < 2) (hr : r < 2064) (hl : l < 512) : A (val_main_v1 (F := Ideal) x0) b r l = A x0 b r (512 + l) := by
  unfold val_main_v1
  refine (at3_slice (p := 2) (n := 2064) (m := 2576) (n' := 2064) (m' := 512) (o := 0) (c := 512) x0 slices_S2x2064x2576_S2x2064x512_0_0_512 hb hr hl (by omega) (by omega)).trans ?_
  rw [Nat.zero_add]

theorem v3_at {b r l : ℕ} (hb : b < 2) (hr : r < 31) (hl : l < 512) : A (val_main_v3 (F := Ideal) x1) b r l = at2 (n := 31) (m := 512) x1 r l := by
  rw [A, at3_mk _ hb hr hl, at2_mk _ hr hl, val_main_v3_apply, val_main_v2_apply]
  exact congrArg x1 (funext fun a => match a with | ⟨0, _⟩ => rfl | ⟨1, _⟩ => rfl)

theorem v9_at {b r l : ℕ} (hb : b < 2) (hr : r < 2064) (hl : l < 512) : A (val_main_v9 (F := Ideal) x0) b r l = sg (A x0 b r (512 + l)) := by
  rw [← v1_at x0 hb hr hl, A, A, at3_mk _ hb hr hl, at3_mk _ hb hr hl]
  rw [val_main_v9_apply, val_main_v8_apply, val_main_cst_0_apply, val_main_v7_apply, val_main_v6_apply, val_main_cst_apply, val_main_v5_apply, val_main_v4_apply]
  unfold sg
  generalize val_main_v1 (F := Ideal) x0 _ = z
  show Ideal.div (Ideal.ofBits .f32 0x3F800000#32) (Ideal.ofBits .f32 0x3F800000#32 + Ideal.exp (-z)) = _
  rw [Ideal.ofBits_one_f32]

theorem v12_at {b r l : ℕ} (hb : b < 2) (hr : r < 2064) (hl : l < 512) :
    A (val_main_v12 (F := Ideal) x0) b r l = sg (A x0 b r (512 + l)) * (1 - sg (A x0 b r (512 + l))) := by
  rw [← v9_at x0 hb hr hl, A, A, at3_mk _ hb hr hl, at3_mk _ hb hr hl]
  rw [val_main_v12_apply, val_main_v11_apply, val_main_v10_apply, val_main_cst_1_apply]
  generalize val_main_v9 (F := Ideal) x0 _ = z
  show z * (Ideal.ofBits .f32 0x3F800000#32 - z) = _
  rw [Ideal.ofBits_one_f32]

theorem v15_at {b r l : ℕ} (hb : b < 2) (hr : r < 2094) (hl : l < 512) :
    A (val_main_v15 (F := Ideal) x0) b r l = if 30 ≤ r then A x0 b (r - 30) l * sg (A x0 b (r - 30) (512 + l)) else 0 := by
  rw [A, at3_mk _ hb hr hl]
  unfold val_main_v15
  split
  · next h =>
    have hr' : r - 30 < 2064 := by omega
    rw [← v9_at x0 hb hr' hl, ← v0_at x0 hb hr' hl]
    refine Eq.trans ?_ (at3_mulf (p := 2) (n := 2064) (m := 512) (val_main_v0 (F := Ideal) x0) (val_main_v9 (F := Ideal) x0) hb hr' hl)
    rw [at3_mk _ hb hr' hl]
    generalize val_main_v14 (F := Ideal) = X
    refine concatenate_pair_apply_right (t := S2x2094x512) (s₁ := S2x30x512) (s₂ := S2x2064x512) 1 X (val_main_v13 (F := Ideal) x0) concatenates_S2x30x512_S2x2064x512_S2x2094x512_d1 (ix3 ⟨b, hb⟩ ⟨r, hr⟩ ⟨l, hl⟩) rfl rfl (ix3 ⟨b, hb⟩ ⟨r - 30, hr'⟩ ⟨l, hl⟩) (fun a => ?_) ?_
    · match a with
      | ⟨0, _⟩ => exact fun _ => rfl
      | ⟨1, _⟩ => exact fun h => absurd rfl h
      | ⟨2, _⟩ => exact fun _ => rfl
    · show r - 30 + 30 = r; omega
  · next h =>
    have hr' : r < 30 := by omega
    generalize val_main_v13 (F := Ideal) x0 = Y
    refine (concatenate_pair_apply_left (t := S2x2094x512) (s₁ := S2x30x512) (s₂ := S2x2064x512) 1 (val_main_v14 (F := Ideal)) Y concatenates_S2x30x512_S2x2064x512_S2x2094x512_d1 (ix3 ⟨b, hb⟩ ⟨r, hr⟩ ⟨l, hl⟩) rfl (ix3 ⟨b, hb⟩ ⟨r, hr'⟩ ⟨l, hl⟩) (fun a => ?_)).trans ?_
    · match a with
      | ⟨0, _⟩ => rfl
      | ⟨1, _⟩ => rfl
      | ⟨2, _⟩ => rfl
    · rw [val_main_v14_apply, val_main_cst_2_apply]
      exact Ideal.ofBits_zero_f32

theorem v173_at : val_main_v173 (F := Ideal) x2 = x2 := shapeCast_id x2 _
theorem v174_at : val_main_v174 (F := Ideal) x2 = x2 := shapeCast_id x2 _

/-- One tap's share of the gradient with respect to the gated rows: the result's gradient times the tap, moved down by the tap's number. -/
theorem rows_piece (j : ℕ) {hi : Fin 3 → ℕ} (C : (⟨S2x2064x512, .f32⟩ : BufTy).Contents (Elt Ideal)) (T : (⟨S2x31x512, .f32⟩ : BufTy).Contents (Elt Ideal))
    (z : (⟨S_, .f32⟩ : BufTy).Contents (Elt Ideal)) (hz : z (Shape.Idx.first h_S_) = 0)
    (sl : Shape.Slices S2x31x512 ![0, j, 0] S2x1x512) (pf : Shape.Pads S2x2064x512 ![0, j, 0] hi ![0, 0, 0] S2x2094x512) (hj : j < 31)
    {b r l : ℕ} (hb : b < 2) (hr : r < 2094) (hl : l < 512) :
    A (pad S2x2094x512 ![0, j, 0] hi ![0, 0, 0] (mulf (F := Ideal) (φ := .f32) C (broadcastInDim S2x2064x512 ![0, 1, 2] bcast_S2x1x512_S2x2064x512_0_1_2 (extractStridedSlice S2x1x512 ![0, j, 0] T sl))) z pf h_S_) b r l
      = if j ≤ r then A C b (r - j) l * A T b j l else 0 := by
  refine (at3_down (p := 2) (n := 2064) (n' := 2094) (m := 512) (m' := 512) (lo := j) _ z pf h_S_ le_rfl hz b r l hr).trans ?_
  split
  · by_cases hr' : r - j < 2064
    · refine (at3_mulf (p := 2) (n := 2064) (m := 512) _ _ hb hr' hl).trans (congrArg (_ * ·) ?_)
      rw [at3_mk _ hb hr' hl]
      refine (broadcastInDim_apply _ bcast_S2x1x512_S2x2064x512_0_1_2 _ _ (ix3 ⟨b, hb⟩ ⟨0, Nat.one_pos⟩ ⟨l, hl⟩) (fun a => match a with
        | ⟨0, _⟩ => by show b = if (2 : Nat) = 1 then 0 else b; rw [if_neg (by decide)]
        | ⟨1, _⟩ => by show 0 = if (1 : Nat) = 1 then 0 else r - j; rw [if_pos rfl]
        | ⟨2, _⟩ => by show l = if (512 : Nat) = 1 then 0 else l; rw [if_neg (by decide)])).trans ?_
      have e := at3_slice (p := 2) (n := 31) (m := 512) (n' := 1) (m' := 512) (o := j) (c := 0) T sl hb Nat.one_pos hl (by omega) (by omega)
      rw [at3_mk _ hb Nat.one_pos hl, Nat.add_zero, Nat.zero_add] at e
      exact e
    · rw [at3_out _ fun h => hr' h.2.1, A, at3_out C fun h => hr' h.2.1, zero_mul]
  · rfl

/-- One tap's gradient: the gated rows times the result's gradient, added up, at the tap's row. -/
theorem tap_piece (j : ℕ) {hi : Fin 3 → ℕ} (V : (⟨S2x2094x512, .f32⟩ : BufTy).Contents (Elt Ideal)) (C : (⟨S2x2064x512, .f32⟩ : BufTy).Contents (Elt Ideal))
    (z z' : (⟨S_, .f32⟩ : BufTy).Contents (Elt Ideal)) (hz : z (Shape.Idx.first h_S_) = 0) (hz' : z' (Shape.Idx.first h_S_) = 0)
    (sl : Shape.Slices S2x2094x512 ![0, j, 0] S2x2064x512) (pf : Shape.Pads S2x1x512 ![0, j, 0] hi ![0, 0, 0] S2x31x512) (hj : j < 31)
    {b r l : ℕ} (hb : b < 2) (hr : r < 31) (hl : l < 512) :
    A (pad S2x31x512 ![0, j, 0] hi ![0, 0, 0] (shapeCast S2x1x512 (Host.reduceAdd (F := Ideal) (mulf (F := Ideal) (φ := .f32) (extractStridedSlice S2x2064x512 ![0, j, 0] V sl) C) z reducesTo_S2x2064x512_S2x512_d1 h_S_) shapeCasts_S2x512_S2x1x512) z' pf h_S_) b r l
      = if r = j then sumTo 2064 fun t => A V b (j + t) l * A C b t l else 0 := by
  refine (at3_down (p := 2) (n := 1) (n' := 31) (m := 512) (m' := 512) (lo := j) _ z' pf h_S_ le_rfl hz' b r l hr).trans ?_
  by_cases h : r = j
  · rw [if_pos (by omega), if_pos h, h, Nat.sub_self, at3_mk _ hb Nat.one_pos hl]
    refine (shapeCast_apply _ shapeCasts_S2x512_S2x1x512 _ (ix2 ⟨b, hb⟩ ⟨l, hl⟩) ?_).trans ?_
    · rewrite [Shape.rowMajor_val_two, Shape.rowMajor_val_three]
      show b * 512 + l = (b * 1 + 0) * 512 + l
      omega
    · simp only [Host.reduceAdd, Ideal.hostReduceAdd_def]
      rw [Ideal.hostReduceAdd_single reducesTo_S2x2064x512_S2x512_d1 (by decide), hz, zero_add]
      refine sum_fin' fun k => ?_
      have hk : k.val < 2064 := k.isLt
      have e := at3_slice (p := 2) (n := 2094) (m := 512) (n' := 2064) (m' := 512) (o := j) (c := 0) V sl hb hk hl (by omega) (by omega)
      rw [Nat.zero_add] at e
      refine Eq.trans ?_ (congrArg (· * A C b k.val l) e)
      refine Eq.trans ?_ (at3_mulf (p := 2) (n := 2064) (m := 512) (extractStridedSlice S2x2064x512 ![0, j, 0] V sl) C hb hk hl)
      refine Eq.trans ?_ (at3_mk _ hb hk hl).symm
      generalize mulf (F := Ideal) (φ := .f32) (extractStridedSlice S2x2064x512 ![0, j, 0] V sl) C = Y
      exact congrArg Y (funext fun a => Fin.ext (by match a with | ⟨0, _⟩ => rfl | ⟨1, _⟩ => rfl | ⟨2, _⟩ => rfl))
  · rw [if_neg h]
    split
    · exact at3_out _ fun hh => h (by have := hh.2.1; omega)
    · rfl

/-- Tap `j`'s share of the gradient with respect to the gated rows, at row `r` of the rows with 30 zero rows before them. -/
def share (x1 : (⟨S31x512, .f32⟩ : BufTy).Contents (Elt Ideal)) (x2 : (⟨S2x2064x512, .f32⟩ : BufTy).Contents (Elt Ideal)) (b r l j : ℕ) : EReal :=
  if j ≤ r then A x2 b (r - j) l * at2 (n := 31) (m := 512) x1 j l else 0

/-- Tap `j`'s gradient, at row `r` of the taps. -/
def tapg (x0 : (⟨S2x2064x2576, .f32⟩ : BufTy).Contents (Elt Ideal)) (x2 : (⟨S2x2064x512, .f32⟩ : BufTy).Contents (Elt Ideal)) (b r l j : ℕ) : EReal :=
  if r = j then sumTo 2064 fun t => A (val_main_v15 (F := Ideal) x0) b (j + t) l * A x2 b t l else 0

theorem slices_tap (n : Fin 31) : Shape.Slices S2x31x512 ![0, 30 - n.val, 0] S2x1x512 := by revert n; decide
theorem pads_rows (n : Fin 31) : Shape.Pads S2x2064x512 ![0, 30 - n.val, 0] ![0, n.val, 0] ![0, 0, 0] S2x2094x512 := by revert n; decide
theorem slices_rows (n : Fin 31) : Shape.Slices S2x2094x512 ![0, 30 - n.val, 0] S2x2064x512 := by revert n; decide
theorem pads_tap (n : Fin 31) : Shape.Pads S2x1x512 ![0, 30 - n.val, 0] ![0, n.val, 0] ![0, 0, 0] S2x31x512 := by revert n; decide

/-- The reference goes through the taps from the last to the first: the `n`-th share it adds up is tap `30 - n`'s. -/
def pieceRows (n : Fin 31) : FVec Ideal S2x2094x512 .f32 :=
  pad S2x2094x512 ![0, 30 - n.val, 0] ![0, n.val, 0] ![0, 0, 0] (mulf (F := Ideal) (φ := .f32) (val_main_v173 (F := Ideal) x2) (broadcastInDim S2x2064x512 ![0, 1, 2] bcast_S2x1x512_S2x2064x512_0_1_2 (extractStridedSlice S2x1x512 ![0, 30 - n.val, 0] (val_main_v3 (F := Ideal) x1) (slices_tap n)))) (val_main_cst_7 (F := Ideal)) (pads_rows n) h_S_
def pieceTap (n : Fin 31) : FVec Ideal S2x31x512 .f32 :=
  pad S2x31x512 ![0, 30 - n.val, 0] ![0, n.val, 0] ![0, 0, 0] (shapeCast S2x1x512 (Host.reduceAdd (F := Ideal) (mulf (F := Ideal) (φ := .f32) (extractStridedSlice S2x2064x512 ![0, 30 - n.val, 0] (val_main_v15 (F := Ideal) x0) (slices_rows n)) (val_main_v173 (F := Ideal) x2)) (val_main_cst_5 (F := Ideal)) reducesTo_S2x2064x512_S2x512_d1 h_S_) shapeCasts_S2x512_S2x1x512) (val_main_cst_6 (F := Ideal)) (pads_tap n) h_S_

/-- Arrays added up one after another. -/
def upTo {s : Shape} (P : Fin 31 → FVec Ideal s .f32) : (n : ℕ) → n < 31 → FVec Ideal s .f32
  | 0, h => P ⟨0, h⟩
  | n + 1, h => addf (F := Ideal) (φ := .f32) (upTo P n (Nat.lt_of_succ_lt h)) (P ⟨n + 1, h⟩)

theorem upTo_at {p n m : ℕ} (P : Fin 31 → FVec Ideal (⟨3, ![p, n, m]⟩ : Shape) .f32) (f : ℕ → EReal) {b r l : ℕ} (hb : b < p) (hr : r < n) (hl : l < m)
    (hP : ∀ k : Fin 31, at3 (p := p) (n := n) (m := m) (P k) b r l = f k.val) (k : ℕ) (hk : k < 31) :
    at3 (p := p) (n := n) (m := m) (upTo P k hk) b r l = ∑ i ∈ Finset.range (k + 1), f i := by
  induction k with
  | zero => rw [Finset.sum_range_succ, Finset.sum_range_zero, zero_add]; exact hP ⟨0, hk⟩
  | succ k ih =>
    rw [Finset.sum_range_succ, ← ih (Nat.lt_of_succ_lt hk), ← hP ⟨k + 1, hk⟩]
    exact at3_addf _ _ hb hr hl

theorem pieceRows_at {b r l : ℕ} (hb : b < 2) (hr : r < 2094) (hl : l < 512) (n : Fin 31) :
    A (pieceRows x1 x2 n) b r l = share x1 x2 b r l (30 - n.val) := by
  refine (rows_piece (hi := ![0, n.val, 0]) (30 - n.val) (val_main_v173 (F := Ideal) x2) (val_main_v3 (F := Ideal) x1) (val_main_cst_7 (F := Ideal)) Ideal.ofBits_zero_f32 (slices_tap n) (pads_rows n) (by omega) hb hr hl).trans ?_
  rw [v173_at, v3_at x1 hb (by omega) hl]; rfl
theorem pieceTap_at {b r l : ℕ} (hb : b < 2) (hr : r < 31) (hl : l < 512) (n : Fin 31) :
    A (pieceTap x0 x2 n) b r l = tapg x0 x2 b r l (30 - n.val) := by
  refine (tap_piece (hi := ![0, n.val, 0]) (30 - n.val) (val_main_v15 (F := Ideal) x0) (val_main_v173 (F := Ideal) x2) (val_main_cst_5 (F := Ideal)) (val_main_cst_6 (F := Ideal)) Ideal.ofBits_zero_f32 Ideal.ofBits_zero_f32 (slices_rows n) (pads_tap n) (by omega) hb hr hl).trans ?_
  rw [v173_at]; rfl

theorem v451_eq : val_main_v451 (F := Ideal) x1 x2 = upTo (pieceRows x1 x2) 30 (by decide) := rfl
theorem v449_eq : val_main_v449 (F := Ideal) x0 x2 = upTo (pieceTap x0 x2) 30 (by decide) := rfl

theorem sum_rows {b r l : ℕ} (hb : b < 2) (hr : r < 2094) (hl : l < 512) :
    A (val_main_v451 (F := Ideal) x1 x2) b r l = ∑ i ∈ Finset.range 31, share x1 x2 b r l (30 - i) := by
  rw [v451_eq]
  exact upTo_at (pieceRows x1 x2) (fun i => share x1 x2 b r l (30 - i)) hb hr hl (pieceRows_at x1 x2 hb hr hl) 30 (by decide)
theorem sum_tap {b r l : ℕ} (hb : b < 2) (hr : r < 31) (hl : l < 512) :
    A (val_main_v449 (F := Ideal) x0 x2) b r l = ∑ i ∈ Finset.range 31, tapg x0 x2 b r l (30 - i) := by
  rw [v449_eq]
  exact upTo_at (pieceTap x0 x2) (fun i => tapg x0 x2 b r l (30 - i)) hb hr hl (pieceTap_at x0 x2 hb hr hl) 30 (by decide)

theorem downwards (f : ℕ → EReal) : ∑ i ∈ Finset.range 31, f (30 - i) = sumTo 31 f :=
  Finset.sum_range_reflect f 31

/-- The gradient with respect to the gated rows. -/
def dh (x1 : (⟨S31x512, .f32⟩ : BufTy).Contents (Elt Ideal)) (x2 : (⟨S2x2064x512, .f32⟩ : BufTy).Contents (Elt Ideal)) (b t l : ℕ) : EReal :=
  sumTo 31 fun j => share x1 x2 b (30 + t) l j

theorem v453_at {b r l : ℕ} (hb : b < 2) (hr : r < 2064) (hl : l < 512) : A (val_main_v453 (F := Ideal) x1 x2) b r l = dh x1 x2 b r l := by
  unfold val_main_v453
  refine (at3_slice (p := 2) (n := 2094) (m := 512) (n' := 2064) (m' := 512) (o := 30) (c := 0) (val_main_v451 (F := Ideal) x1 x2) slices_S2x2094x512_S2x2064x512_0_30_0 hb hr hl (by omega) (by omega)).trans ?_
  rw [Nat.zero_add]
  exact (sum_rows x1 x2 hb (by omega) hl).trans (downwards _)

/-- The three results at plain numbers. -/
theorem v460_at {b r l : ℕ} (hb : b < 2) (hr : r < 2112) (hl : l < 512) : at3 (p := 2) (n := 2112) (m := 512) (val_main_v460 (F := Ideal) x0 x1 x2) b r l =
    if 48 ≤ r then dh x1 x2 b (r - 48) l * sg (A x0 b (r - 48) (512 + l)) else 0 := by
  refine (at3_down (p := 2) (n := 2064) (n' := 2112) (m := 512) (m' := 512) (lo := 48) (val_main_v455 (F := Ideal) x0 x1 x2) (val_main_call0_v0 (F := Ideal)) pads_S2x2064x512_S2x2112x512_000_4800_000 h_S_ le_rfl (sitofp_zero .f32) b r l hr).trans ?_
  split
  · have hr' : r - 48 < 2064 := by omega
    refine (at3_mulf (p := 2) (n := 2064) (m := 512) (val_main_v453 (F := Ideal) x1 x2) (val_main_v9 (F := Ideal) x0) hb hr' hl).trans ?_
    exact congrArg₂ (· * ·) (v453_at x1 x2 hb hr' hl) (v9_at x0 hb hr' hl)
  · rfl

theorem v461_at {b r l : ℕ} (hb : b < 2) (hr : r < 2112) (hl : l < 512) : at3 (p := 2) (n := 2112) (m := 512) (val_main_v461 (F := Ideal) x0 x1 x2) b r l =
    if 48 ≤ r then A x0 b (r - 48) l * dh x1 x2 b (r - 48) l * (sg (A x0 b (r - 48) (512 + l)) * (1 - sg (A x0 b (r - 48) (512 + l)))) else 0 := by
  refine (at3_down (p := 2) (n := 2064) (n' := 2112) (m := 512) (m' := 512) (lo := 48) (val_main_v456 (F := Ideal) x0 x1 x2) (val_main_call1_v0 (F := Ideal)) pads_S2x2064x512_S2x2112x512_000_4800_000 h_S_ le_rfl (sitofp_zero .f32) b r l hr).trans ?_
  split
  · have hr' : r - 48 < 2064 := by omega
    refine (at3_mulf (p := 2) (n := 2064) (m := 512) (val_main_v454 (F := Ideal) x0 x1 x2) (val_main_v12 (F := Ideal) x0) hb hr' hl).trans ?_
    refine congrArg₂ (· * ·) ?_ (v12_at x0 hb hr' hl)
    refine (at3_mulf (p := 2) (n := 2064) (m := 512) (val_main_v0 (F := Ideal) x0) (val_main_v453 (F := Ideal) x1 x2) hb hr' hl).trans ?_
    exact congrArg₂ (· * ·) (v0_at x0 hb hr' hl) (v453_at x1 x2 hb hr' hl)
  · rfl

theorem v459_at {b r l : ℕ} (hb : b < 2) (hr : r < 32) (hl : l < 512) : A (val_main_v459 (F := Ideal) x0 x2) b r l =
    if r < 31 then sumTo 2064 fun t => (if 30 ≤ r + t then A x0 b (r + t - 30) l * sg (A x0 b (r + t - 30) (512 + l)) else 0) * A x2 b t l else 0 := by
  refine (at3_down (p := 2) (n := 31) (n' := 32) (m := 512) (m' := 512) (lo := 0) (val_main_v449 (F := Ideal) x0 x2) (val_main_call2_v0 (F := Ideal)) pads_S2x31x512_S2x32x512_000_010_000 h_S_ le_rfl (sitofp_zero .f32) b r l hr).trans ?_
  rw [if_pos (Nat.zero_le r), Nat.sub_zero]
  split
  · next h =>
    refine (sum_tap x0 x2 hb h hl).trans ((downwards _).trans ?_)
    unfold tapg
    rw [sumTo, Finset.sum_ite_eq, if_pos (Finset.mem_range.mpr h)]
    refine sumTo_congr fun t ht => congrArg (· * _) (v15_at x0 hb (by omega) hl)
  · next h => exact at3_out _ fun hh => h hh.2.1

end Cert.ConvRef

end
-- ==== Proof.ConvGrad.lean ====
/- The convolution's gradient: the kernel's results and the reference's are the same arrays; and what each run leaves unchanged. -/
module

public import proofs.«01_k».proof.Proof.ConvArr
public import proofs.«01_k».proof.Proof.ConvRef
public import proofs.«01_k».proof.Proof.Gen.Kernel.Points
public import proofs.«01_k».proof.Proof.Gen.ReferenceIdeal.Run
public import proofs.«01_k».proof.Defs

@[expose] public section

set_option maxRecDepth 16384

noncomputable section

namespace Cert.ConvBwd

open Cert.Plain
open Idealize.ShloMosaic Idealize.ShloMosaic.TcCoe Idealize.ShloMosaic.Tactic

/-- A sum over consecutive numbers, in groups. -/
theorem sumTo_mul (n k : ℕ) (f : ℕ → EReal) : sumTo (n * k) f = sumTo n fun i => sumTo k fun j => f (k * i + j) := by
  induction n with
  | zero => simp only [sumTo, Nat.zero_mul, Finset.sum_range_zero]
  | succ n ih => rw [Nat.succ_mul, sumTo_add, ih, Nat.mul_comm n k]; exact (Finset.sum_range_succ _ n).symm

/-- The rows the kernel adds up for one tap, eight by eight, are all of them. -/
theorem sum_rows (f : ℕ → EReal) : (∑ s : Fin 8, sumTo 33 fun k => ∑ g : Fin 8, f (64 * k + (8 * g.val + s.val))) = sumTo 2112 f := by
  rw [show 2112 = 33 * 64 from rfl, sumTo_mul]
  rw [Finset.sum_comm]
  refine sumTo_congr fun k _ => ?_
  rw [show 64 = 8 * 8 from rfl, sumTo_mul, Finset.sum_comm]
  rw [← sum_fin 8 fun i => sumTo 8 fun j => f (8 * 8 * k + (8 * i + j))]
  refine Finset.sum_congr rfl fun g _ => ?_
  exact sum_fin 8 fun j => f (64 * k + (8 * g.val + j))

theorem sgm_eq (x : EReal) : sgm x = Cert.ConvRef.sg x := by
  unfold sgm Cert.ConvRef.sg
  rw [zero_sub]

/-- The gradient with respect to the gated rows. -/
theorem dh_eq (T : ℕ → ℕ → EReal) (C : ℕ → ℕ → ℕ → EReal) (hC : ∀ b r l, 2064 ≤ r → C b r l = 0) (b r l : ℕ) :
    dhRow T (grad (dn C b)) r l = if 48 ≤ r then sumTo 31 fun j => if j ≤ 30 + (r - 48) then C b (30 + (r - 48) - j) l * T j l else 0 else 0 := by
  unfold dhRow
  split
  · next h =>
    refine Finset.sum_congr rfl fun j hj => ?_
    have hj' : j < 31 := Finset.mem_range.mp hj
    show _ = if j ≤ 30 + (r - 48) then C b (30 + (r - 48) - j) l * T j l else 0
    unfold grad dn
    by_cases hj2 : j ≤ 30 + (r - 48)
    · rw [if_pos hj2, if_pos (show 48 ≤ r + (30 - j) by omega), show r + (30 - j) - 48 = 30 + (r - 48) - j by omega, mul_comm]
      refine congrArg (· * _) ?_
      split
      · rfl
      · exact (hC _ _ _ (by omega)).symm
    · rw [if_neg hj2, if_neg (show ¬ 48 ≤ r + (30 - j) by omega), ite_self, mul_zero]
  · rfl

/-- A tap's gradient. -/
theorem dw_eq (U : ℕ → ℕ → ℕ → EReal) (C : ℕ → ℕ → ℕ → EReal) (b j l : ℕ) :
    dwAt (gated (dn U b) (fun r l => dn U b r (512 + l))) (grad (dn C b)) j l
      = if j < 31 then sumTo 2064 fun t => (if 30 ≤ j + t then U b (j + t - 30) l * sgm (U b (j + t - 30) (512 + l)) else 0) * C b t l else 0 := by
  unfold dwAt tapSum
  split
  · next h =>
    unfold dwAdd
    have e : ∀ s : Fin 8, (8 * j + s.val) % 8 = s.val ∧ (8 * j + s.val) / 8 = j := fun s => by have := s.isLt; omega
    simp only [e]
    refine (Finset.sum_congr rfl fun s _ => sumTo_congr fun k _ => Finset.sum_congr rfl fun g _ => ?_).trans
      ((sum_rows fun p => grad (dn C b) p l * gated (dn U b) (fun r l => dn U b r (512 + l)) (p + (2 + j)) l).trans ?_)
    · rw [show 64 * k + (2 + j) + (8 * g.val + s.val) = 64 * k + (8 * g.val + s.val) + (2 + j) by omega]
    rw [show 2112 = 48 + 2064 from rfl, sumTo_add]
    have z : (sumTo 48 fun p => grad (dn C b) p l * gated (dn U b) (fun r l => dn U b r (512 + l)) (p + (2 + j)) l) = 0 := by
      refine Finset.sum_eq_zero (M := EReal) fun p hp => ?_
      have hp' : p < 48 := Finset.mem_range.mp hp
      unfold grad dn
      rw [if_neg (show ¬ 48 ≤ p by omega), ite_self, zero_mul]
    rw [z, zero_add]
    refine sumTo_congr fun t ht => ?_
    unfold grad gated dn
    rw [if_pos (show 48 + t < 2112 by omega), if_pos (show 48 ≤ 48 + t by omega), if_neg (show ¬ 48 + t + (2 + j) < 32 by omega), mul_comm,
      show 48 + t - 48 = t by omega]
    refine congrArg (· * _) ?_
    beta_reduce
    by_cases h2 : 30 ≤ j + t
    · rw [if_pos h2, if_pos (show 48 ≤ 48 + t + (2 + j) - 32 by omega), if_pos (show 48 ≤ 48 + t + (2 + j) - 32 by omega),
        show 48 + t + (2 + j) - 32 - 48 = j + t - 30 by omega]
    · rw [if_neg h2, if_neg (show ¬ 48 ≤ 48 + t + (2 + j) - 32 by omega), zero_mul]
  · rfl

theorem claim : Cert.algebraic_KernelIdeal_ReferenceIdeal := by
  intro m g m' g' _ hagree
  refine ⟨fun c => GV m c, fun c => GG m c, fun c => GW m c, ?_, ?_⟩
  · exact run_values m g
  · refine (θ_run Cert.ReferenceIdeal.defs _ _).mono (fun r h c => ?_) (Cert.ReferenceIdeal.Value.run (F := Ideal) m' g')
    obtain ⟨h1, h2, h3, h4⟩ := h c
    obtain ⟨e0, e1, e2⟩ := hagree c
    refine ⟨h1.trans ((Cert.ReferenceIdeal.Read.val_main_v460_eq _).trans ?_), h2.trans ((Cert.ReferenceIdeal.Read.val_main_v461_eq _).trans ?_), h3.trans ((Cert.ReferenceIdeal.Read.val_main_v459_eq _).trans ?_), h4⟩
    all_goals rw [StableHlo.launchContents_devRef, StableHlo.launchContents_devRef]
    · rw [StableHlo.launchContents_devRef, e0, e1, e2]
      refine ext3 (p := 2) (n := 2112) (m := 512) fun b r l hb hr hl => (Cert.ConvRef.v460_at _ _ _ hb hr hl).trans ?_
      rw [at3_mk _ hb hr hl]
      show _ = gv m c b r l
      unfold gv dvAt
      rw [dh_eq _ (pC m c) (fun b r l h => at3_out _ fun hh => by have := hh.2.1; omega)]
      split
      · next h =>
        rw [sgm_eq]
        unfold dn
        beta_reduce
        rw [if_pos h]
        refine congrArg (· * _) ?_
        unfold Cert.ConvRef.dh Cert.ConvRef.share
        exact sumTo_congr fun j _ => rfl
      · rw [zero_mul]
    · rw [StableHlo.launchContents_devRef, e0, e1, e2]
      refine ext3 (p := 2) (n := 2112) (m := 512) fun b r l hb hr hl => (Cert.ConvRef.v461_at _ _ _ hb hr hl).trans ?_
      rw [at3_mk _ hb hr hl]
      show _ = gg m c b r l
      unfold gg dgAt
      rw [dh_eq _ (pC m c) (fun b r l h => at3_out _ fun hh => by have := hh.2.1; omega)]
      split
      · next h =>
        rw [sgm_eq, mul_assoc _ (Cert.ConvRef.sg _)]
        unfold dn
        beta_reduce
        rw [if_pos h, if_pos h]
        refine congrArg (· * _) ?_
        exact mul_comm _ _
      · rw [zero_mul, zero_mul, zero_mul]
    · rw [e0, e2]
      refine ext3 (p := 2) (n := 32) (m := 512) fun b r l hb hr hl => (Cert.ConvRef.v459_at _ _ hb hr hl).trans ?_
      rw [at3_mk _ hb hr hl]
      show _ = gw m c b r l
      unfold gw
      rw [dw_eq]
      simp only [sgm_eq]

theorem frame_kernelIdeal : Cert.quiescent_KernelIdeal := fun m ρ _ =>
  (θ_run Cert.KernelIdeal.defs _ _).mono (fun _ h => h) (unchanged (F := Ideal) m ρ)

/-- The two programs have the same text: a point of the grid runs the same body, … -/
theorem defs0_kernel : (Cert.Kernel.defs₀ (F := Bits)) = Cert.KernelIdeal.defs₀ := by
  unfold Cert.Kernel.defs₀ Cert.KernelIdeal.defs₀
  refine congrArg _ ?_
  funext l a
  match l, a with
  | 0, (t, s) => rfl

/-- … and so does the whole pipeline. -/
theorem defs_kernel : (Cert.Kernel.defs (F := Bits)) = Cert.KernelIdeal.defs := congrArg (Pipeline.defs Cert.KernelIdeal.pcfgs) defs0_kernel

theorem frame_kernel : Cert.quiescent_Kernel := by
  intro m ρ _
  have h := unchanged (F := Bits) m ρ
  rw [← defs_kernel] at h
  exact (θ_run Cert.Kernel.defs _ _).mono (fun _ h => h) h

end Cert.ConvBwd

end
-- ==== Proof.Ffn1.lean ====
/- The first feed-forward product: the kernel's result and the reference's are one array. -/
module

public import proofs.«01_k».proof.Proof.Gen.Kernel2Ideal.Value
public import proofs.«01_k».proof.Proof.Gen.Reference2Ideal.Read
public import proofs.«01_k».proof.Proof.Gen.Reference2Ideal.Run
public import proofs.«01_k».proof.Defs
public import proofs.«01_k».proof.Proof.Plain
public import Idealize.ShloMosaic.Lib.Pipeline.ValueKit

@[expose] public section

set_option maxRecDepth 16384

noncomputable section

namespace Cert.Ffn1

open Cert.Plain Cert.Kernel2Ideal Cert.Kernel2Ideal.Gen
open Idealize.ShloMosaic Idealize.ShloMosaic.TcCoe Idealize.ShloMosaic.Tactic

variable (m : (ℓ : Loc nD τ sig) → Buf (Elt Ideal) ℓ)

abbrev S (c : Dev nD) : ℕ → ℕ → EReal := at2 (n := 4224) (m := 1024) (m ((c : Thread nD τ).loc main_arg0))
abbrev W (c : Dev nD) : ℕ → ℕ → EReal := at2 (n := 1024) (m := 4096) (m ((c : Thread nD τ).loc main_arg1))

theorem V_v3 (c : Dev nD) (r l : ℕ) : at2 (n := 4224) (m := 1024) (V m c main_v3) r l = S m c r l := by
  have e : (V m c main_v3 : S4224x1024.Idx → EReal) = m ((c : Thread nD τ).loc main_arg0) := by
    unfold V
    simp only [hostOps0, StableHlo.TRef.binary, StableHlo.TRef.unary, StableHlo.TRef.nullary, StableHlo.TRef.toBuf, StableHlo.TRef.ofBuf, cast_eq,
      List.flatten_cons, List.flatten_nil, List.append_nil, List.cons_append, List.nil_append]
    after_results
    rfl
  rw [e]

theorem V_v2 (c : Dev nD) (j k l : ℕ) (hj : j < 4) (hk : k < 1024) (hl : l < 1024) :
    at3 (p := 4) (n := 1024) (m := 1024) (V m c main_v2) j k l = W m c k (j * 1024 + l) := by
  have e : (V m c main_v2 : S4x1024x1024.Idx → EReal) = transpose S4x1024x1024 [1, 0, 2]
      (shapeCast S1024x4x1024 (m ((c : Thread nD τ).loc main_arg1)) shapeCasts_S1024x4096_S1024x4x1024) transposes_S1024x4x1024_S4x1024x1024_1_0_2 := by
    unfold V
    simp only [hostOps0, StableHlo.TRef.binary, StableHlo.TRef.unary, StableHlo.TRef.nullary, StableHlo.TRef.toBuf, StableHlo.TRef.ofBuf, cast_eq,
      List.flatten_cons, List.flatten_nil, List.append_nil, List.cons_append, List.nil_append]
    after_results
    rfl
  rw [e]
  rw [at3_mk _ hj hk hl, W, at2_mk _ hk (by omega)]
  generalize m ((c : Thread nD τ).loc main_arg1) = X
  pointwise

theorem idx : ∀ t : Fin cfg0.N, (win0_0.index t 0 = t.val ∧ win0_0.index t 1 = 0)
    ∧ (win0_1.index t 0 = 0 ∧ win0_1.index t 1 = 0 ∧ win0_1.index t 2 = 0) ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0) ∧ (win0_2.index t 0 = t.val ∧ win0_2.index t 1 = 0))

/-- The result. -/
def G (c : Dev nD) : S4224x4096.Idx → EReal := fun i =>
  max (sumTo 1024 fun k => S m c (i 0).val k * W m c k (i 1).val) 0

theorem rows (c : Dev nD) (t : Fin cfg0.N) (r k : ℕ) (hr : r < 704) (hk : k < 1024) :
    at2 (n := 704) (m := 1024) (iblk m c 0 t) r k = S m c (t.val * 704 + r) k := by
  rw [at2_mk _ hr hk, ← V_v3]
  unfold iblk
  exact eq_at2 (n := 4224) (m := 1024) (V m c main_v3) _ (by blk_simp [idx t]) (by blk_simp [idx t])

theorem weights (c : Dev nD) (t : Fin cfg0.N) (j k l : ℕ) (hj : j < 4) (hk : k < 1024) (hl : l < 1024) :
    at3 (p := 4) (n := 1024) (m := 1024) (iblk m c 1 t) j k l = W m c k (j * 1024 + l) := by
  rw [at3_mk _ hj hk hl, ← V_v2 m c j k l hj hk hl]
  unfold iblk
  exact eq_at3 (p := 4) (n := 1024) (m := 1024) (V m c main_v2) _ (by blk_simp [idx t]) (by blk_simp [idx t]) (by blk_simp [idx t])

theorem hz2 : (![0, 0] : Fin 2 → ℕ) = fun _ => 0 := by decide

theorem pay0 (X : Vec Ideal S704x1024 .bf16) (Y : Vec Ideal S4x1024x1024 .bf16) (x : S704x1024.Idx) :
    k0_pay3 (View.ld X r0_0) (View.ld Y r0_1) x = max (sumTo 1024 fun k => at2 (n := 704) (m := 1024) X (x 0).val k * at3 (p := 4) (n := 1024) (m := 1024) Y 0 k (x 1).val) 0 := by
  unfold k0_pay3 k0_pay2
  rw [View.ld_unit_zero (S := S704x1024) hz2]
  pointwise
  refine congrArg (max · 0) (sum_fin' fun k => congrArg₂ (fun a b : EReal => a * b) (eq_at2 (n := 704) (m := 1024) X _ rfl rfl) ?_)
  exact eq_at3 (p := 4) (n := 1024) (m := 1024) Y _ rfl rfl rfl

theorem pay1 (X : Vec Ideal S704x1024 .bf16) (Y : Vec Ideal S4x1024x1024 .bf16) (x : S704x1024.Idx) :
    k0_pay4 (View.ld X r0_0) (View.ld Y r0_3) x = max (sumTo 1024 fun k => at2 (n := 704) (m := 1024) X (x 0).val k * at3 (p := 4) (n := 1024) (m := 1024) Y 1 k (x 1).val) 0 := by
  unfold k0_pay4 k0_pay2
  rw [View.ld_unit_zero (S := S704x1024) hz2]
  pointwise
  refine congrArg (max · 0) (sum_fin' fun k => congrArg₂ (fun a b : EReal => a * b) (eq_at2 (n := 704) (m := 1024) X _ rfl rfl) ?_)
  exact eq_at3 (p := 4) (n := 1024) (m := 1024) Y _ rfl rfl rfl

theorem pay2 (X : Vec Ideal S704x1024 .bf16) (Y : Vec Ideal S4x1024x1024 .bf16) (x : S704x1024.Idx) :
    k0_pay5 (View.ld X r0_0) (View.ld Y r0_5) x = max (sumTo 1024 fun k => at2 (n := 704) (m := 1024) X (x 0).val k * at3 (p := 4) (n := 1024) (m := 1024) Y 2 k (x 1).val) 0 := by
  unfold k0_pay5 k0_pay2
  rw [View.ld_unit_zero (S := S704x1024) hz2]
  pointwise
  refine congrArg (max · 0) (sum_fin' fun k => congrArg₂ (fun a b : EReal => a * b) (eq_at2 (n := 704) (m := 1024) X _ rfl rfl) ?_)
  exact eq_at3 (p := 4) (n := 1024) (m := 1024) Y _ rfl rfl rfl

theorem pay3 (X : Vec Ideal S704x1024 .bf16) (Y : Vec Ideal S4x1024x1024 .bf16) (x : S704x1024.Idx) :
    k0_pay1 (k0_pay6 (View.ld X r0_0) (View.ld Y r0_7)) x = max (sumTo 1024 fun k => at2 (n := 704) (m := 1024) X (x 0).val k * at3 (p := 4) (n := 1024) (m := 1024) Y 3 k (x 1).val) 0 := by
  unfold k0_pay1 k0_pay6 k0_pay2
  rw [View.ld_unit_zero (S := S704x1024) hz2]
  pointwise
  refine congrArg (max · 0) (sum_fin' fun k => congrArg₂ (fun a b : EReal => a * b) (eq_at2 (n := 704) (m := 1024) X _ rfl rfl) ?_)
  exact eq_at3 (p := 4) (n := 1024) (m := 1024) Y _ rfl rfl rfl

theorem arr (c : Dev nD) : (dats m 0 c).arrAt 2 cfg0.N = G m c := by
  refine (dats m 0 c).arrAt_eq_of_covers 2 _ (by decide +kernel) fun t hf y => ?_
  blk_simp
  rw [after0_2]
  unfold G
  blk_simp [idx t]
  unfold out0_2
  canon_tiles x h
  · rw [pay3, h0, h1]
    exact congrArg (max · 0) (sumTo_congr fun k hk => by rw [rows m c t _ k x0_lt hk, weights m c t 3 k _ (by omega) hk x1_lt])
  · rw [pay2, h0, h1]
    exact congrArg (max · 0) (sumTo_congr fun k hk => by rw [rows m c t _ k x0_lt hk, weights m c t 2 k _ (by omega) hk x1_lt])
  · rw [pay1, h0, h1]
    exact congrArg (max · 0) (sumTo_congr fun k hk => by rw [rows m c t _ k x0_lt hk, weights m c t 1 k _ (by omega) hk x1_lt])
  · rw [pay0, h0, h1]
    exact congrArg (max · 0) (sumTo_congr fun k hk => by rw [rows m c t _ k x0_lt hk, weights m c t 0 k _ (by omega) hk x1_lt]; rw [Nat.zero_mul, Nat.zero_add])

theorem ref (s : Vec Ideal S4224x1024 .f32) (w : Vec Ideal S1024x4096 .f32) :
    (Cert.Reference2Ideal.Read.val_main_v2 (F := Ideal) s w : S4224x4096.Idx → EReal)
      = fun i => max (sumTo 1024 fun k => at2 s (i 0).val k * at2 w k (i 1).val) 0 := by
  funext i
  have e9 : Cert.Reference2Ideal.Read.val_main_v0 (F := Ideal) s w i = sumTo 1024 fun k => at2 s (i 0).val k * at2 w k (i 1).val := by
    refine (Cert.Reference2Ideal.Read.val_main_v0_apply s w i).trans (sum_fin' fun k => ?_)
    rw [eq_at2 s _ rfl rfl, eq_at2 w _ rfl rfl]
  rw [← e9]
  unfold Cert.Reference2Ideal.Read.val_main_v2 Cert.Reference2Ideal.Read.val_main_v1 Cert.Reference2Ideal.Read.val_main_call0_v0 Cert.Reference2Ideal.Read.val_main_call0_cst
  generalize Cert.Reference2Ideal.Read.val_main_v0 (F := Ideal) s w = A
  pointwise

theorem claim : Cert.algebraic_Kernel2Ideal_Reference2Ideal := by
  intro m g m' g' _ hagree
  refine ⟨fun c => G m c, ?_, ?_⟩
  · refine (θ_run Cert.Kernel2Ideal.defs _ _).mono (fun r h c => ?_) (Cert.Kernel2Ideal.Value.run_blocks m g)
    obtain ⟨h1, h2⟩ := h c
    exact ⟨h1.trans (arr m c), h2⟩
  · refine (θ_run Cert.Reference2Ideal.defs _ _).mono (fun r h c => ?_) (Cert.Reference2Ideal.Value.run (F := Ideal) m' g')
    obtain ⟨h1, h2⟩ := h c
    obtain ⟨e0, e1⟩ := hagree c
    refine ⟨h1.trans ?_, h2⟩
    rw [e0, e1]
    exact (Cert.Reference2Ideal.Read.val_main_v2_eq _ _ ).trans (ref _ _ )

end Cert.Ffn1

end
-- ==== Proof.FfnDa.lean ====
/- The gradient at the feed-forward sums: the kernel's result and the reference's are one array. -/
module

public import proofs.«01_k».proof.Proof.Gen.Kernel3Ideal.Value
public import proofs.«01_k».proof.Proof.Gen.Reference3Ideal.Read
public import proofs.«01_k».proof.Proof.Gen.Reference3Ideal.Run
public import proofs.«01_k».proof.Defs
public import proofs.«01_k».proof.Proof.Plain
public import Idealize.ShloMosaic.Lib.Pipeline.ValueKit

@[expose] public section

set_option maxRecDepth 16384

noncomputable section

namespace Cert.FfnDa

open Cert.Plain Cert.Kernel3Ideal Cert.Kernel3Ideal.Gen
open Idealize.ShloMosaic Idealize.ShloMosaic.TcCoe Idealize.ShloMosaic.Tactic

variable (m : (ℓ : Loc nD τ sig) → Buf (Elt Ideal) ℓ)

/-- The activations before the square. -/
abbrev act (s : Vec Ideal S4224x1024 .f32) (w : Vec Ideal S1024x4096 .f32) : Vec Ideal S4224x4096 .f32 :=
  Cert.Reference3Ideal.Read.val_main_v1 (F := Ideal) s w
abbrev Ra (c : Dev nD) : ℕ → ℕ → EReal :=
  at2 (n := 4224) (m := 4096) (act (m ((c : Thread nD τ).loc main_arg0)) (m ((c : Thread nD τ).loc main_arg1)))
abbrev Dt (c : Dev nD) : ℕ → ℕ → EReal := at2 (n := 4224) (m := 1024) (m ((c : Thread nD τ).loc main_arg3))
abbrev W2 (c : Dev nD) : ℕ → ℕ → EReal := at2 (n := 4096) (m := 1024) (m ((c : Thread nD τ).loc main_arg2))

theorem V_v2 (c : Dev nD) (r l : ℕ) : at2 (n := 4224) (m := 4096) (V m c main_v2) r l = Ra m c r l := by
  have e : (V m c main_v2 : S4224x4096.Idx → EReal) = act (m ((c : Thread nD τ).loc main_arg0)) (m ((c : Thread nD τ).loc main_arg1)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem V_v3 (c : Dev nD) (r l : ℕ) : at2 (n := 4224) (m := 1024) (V m c main_v3) r l = Dt m c r l := by
  have e : (V m c main_v3 : S4224x1024.Idx → EReal) = m ((c : Thread nD τ).loc main_arg3) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem V_v4 (c : Dev nD) (r l : ℕ) : at2 (n := 4096) (m := 1024) (V m c main_v4) r l = W2 m c r l := by
  have e : (V m c main_v4 : S4096x1024.Idx → EReal) = m ((c : Thread nD τ).loc main_arg2) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem idx : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0))

/-- The number two as the programs write it. -/
abbrev two : EReal := FloatOps.ofBits (F := Ideal) .f32 0x40000000#32

/-- The result. -/
def G (c : Dev nD) : S4224x4096.Idx → EReal := fun i =>
  (sumTo 1024 fun k => Dt m c (i 0).val k * W2 m c (i 1).val k) * (two * Ra m c (i 0).val (i 1).val)

theorem arr (c : Dev nD) : (dats m 0 c).arrAt 3 cfg0.N = G m c := by
  refine (dats m 0 c).arrAt_eq_of_covers 3 _ (by decide +kernel) fun t hf y => ?_
  blk_simp
  rw [after0_3]
  frame_out
  unfold k0_pay1
  pointwise
  unfold G
  have e2 : iblk m c 2 t y = at2 (n := 4224) (m := 4096) (V m c main_v2) (t.val * 704 + (y 0).val) (y 1).val := by
    unfold iblk
    exact eq_at2 (n := 4224) (m := 4096) (V m c main_v2) _ (by blk_simp [idx t]) (by blk_simp [idx t])
  refine congrArg₂ (fun a b : EReal => a * b) (sum_fin' fun k => ?_) ?_
  · have e0 : iblk m c 0 t (ix2 (y 0) k) = at2 (n := 4224) (m := 1024) (V m c main_v3) (t.val * 704 + (y 0).val) k.val := by
      unfold iblk
      exact eq_at2 (n := 4224) (m := 1024) (V m c main_v3) _ (by blk_simp [idx t]) (by blk_simp [idx t])
    have e1 : iblk m c 1 t (ix2 (y 1) k) = at2 (n := 4096) (m := 1024) (V m c main_v4) (y 1).val k.val := by
      unfold iblk
      exact eq_at2 (n := 4096) (m := 1024) (V m c main_v4) _ (by blk_simp [idx t]) (by blk_simp [idx t])
    rw [e0, e1, V_v3, V_v4]
    blk_simp [idx t]
  · refine congrArg (two * ·) ?_
    rw [e2, V_v2]
    blk_simp [idx t]

theorem ref (s : Vec Ideal S4224x1024 .f32) (w : Vec Ideal S1024x4096 .f32) (w2 : Vec Ideal S4096x1024 .f32) (d : Vec Ideal S4224x1024 .f32) :
    (Cert.Reference3Ideal.Read.val_main_v13 (F := Ideal) s w w2 d : S4224x4096.Idx → EReal)
      = fun i => (sumTo 1024 fun k => at2 d (i 0).val k * at2 w2 (i 1).val k) * (two * at2 (act s w) (i 0).val (i 1).val) := by
  funext i
  have e9 : Cert.Reference3Ideal.Read.val_main_v9 (F := Ideal) w2 d i = sumTo 1024 fun k => at2 d (i 0).val k * at2 w2 (i 1).val k := by
    refine (Cert.Reference3Ideal.Read.val_main_v9_apply w2 d i).trans (sum_fin' fun k => ?_)
    rw [eq_at2 d _ rfl rfl, eq_at2 w2 _ rfl rfl]
  rw [← e9, ← eq_at2 (act s w) i rfl rfl]
  show (Cert.Reference3Ideal.Read.val_main_v12 (F := Ideal) s w w2 d i : EReal) = _
  unfold Cert.Reference3Ideal.Read.val_main_v12 Cert.Reference3Ideal.Read.val_main_v10 Cert.Reference3Ideal.Read.val_main_v3 Cert.Reference3Ideal.Read.val_main_v7 Cert.Reference3Ideal.Read.val_main_v6 Cert.Reference3Ideal.Read.val_main_v11 Cert.Reference3Ideal.Read.val_main_v2 Cert.Reference3Ideal.Read.val_main_cst Cert.Reference3Ideal.Read.val_main_cst_1 Cert.Reference3Ideal.Read.val_main_cst_2 act Cert.Reference3Ideal.Read.val_main_v1 Cert.Reference3Ideal.Read.val_main_call0_v0 Cert.Reference3Ideal.Read.val_main_call0_cst two
  generalize Cert.Reference3Ideal.Read.val_main_v9 (F := Ideal) w2 d = X
  generalize Cert.Reference3Ideal.Read.val_main_v0 (F := Ideal) s w = A
  pointwise
  by_cases h : 0 < A i
  · rw [if_pos h]
  · rw [if_neg h, max_eq_right (not_lt.mp h), mul_zero, mul_zero]

theorem claim : Cert.algebraic_Kernel3Ideal_Reference3Ideal := by
  intro m g m' g' _ hagree
  refine ⟨fun c => G m c, ?_, ?_⟩
  · refine (θ_run Cert.Kernel3Ideal.defs _ _).mono (fun r h c => ?_) (Cert.Kernel3Ideal.Value.run_blocks m g)
    obtain ⟨h1, h2⟩ := h c
    exact ⟨h1.trans (arr m c), h2⟩
  · refine (θ_run Cert.Reference3Ideal.defs _ _).mono (fun r h c => ?_) (Cert.Reference3Ideal.Value.run (F := Ideal) m' g')
    obtain ⟨h1, h2⟩ := h c
    obtain ⟨e0, e1, e2, e3⟩ := hagree c
    refine ⟨h1.trans ?_, h2⟩
    rw [e0, e1, e2, e3]
    exact (Cert.Reference3Ideal.Read.val_main_v13_eq _ _ _ _ ).trans (ref _ _ _ _ )

end Cert.FfnDa

end
-- ==== Proof.GradFf2.lean ====
/- The second feed-forward weight's gradient: the kernel's result and the reference's are one array. -/
module

public import proofs.«01_k».proof.Proof.Gen.Kernel4Ideal.Value
public import proofs.«01_k».proof.Proof.Gen.Reference4Ideal.Read
public import proofs.«01_k».proof.Proof.Gen.Reference4Ideal.Run
public import proofs.«01_k».proof.Defs
public import proofs.«01_k».proof.Proof.Plain
public import Idealize.ShloMosaic.Lib.Pipeline.ValueKit

@[expose] public section

set_option maxRecDepth 16384

noncomputable section

namespace Cert.GradFf2

open Cert.Plain Cert.Kernel4Ideal Cert.Kernel4Ideal.Gen Cert.Kernel4Ideal.Value
open Idealize.ShloMosaic Idealize.ShloMosaic.TcCoe Idealize.ShloMosaic.Tactic

variable (m : (ℓ : Loc nD τ sig) → Buf (Elt Ideal) ℓ)

/-- The activations before the square. -/
abbrev act (s : Vec Ideal S4224x1024 .f32) (w : Vec Ideal S1024x4096 .f32) : Vec Ideal S4224x4096 .f32 :=
  Cert.Reference4Ideal.Read.val_main_v1 (F := Ideal) s w
abbrev Ra (c : Dev nD) : ℕ → ℕ → EReal :=
  at2 (n := 4224) (m := 4096) (act (m ((c : Thread nD τ).loc main_arg0)) (m ((c : Thread nD τ).loc main_arg1)))
abbrev Dt (c : Dev nD) : ℕ → ℕ → EReal := at2 (n := 4224) (m := 1024) (m ((c : Thread nD τ).loc main_arg3))

theorem V_v2 (c : Dev nD) (r l : ℕ) : at2 (n := 4224) (m := 4096) (V m c main_v2) r l = Ra m c r l := by
  have e : (V m c main_v2 : S4224x4096.Idx → EReal) = act (m ((c : Thread nD τ).loc main_arg0)) (m ((c : Thread nD τ).loc main_arg1)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem V_v3 (c : Dev nD) (r l : ℕ) : at2 (n := 4224) (m := 1024) (V m c main_v3) r l = Dt m c r l := by
  have e : (V m c main_v3 : S4224x1024.Idx → EReal) = m ((c : Thread nD τ).loc main_arg3) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem idx : ∀ t : Fin cfg0.N, (win0_0.index t 0 = t.val % 2 ∧ win0_0.index t 1 = t.val / 2)
    ∧ (win0_1.index t 0 = t.val % 2 ∧ win0_1.index t 1 = 0) :=
  (by decide +kernel : ∀ t : Fin grid0.N, (win0_0.index t 0 = t.val % 2 ∧ win0_0.index t 1 = t.val / 2)
    ∧ (win0_1.index t 0 = t.val % 2 ∧ win0_1.index t 1 = 0))

/-- One half of the sum over the rows. -/
abbrev half (c : Dev nD) (q p : ℕ) (a b : ℕ) : EReal :=
  sumTo 2112 fun k => Ra m c (q * 2112 + k) (p * 1024 + a) * Ra m c (q * 2112 + k) (p * 1024 + a) * Dt m c (q * 2112 + k) b

theorem pay (c : Dev nD) (t : Fin cfg0.N) (acc : Vec Ideal S1024x1024 .f32) (y : S1024x1024.Idx) :
    k0_pay2 (iblk m c 0 t) acc (iblk m c 1 t) y = acc y + half m c (t.val % 2) (t.val / 2) (y 0).val (y 1).val := by
  unfold k0_pay2
  pointwise
  refine congrArg (acc y + ·) (sum_fin' fun k => ?_)
  have e0 : iblk m c 0 t (ix2 k (y 0)) = at2 (n := 4224) (m := 4096) (V m c main_v2) (t.val % 2 * 2112 + k.val) (t.val / 2 * 1024 + (y 0).val) := by
    unfold iblk
    exact eq_at2 (n := 4224) (m := 4096) (V m c main_v2) _ (by blk_simp [idx t]) (by blk_simp [idx t])
  have e1 : iblk m c 1 t (ix2 k (y 1)) = at2 (n := 4224) (m := 1024) (V m c main_v3) (t.val % 2 * 2112 + k.val) (y 1).val := by
    unfold iblk
    exact eq_at2 (n := 4224) (m := 1024) (V m c main_v3) _ (by blk_simp [idx t]) (by blk_simp [idx t])
  rw [e0, e1, V_v2, V_v3]

/-- The result. -/
def G (c : Dev nD) : S4096x1024.Idx → EReal := fun i =>
  sumTo 4224 fun k => Ra m c k (i 0).val * Ra m c k (i 0).val * Dt m c k (i 1).val

theorem arr (c : Dev nD) : G2 m c = G m c := by
  funext i
  have h0 : (i 0).val < 4096 := (i 0).isLt
  have h1 : (i 1).val < 1024 := (i 1).isLt
  have hN : cfg0.N = 8 := N_0
  have hr : run2Of i = (i 0).val / 1024 := by show 1 * ((i 0).val / 1024 - 0) + 1 * ((i 1).val / 1024 - 0) = _; omega
  unfold G2
  rw [dif_pos (by omega)]
  show step2 m c _ _ (reset2 m c _ _) _ = _
  unfold step2 reset2
  rw [pay, pay]
  have hz : (k0_pay1 (F := Ideal)) (loc2Of i) = (0 : EReal) := by unfold k0_pay1; pointwise
  rw [hz, zero_add]
  unfold G
  rw [show (4224 : ℕ) = 2112 + 2112 from rfl, sumTo_add]
  have q0 : 2 * run2Of i % 2 = 0 := by omega
  have q1 : (2 * run2Of i + 0 + 1) % 2 = 1 := by omega
  have q2 : 2 * run2Of i / 2 = (i 0).val / 1024 := by omega
  have q3 : (2 * run2Of i + 0 + 1) / 2 = (i 0).val / 1024 := by omega
  have l0 : (i 0).val / 1024 * 1024 + (i 0).val % 1024 = (i 0).val := by omega
  have l1 : (i 1).val % 1024 = (i 1).val := by omega
  show half m c (2 * run2Of i % 2) (2 * run2Of i / 2) ((i 0).val % 1024) ((i 1).val % 1024)
    + half m c ((2 * run2Of i + 0 + 1) % 2) ((2 * run2Of i + 0 + 1) / 2) ((i 0).val % 1024) ((i 1).val % 1024) = _
  rw [q0, q1, q2, q3, l1]
  unfold half
  rw [l0]
  simp only [zero_mul, zero_add, one_mul]

theorem ref (s : Vec Ideal S4224x1024 .f32) (w : Vec Ideal S1024x4096 .f32) (d : Vec Ideal S4224x1024 .f32) :
    (Cert.Reference4Ideal.Read.val_main_v5 (F := Ideal) s w d : S4096x1024.Idx → EReal)
      = fun i => sumTo 4224 fun k => at2 (act s w) k (i 0).val * at2 (act s w) k (i 0).val * at2 d k (i 1).val := by
  refine ext2 fun r l hr hl => ?_
  rw [at2_mk _ hr hl, at2_mk _ hr hl]
  refine (Cert.Reference4Ideal.Read.val_main_v5_apply s w d _).trans ((Cert.Reference4Ideal.Read.val_main_v4_apply s w d _).trans (sum_fin' fun k => ?_))
  rw [Cert.Reference4Ideal.Read.val_main_v2_apply]
  refine (mul_comm _ _).trans (congrArg₂ (· * ·) (congrArg₂ (· * ·) ?_ ?_) ?_)
  · exact eq_at2 (act s w) _ rfl rfl
  · exact eq_at2 (act s w) _ rfl rfl
  · exact eq_at2 d _ rfl rfl

theorem claim : Cert.algebraic_Kernel4Ideal_Reference4Ideal := by
  intro m g m' g' _ hagree
  refine ⟨fun c => G m c, ?_, ?_⟩
  · refine (θ_run Cert.Kernel4Ideal.defs _ _).mono (fun r h c => ?_) (Cert.Kernel4Ideal.Value.run m g)
    obtain ⟨h1, h2⟩ := h c
    exact ⟨h1.trans (arr m c), h2⟩
  · refine (θ_run Cert.Reference4Ideal.defs _ _).mono (fun r h c => ?_) (Cert.Reference4Ideal.Value.run (F := Ideal) m' g')
    obtain ⟨h1, h2⟩ := h c
    obtain ⟨e0, e1, e2, e3⟩ := hagree c
    refine ⟨h1.trans ?_, h2⟩
    rw [e0, e1, e3]
    exact (Cert.Reference4Ideal.Read.val_main_v5_eq _ _ _).trans (ref _ _ _)

end Cert.GradFf2

end
-- ==== Proof.GradFf1.lean ====
/- The first feed-forward weight's gradient: the kernel's result and the reference's are one array. -/
module

public import proofs.«01_k».proof.Proof.Gen.Kernel5Ideal.Value
public import proofs.«01_k».proof.Proof.Gen.Reference5Ideal.Read
public import proofs.«01_k».proof.Proof.Gen.Reference5Ideal.Run
public import proofs.«01_k».proof.Defs
public import proofs.«01_k».proof.Proof.Plain
public import Idealize.ShloMosaic.Lib.Pipeline.ValueKit

@[expose] public section

set_option maxRecDepth 16384

noncomputable section

namespace Cert.GradFf1

open Cert.Plain Cert.Kernel5Ideal Cert.Kernel5Ideal.Gen Cert.Kernel5Ideal.Value
open Idealize.ShloMosaic Idealize.ShloMosaic.TcCoe Idealize.ShloMosaic.Tactic

variable (m : (ℓ : Loc nD τ sig) → Buf (Elt Ideal) ℓ)

/-- The gradient at the feed-forward's inner sums. -/
abbrev inner (s : Vec Ideal S4224x1024 .f32) (w : Vec Ideal S1024x4096 .f32) (w2 : Vec Ideal S4096x1024 .f32)
    (d : Vec Ideal S4224x1024 .f32) : Vec Ideal S4224x4096 .f32 :=
  Cert.Reference5Ideal.Read.val_main_v12 (F := Ideal) s w w2 d
abbrev Da (c : Dev nD) : ℕ → ℕ → EReal :=
  at2 (n := 4224) (m := 4096) (inner (m ((c : Thread nD τ).loc main_arg0)) (m ((c : Thread nD τ).loc main_arg1))
    (m ((c : Thread nD τ).loc main_arg2)) (m ((c : Thread nD τ).loc main_arg3)))
abbrev S (c : Dev nD) : ℕ → ℕ → EReal := at2 (n := 4224) (m := 1024) (m ((c : Thread nD τ).loc main_arg0))

theorem V_v14 (c : Dev nD) (r l : ℕ) : at2 (n := 4224) (m := 4096) (V m c main_v14) r l = Da m c r l := by
  have e : (V m c main_v14 : S4224x4096.Idx → EReal) = inner (m ((c : Thread nD τ).loc main_arg0)) (m ((c : Thread nD τ).loc main_arg1))
      (m ((c : Thread nD τ).loc main_arg2)) (m ((c : Thread nD τ).loc main_arg3)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem V_v13 (c : Dev nD) (r l : ℕ) : at2 (n := 4224) (m := 1024) (V m c main_v13) r l = S m c r l := by
  have e : (V m c main_v13 : S4224x1024.Idx → EReal) = m ((c : Thread nD τ).loc main_arg0) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_relu.body]
    after_results
    rfl
  rw [e]

theorem idx : ∀ t : Fin cfg0.N, (win0_0.index t 0 = t.val % 2 ∧ win0_0.index t 1 = 0)
    ∧ (win0_1.index t 0 = t.val % 2 ∧ win0_1.index t 1 = t.val / 2) :=
  (by decide +kernel : ∀ t : Fin grid0.N, (win0_0.index t 0 = t.val % 2 ∧ win0_0.index t 1 = 0)
    ∧ (win0_1.index t 0 = t.val % 2 ∧ win0_1.index t 1 = t.val / 2))

/-- One half of the sum over the rows. -/
abbrev half (c : Dev nD) (q p : ℕ) (a b : ℕ) : EReal :=
  sumTo 2112 fun k => S m c (q * 2112 + k) a * Da m c (q * 2112 + k) (p * 1024 + b)

theorem pay (c : Dev nD) (t : Fin cfg0.N) (acc : Vec Ideal S1x1024x1024 .f32) (y : S1x1024x1024.Idx) :
    k0_pay2 acc (iblk m c 0 t) (iblk m c 1 t) y = acc y + half m c (t.val % 2) (t.val / 2) (y 1).val (y 2).val := by
  unfold k0_pay2
  pointwise
  refine congrArg₂ (· + ·) ?_ (sum_fin' fun k => ?_)
  · refine congrArg acc (funext fun a => ?_)
    match a with
    | ⟨0, _⟩ => exact Subsingleton.elim (α := Fin 1) _ _
    | ⟨1, _⟩ => rfl
    | ⟨2, _⟩ => rfl
  have e0 : iblk m c 0 t (ix2 k (y 1)) = at2 (n := 4224) (m := 1024) (V m c main_v13) (t.val % 2 * 2112 + k.val) (y 1).val := by
    unfold iblk
    exact eq_at2 (n := 4224) (m := 1024) (V m c main_v13) _ (by blk_simp [idx t]) (by blk_simp [idx t])
  have e1 : iblk m c 1 t (ix2 k (y 2)) = at2 (n := 4224) (m := 4096) (V m c main_v14) (t.val % 2 * 2112 + k.val) (t.val / 2 * 1024 + (y 2).val) := by
    unfold iblk
    exact eq_at2 (n := 4224) (m := 4096) (V m c main_v14) _ (by blk_simp [idx t]) (by blk_simp [idx t])
  rw [e0, e1, V_v13, V_v14]

/-- The result. -/
def G (c : Dev nD) : S4x1024x1024.Idx → EReal := fun i =>
  sumTo 4224 fun k => S m c k (i 1).val * Da m c k ((i 0).val * 1024 + (i 2).val)

theorem arr (c : Dev nD) : G2 m c = G m c := by
  funext i
  have h0 : (i 0).val < 4 := (i 0).isLt
  have h1 : (i 1).val < 1024 := (i 1).isLt
  have h2 : (i 2).val < 1024 := (i 2).isLt
  have hN : cfg0.N = 8 := N_0
  have hr : run2Of i = (i 0).val := by unfold run2Of; omega
  unfold G2
  rw [dif_pos (by omega)]
  show step2 m c _ _ (reset2 m c _ _) _ = _
  unfold step2 reset2
  rw [pay, pay]
  have hz : (k0_pay1 (F := Ideal)) (loc2Of i) = (0 : EReal) := by unfold k0_pay1; pointwise
  rw [hz, zero_add]
  unfold G
  rw [show (4224 : ℕ) = 2112 + 2112 from rfl, sumTo_add]
  have q0 : 2 * run2Of i % 2 = 0 := by omega
  have q1 : (2 * run2Of i + 0 + 1) % 2 = 1 := by omega
  have q2 : 2 * run2Of i / 2 = (i 0).val := by omega
  have q3 : (2 * run2Of i + 0 + 1) / 2 = (i 0).val := by omega
  have l0 : (i 1).val % 1024 = (i 1).val := by omega
  have l1 : (i 2).val % 1024 = (i 2).val := by omega
  show half m c (2 * run2Of i % 2) (2 * run2Of i / 2) ((i 1).val % 1024) ((i 2).val % 1024)
    + half m c ((2 * run2Of i + 0 + 1) % 2) ((2 * run2Of i + 0 + 1) / 2) ((i 1).val % 1024) ((i 2).val % 1024) = _
  rw [q0, q1, q2, q3, l0, l1]
  unfold half
  simp only [zero_mul, zero_add, one_mul]

theorem ref (s : Vec Ideal S4224x1024 .f32) (w : Vec Ideal S1024x4096 .f32) (w2 : Vec Ideal S4096x1024 .f32) (d : Vec Ideal S4224x1024 .f32) :
    (Cert.Reference5Ideal.Read.val_main_v16 (F := Ideal) s w w2 d : S4x1024x1024.Idx → EReal)
      = fun i => sumTo 4224 fun k => at2 s k (i 1).val * at2 (inner s w w2 d) k ((i 0).val * 1024 + (i 2).val) := by
  funext i
  have h0 : (i 0).val < 4 := (i 0).isLt
  have h1 : (i 1).val < 1024 := (i 1).isLt
  have h2 : (i 2).val < 1024 := (i 2).isLt
  have h3 : (i 0).val * 1024 + (i 2).val < 4096 := by omega
  have e : Cert.Reference5Ideal.Read.val_main_v16 (F := Ideal) s w w2 d i
      = Cert.Reference5Ideal.Read.val_main_v14 (F := Ideal) s w w2 d (ix2 (i 1) ⟨(i 0).val * 1024 + (i 2).val, h3⟩) := by
    unfold Cert.Reference5Ideal.Read.val_main_v16 Cert.Reference5Ideal.Read.val_main_v15
    generalize Cert.Reference5Ideal.Read.val_main_v14 (F := Ideal) s w w2 d = X
    pointwise
  refine e.trans ((Cert.Reference5Ideal.Read.val_main_v14_apply s w w2 d _).trans ((Cert.Reference5Ideal.Read.val_main_v13_apply s w w2 d _).trans (sum_fin' fun k => ?_)))
  refine (mul_comm _ _).trans (congrArg₂ (· * ·) ?_ ?_)
  · exact eq_at2 s _ rfl rfl
  · exact eq_at2 (inner s w w2 d) _ rfl rfl

theorem claim : Cert.algebraic_Kernel5Ideal_Reference5Ideal := by
  intro m g m' g' _ hagree
  refine ⟨fun c => G m c, ?_, ?_⟩
  · refine (θ_run Cert.Kernel5Ideal.defs _ _).mono (fun r h c => ?_) (Cert.Kernel5Ideal.Value.run m g)
    obtain ⟨h1, h2⟩ := h c
    exact ⟨h1.trans (arr m c), h2⟩
  · refine (θ_run Cert.Reference5Ideal.defs _ _).mono (fun r h c => ?_) (Cert.Reference5Ideal.Value.run (F := Ideal) m' g')
    obtain ⟨h1, h2⟩ := h c
    obtain ⟨e0, e1, e2, e3⟩ := hagree c
    refine ⟨h1.trans ?_, h2⟩
    rw [e0, e1, e2, e3]
    exact (Cert.Reference5Ideal.Read.val_main_v16_eq _ _ _ _).trans (ref _ _ _ _)

end Cert.GradFf1

end
-- ==== Proof.GradWOut.lean ====
/- The output projection's gradient: the kernel's result and the reference's are one array. -/
module

public import proofs.«01_k».proof.Proof.Gen.Kernel6Ideal.Value
public import proofs.«01_k».proof.Proof.Gen.Reference6Ideal.Read
public import proofs.«01_k».proof.Proof.Gen.Reference6Ideal.Run
public import proofs.«01_k».proof.Defs
public import proofs.«01_k».proof.Proof.Plain
public import Idealize.ShloMosaic.Lib.Pipeline.ValueKit

@[expose] public section

set_option maxRecDepth 16384

noncomputable section

namespace Cert.GradWOut

open Cert.Plain Cert.Kernel6Ideal Cert.Kernel6Ideal.Gen
open Idealize.ShloMosaic Idealize.ShloMosaic.TcCoe Idealize.ShloMosaic.Tactic

variable (m : (ℓ : Loc nD τ sig) → Buf (Elt Ideal) ℓ)

abbrev A (c : Dev nD) : ℕ → ℕ → EReal := at2 (n := 4224) (m := 512) (m ((c : Thread nD τ).loc main_arg0))
abbrev B (c : Dev nD) : ℕ → ℕ → EReal := at2 (n := 4224) (m := 512) (m ((c : Thread nD τ).loc main_arg1))
abbrev D (c : Dev nD) : ℕ → ℕ → EReal := at2 (n := 4224) (m := 1024) (m ((c : Thread nD τ).loc main_arg3))

theorem V_A (c : Dev nD) (r l : ℕ) : at2 (n := 4224) (m := 512) (V m c main_v0) r l = A m c r l := by
  have e : (V m c main_v0 : S4224x512.Idx → EReal) = (m ((c : Thread nD τ).loc main_arg0)) := by
    unfold V
    simp only [hostOps0, List.flatten_cons, List.flatten_nil, List.append_nil, List.cons_append, List.nil_append]
    after_results
    rfl
  rw [e]

theorem V_B (c : Dev nD) (r l : ℕ) : at2 (n := 4224) (m := 512) (V m c main_v1) r l = B m c r l := by
  have e : (V m c main_v1 : S4224x512.Idx → EReal) = (m ((c : Thread nD τ).loc main_arg1)) := by
    unfold V
    simp only [hostOps0, List.flatten_cons, List.flatten_nil, List.append_nil, List.cons_append, List.nil_append]
    after_results
    rfl
  rw [e]

theorem V_D (c : Dev nD) (r l : ℕ) : at2 (n := 4224) (m := 1024) (V m c main_v2) r l = D m c r l := by
  have e : (V m c main_v2 : S4224x1024.Idx → EReal) = (m ((c : Thread nD τ).loc main_arg3)) := by
    unfold V
    simp only [hostOps0, List.flatten_cons, List.flatten_nil, List.append_nil, List.cons_append, List.nil_append]
    after_results
    rfl
  rw [e]

theorem idx : ∀ t : Fin cfg0.N, (win0_0.index t 0 = t.val % 2 ∧ win0_0.index t 1 = 0) ∧ (win0_1.index t 0 = t.val % 2 ∧ win0_1.index t 1 = 0)
    ∧ (win0_2.index t 0 = t.val % 2 ∧ win0_2.index t 1 = 0) ∧ (win0_3.index t 0 = t.val / 2 ∧ win0_3.index t 1 = 0) :=
  (by decide +kernel : ∀ t : Fin grid0.N, (win0_0.index t 0 = t.val % 2 ∧ win0_0.index t 1 = 0) ∧ (win0_1.index t 0 = t.val % 2 ∧ win0_1.index t 1 = 0)
    ∧ (win0_2.index t 0 = t.val % 2 ∧ win0_2.index t 1 = 0) ∧ (win0_3.index t 0 = t.val / 2 ∧ win0_3.index t 1 = 0))

theorem flush_iff : ∀ t : Fin cfg0.N, (cfg0.win 3).flush t = true → t.val % 2 = 1 :=
  (by decide +kernel : ∀ t : Fin grid0.N, (cfg0.win 3).flush t = true → t.val % 2 = 1)

theorem blkA (c : Dev nD) (t : Fin cfg0.N) (k : Fin 2112) (a : Fin 512) :
    iblk m c 0 t (ix2 k a) = A m c (t.val % 2 * 2112 + k.val) a.val := by
  rw [← V_A]
  unfold iblk
  exact eq_at2 (n := 4224) (m := 512) (V m c main_v0) _ (by blk_simp [idx t]) (by blk_simp [idx t])

theorem blkB (c : Dev nD) (t : Fin cfg0.N) (k : Fin 2112) (a : Fin 512) :
    iblk m c 1 t (ix2 k a) = B m c (t.val % 2 * 2112 + k.val) a.val := by
  rw [← V_B]
  unfold iblk
  exact eq_at2 (n := 4224) (m := 512) (V m c main_v1) _ (by blk_simp [idx t]) (by blk_simp [idx t])

theorem blkD (c : Dev nD) (t : Fin cfg0.N) (k : Fin 2112) (a : Fin 1024) :
    iblk m c 2 t (ix2 k a) = D m c (t.val % 2 * 2112 + k.val) a.val := by
  rw [← V_D]
  unfold iblk
  exact eq_at2 (n := 4224) (m := 1024) (V m c main_v2) _ (by blk_simp [idx t]) (by blk_simp [idx t])

/-- One half of the sum over the rows, at a point of either row block. -/
abbrev half (c : Dev nD) (p q a b : ℕ) : EReal :=
  sumTo 2112 fun k => (if p = 0 then A m c (q * 2112 + k) a else B m c (q * 2112 + k) a) * D m c (q * 2112 + k) b

theorem pay2 (acc : Vec Ideal S512x1024 .f32) (c : Dev nD) (t : Fin cfg0.N) (h : t.val < 2) (y : S512x1024.Idx) :
    k0_pay2 acc (iblk m c 0 t) (iblk m c 2 t) y = acc y + half m c (t.val / 2) (t.val % 2) (y 0).val (y 1).val := by
  unfold k0_pay2
  pointwise
  refine congrArg (acc y + ·) (sum_fin' fun k => ?_)
  rw [if_pos (by omega)]
  exact congrArg₂ (fun a b : EReal => a * b) (blkA m c t k (y 0)) (blkD m c t k (y 1))

theorem pay3 (acc : Vec Ideal S512x1024 .f32) (c : Dev nD) (t : Fin cfg0.N) (h : 2 ≤ t.val) (y : S512x1024.Idx) :
    k0_pay3 acc (iblk m c 1 t) (iblk m c 2 t) y = acc y + half m c (t.val / 2) (t.val % 2) (y 0).val (y 1).val := by
  unfold k0_pay3
  pointwise
  refine congrArg (acc y + ·) (sum_fin' fun k => ?_)
  rw [if_neg (by omega)]
  exact congrArg₂ (fun a b : EReal => a * b) (blkB m c t k (y 0)) (blkD m c t k (y 1))

theorem pay1 (y : S512x1024.Idx) : k0_pay1 (F := Ideal) y = (0 : EReal) := by unfold k0_pay1; pointwise

theorem even (c : Dev nD) (t : Fin cfg0.N) (h : t.val % 2 = 0) (y : S512x1024.Idx) :
    (outsAt0 m c t.val t.isLt) y = half m c (t.val / 2) (t.val % 2) (y 0).val (y 1).val := by
  by_cases h1 : t.val < 2
  · rw [outsAt0_A m c t h h1 (by omega)]
    frame_out
    rw [pay2 m _ c t h1, pay1, zero_add]
  · rw [outsAt0_C m c t h h1 (by omega)]
    frame_out
    rw [pay3 m _ c t (by omega), pay1, zero_add]

theorem odd (c : Dev nD) (t : Fin cfg0.N) (h : t.val % 2 = 1) (y : S512x1024.Idx) :
    (outsAt0 m c t.val t.isLt) y = outsAt0 m c (t.val - 1) (Nat.lt_of_le_of_lt (Nat.sub_le _ _) t.isLt) y
      + half m c (t.val / 2) (t.val % 2) (y 0).val (y 1).val := by
  by_cases h1 : t.val < 2
  · rw [outsAt0_B m c t (by omega) h1 (by omega)]
    frame_out
    rw [pay2 m _ c t h1]
  · rw [outsAt0_D m c t (by omega) h1 (by omega)]
    frame_out
    rw [pay3 m _ c t (by omega)]

/-- The result. -/
def G (c : Dev nD) : S1024x1024.Idx → EReal := fun i =>
  sumTo 4224 fun k => (if (i 0).val / 512 = 0 then A m c k ((i 0).val % 512) else B m c k ((i 0).val % 512)) * D m c k (i 1).val

theorem arr (c : Dev nD) : (dats m 0 c).arrAt 3 cfg0.N = G m c := by
  refine (dats m 0 c).arrAt_eq_of_covers 3 _ (by decide +kernel) fun t hf y => ?_
  have hm := flush_iff t hf
  have hN : cfg0.N = 4 := N_0
  have ht := t.isLt
  have y0 : (y 0).val < 512 := (y 0).isLt
  have e : (G m c (((cfg0.win 3).blk t).view.emb y) : EReal) = half m c (t.val / 2) 0 (y 0).val (y 1).val + half m c (t.val / 2) 1 (y 0).val (y 1).val := by
    unfold G half
    blk_simp [idx t]
    rw [show (t.val / 2 * 512 + (y 0).val) / 512 = t.val / 2 by omega, show (t.val / 2 * 512 + (y 0).val) % 512 = (y 0).val by omega,
      show (4224 : ℕ) = 2112 + 2112 from rfl, sumTo_add]
  blk_simp
  rw [after0_3]
  refine Eq.trans ?_ e.symm
  refine (odd m c t hm _).trans ?_
  have e1 := even m c ⟨t.val - 1, by omega⟩ (by show (t.val - 1) % 2 = 0; omega) y
  refine (congrArg₂ (fun a b : EReal => a + b) e1 rfl).trans ?_
  show half m c ((t.val - 1) / 2) ((t.val - 1) % 2) _ _ + half m c (t.val / 2) (t.val % 2) _ _ = _
  rw [hm, show (t.val - 1) / 2 = t.val / 2 by omega, show (t.val - 1) % 2 = 0 by omega]

section Ref

variable (a b : Vec Ideal S4224x512 .f32) (d : Vec Ideal S4224x1024 .f32)

theorem cat (k : Fin 4224) (l : Fin 1024) :
    Cert.Reference6Ideal.Read.val_main_v0 (F := Ideal) a b (ix2 k l)
      = (if l.val / 512 = 0 then at2 (n := 4224) (m := 512) a k.val (l.val % 512) else at2 (n := 4224) (m := 512) b k.val (l.val % 512) : EReal) := by
  have hl := l.isLt
  unfold Cert.Reference6Ideal.Read.val_main_v0
  by_cases h : l.val < 512
  · rw [if_pos (show l.val / 512 = 0 by omega)]
    pointwise
    split_ifs <;> first | (exfalso; omega) | exact eq_at2 (n := 4224) (m := 512) _ _ rfl (by first | rfl | (simp only [ix2]; omega))
  · rw [if_neg (show ¬l.val / 512 = 0 by omega)]
    pointwise
    split_ifs <;> first | (exfalso; omega) | exact eq_at2 (n := 4224) (m := 512) _ _ rfl (by first | rfl | (simp only [ix2]; omega))

theorem ref (i : S1024x1024.Idx) : Cert.Reference6Ideal.Read.val_main_v3 (F := Ideal) a b d i
    = (sumTo 4224 fun k => (if (i 0).val / 512 = 0 then at2 (n := 4224) (m := 512) a k ((i 0).val % 512) else at2 (n := 4224) (m := 512) b k ((i 0).val % 512))
        * at2 (n := 4224) (m := 1024) d k (i 1).val : EReal) := by
  unfold Cert.Reference6Ideal.Read.val_main_v3 Cert.Reference6Ideal.Read.val_main_v2
  generalize hz : Cert.Reference6Ideal.Read.val_main_v0 (F := Ideal) a b = Z
  pointwise
  refine sum_fin' fun k => ?_
  subst hz
  refine (mul_comm (G := EReal) _ _).trans ?_
  exact congrArg₂ (fun a b : EReal => a * b) (cat a b k (i 0)) (eq_at2 (n := 4224) (m := 1024) d _ rfl rfl)

end Ref

/-- The kernel's result is the reference's. -/
theorem claim : Cert.algebraic_Kernel6Ideal_Reference6Ideal := by
  intro m g m' g' _ hagree
  refine ⟨fun c => G m c, ?_, ?_⟩
  · refine (θ_run Cert.Kernel6Ideal.defs _ _).mono (fun r h c => ?_) (Cert.Kernel6Ideal.Value.run_blocks m g)
    obtain ⟨h1, h2⟩ := h c
    exact ⟨h1.trans (arr m c), h2⟩
  · refine (θ_run Cert.Reference6Ideal.defs _ _).mono (fun r h c => ?_) (Cert.Reference6Ideal.Value.run (F := Ideal) m' g')
    obtain ⟨h1, h2⟩ := h c
    obtain ⟨e0, e1, e2, e3⟩ := hagree c
    refine ⟨h1.trans ?_, h2⟩
    rw [e0, e1, e3]
    exact (Cert.Reference6Ideal.Read.val_main_v3_eq _ _ _).trans (funext fun i => ref _ _ _ i)

end Cert.GradWOut

end
-- ==== Proof.InProj.lean ====
/- The input projection: the kernel's result and the reference's are one array. -/
module

public import proofs.«01_k».proof.Proof.Gen.Kernel7Ideal.Value
public import proofs.«01_k».proof.Proof.Gen.Reference7Ideal.Read
public import proofs.«01_k».proof.Proof.Gen.Reference7Ideal.Run
public import proofs.«01_k».proof.Defs
public import proofs.«01_k».proof.Proof.Plain
public import Idealize.ShloMosaic.Lib.Pipeline.ValueKit

@[expose] public section

set_option maxRecDepth 16384

noncomputable section

namespace Cert.InProj

open Cert.Plain Cert.Kernel7Ideal Cert.Kernel7Ideal.Gen
open Idealize.ShloMosaic Idealize.ShloMosaic.TcCoe Idealize.ShloMosaic.Tactic

variable (m : (ℓ : Loc nD τ sig) → Buf (Elt Ideal) ℓ)

/-- The rows' entries and the weights', at plain numbers. -/
abbrev S (c : Dev nD) : ℕ → ℕ → EReal := at2 (n := 4224) (m := 1024) (m ((c : Thread nD τ).loc main_arg0))
abbrev W (c : Dev nD) : ℕ → ℕ → EReal := at2 (n := 1024) (m := 2576) (m ((c : Thread nD τ).loc main_arg1))

theorem V_v3 (c : Dev nD) (r l : ℕ) : at2 (n := 4224) (m := 1024) (V m c main_v3) r l = S m c r l := by
  have e : (V m c main_v3 : S4224x1024.Idx → EReal) = m ((c : Thread nD τ).loc main_arg0) := by
    unfold V
    simp only [hostOps0, hostOps0_1, hostOps0_2, List.flatten_cons, List.flatten_nil, List.append_nil, List.cons_append, List.nil_append, fn_pad.body, StableHlo.TRef.binary, StableHlo.TRef.unary, StableHlo.TRef.toBuf, StableHlo.TRef.ofBuf, cast_eq]
    after_results
    rfl
  rw [e]

theorem V_v2 (c : Dev nD) (r l : ℕ) : at2 (n := 2688) (m := 1024) (V m c main_v2) r l = W m c l r := by
  have e : V m c main_v2 = pad S2688x1024 ![0, 0] ![112, 0] ![0, 0]
      (transpose S2576x1024 [1, 0] (m ((c : Thread nD τ).loc main_arg1)) transposes_S1024x2576_S2576x1024_1_0)
      (sitofp (F := Ideal) .bf16 (constantI S_ 32 0#32)) pads_S2576x1024_S2688x1024_01120_000 h_S_ := by
    unfold V
    simp only [hostOps0, hostOps0_1, hostOps0_2, List.flatten_cons, List.flatten_nil, List.append_nil, List.cons_append, List.nil_append, fn_pad.body, StableHlo.TRef.binary, StableHlo.TRef.unary, StableHlo.TRef.toBuf, StableHlo.TRef.ofBuf, cast_eq]
    after_results
    rfl
  rw [e, at2_pad _ _ _ _ (by decide) (by decide) (by pointwise; exact sitofp_zero _), at2_transpose]

/-- The result. -/
def G (c : Dev nD) : S4224x2688.Idx → EReal := fun i => ∑ k : Fin 1024, S m c (i 0).val k.val * W m c k.val (i 1).val

theorem idx : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0))

theorem arr (c : Dev nD) : (dats m 0 c).arrAt 2 cfg0.N = G m c := by
  refine (dats m 0 c).arrAt_eq_of_covers 2 _ (by decide +kernel) fun t hf y => ?_
  blk_simp
  rw [after0_2]
  frame_out
  unfold k0_pay1
  pointwise
  unfold G
  refine Finset.sum_congr (M := EReal) rfl fun k _ => ?_
  have e0 : iblk m c 0 t (ix2 (y 0) k) = at2 (n := 4224) (m := 1024) (V m c main_v3) (t.val * 704 + (y 0).val) k.val := by
    unfold iblk
    exact eq_at2 (n := 4224) (m := 1024) (V m c main_v3) _ (by blk_simp [idx t]) (by blk_simp [idx t])
  have e1 : iblk m c 1 t (ix2 (y 1) k) = at2 (n := 2688) (m := 1024) (V m c main_v2) (y 1).val k.val := by
    unfold iblk
    exact eq_at2 (n := 2688) (m := 1024) (V m c main_v2) _ (by blk_simp [idx t]) (by blk_simp [idx t])
  rw [e0, e1, V_v3, V_v2]
  blk_simp [idx t]

theorem ref (s : S4224x1024.Idx → EReal) (w : S1024x2576.Idx → EReal) :
    (Cert.Reference7Ideal.Read.val_main_v1 (F := Ideal) s w : S4224x2688.Idx → EReal)
      = fun i => ∑ k : Fin 1024, at2 s (i 0).val k.val * at2 w k.val (i 1).val := by
  refine ext2 fun r l hr hl => ?_
  unfold Cert.Reference7Ideal.Read.val_main_v1
  rw [at2_pad _ _ _ _ (by decide) (by decide) (by unfold Cert.Reference7Ideal.Read.val_main_call0_v0 Cert.Reference7Ideal.Read.val_main_c; pointwise; exact sitofp_zero _)]
  rw [at2_mk (fun i : S4224x2688.Idx => _) hr hl]
  by_cases h : l < 2576
  · rw [at2_mk _ hr h]
    refine (Cert.Reference7Ideal.Read.val_main_v0_apply s w _).trans (Finset.sum_congr rfl fun k _ => ?_)
    rw [eq_at2 s _ rfl rfl, eq_at2 w _ rfl rfl]
    rfl
  · rw [at2_out _ (by omega)]
    refine (Finset.sum_eq_zero fun k _ => ?_).symm
    show _ * at2 w k.val l = 0
    rw [at2_out w (by omega), mul_zero]

theorem claim : Cert.algebraic_Kernel7Ideal_Reference7Ideal := by
  intro m g m' g' _ hagree
  refine ⟨fun c => G m c, ?_, ?_⟩
  · refine (θ_run Cert.Kernel7Ideal.defs _ _).mono (fun r h c => ?_) (Cert.Kernel7Ideal.Value.run_blocks m g)
    obtain ⟨h1, h2, h3⟩ := h c
    exact ⟨h1.trans (arr m c), h2, h3⟩
  · refine (θ_run Cert.Reference7Ideal.defs _ _).mono (fun r h c => ?_) (Cert.Reference7Ideal.Value.run (F := Ideal) m' g')
    obtain ⟨h1, h2, h3⟩ := h c
    obtain ⟨e1, e2⟩ := hagree c
    refine ⟨h1.trans ?_, h2, h3⟩
    rw [e1, e2]
    exact (Cert.Reference7Ideal.Read.val_main_v1_eq _ _).trans (ref _ _)

end Cert.InProj

end
-- ==== Proof.InProjBwd.lean ====
/- The input projection's gradient with respect to its rows: the kernel's result and the reference's are one array. -/
module

public import proofs.«01_k».proof.Proof.Gen.Kernel8Ideal.Value
public import proofs.«01_k».proof.Proof.Gen.Reference8Ideal.Read
public import proofs.«01_k».proof.Proof.Gen.Reference8Ideal.Run
public import proofs.«01_k».proof.Defs
public import proofs.«01_k».proof.Proof.Plain
public import Idealize.ShloMosaic.Lib.Pipeline.ValueKit

@[expose] public section

set_option maxRecDepth 16384

noncomputable section

namespace Cert.InProjBwd

open Cert.Plain Cert.Kernel8Ideal Cert.Kernel8Ideal.Gen
open Idealize.ShloMosaic Idealize.ShloMosaic.TcCoe Idealize.ShloMosaic.Tactic

variable (m : (ℓ : Loc nD τ sig) → Buf (Elt Ideal) ℓ)

theorem hz2 : (![0, 0] : Fin 2 → ℕ) = fun _ => 0 := by decide
theorem hz4 : (![0, 0, 0, 0] : Fin 4 → ℕ) = fun _ => 0 := by decide

/-- The weights and the seven pieces of the result's gradient, at plain numbers. -/
abbrev W (c : Dev nD) : ℕ → ℕ → EReal := at2 (n := 1024) (m := 2576) (m ((c : Thread nD τ).loc main_arg1))
abbrev P0 (c : Dev nD) : ℕ → ℕ → EReal := at2 (n := 4224) (m := 512) (m ((c : Thread nD τ).loc main_arg2))
abbrev P1 (c : Dev nD) : ℕ → ℕ → EReal := at2 (n := 4224) (m := 512) (m ((c : Thread nD τ).loc main_arg3))
abbrev P2 (c : Dev nD) : ℕ → ℕ → EReal := at2 (n := 4224) (m := 256) (m ((c : Thread nD τ).loc main_arg4))
abbrev P3 (c : Dev nD) : ℕ → ℕ → EReal := at2 (n := 4224) (m := 256) (m ((c : Thread nD τ).loc main_arg5))
abbrev P4 (c : Dev nD) : ℕ → ℕ → EReal := at2 (n := 4224) (m := 512) (m ((c : Thread nD τ).loc main_arg6))
abbrev P5 (c : Dev nD) : ℕ → ℕ → EReal := at2 (n := 4224) (m := 512) (m ((c : Thread nD τ).loc main_arg7))
/-- The two halves of the last piece added, at row `r` of all rows. -/
abbrev both (x : S2x2x2112x16.Idx → EReal) (r l : ℕ) : EReal :=
  at4 (q := 2) (p := 2) (n := 2112) (m := 16) x (r / 2112) 0 (r % 2112) l + at4 (q := 2) (p := 2) (n := 2112) (m := 16) x (r / 2112) 1 (r % 2112) l
abbrev P6 (c : Dev nD) : ℕ → ℕ → EReal := both (m ((c : Thread nD τ).loc main_arg8))
abbrev D (c : Dev nD) : ℕ → ℕ → EReal := at2 (n := 4224) (m := 1024) (m ((c : Thread nD τ).loc main_arg9))

theorem V_p0 (c : Dev nD) (r l : ℕ) : at2 (n := 4224) (m := 512) (V m c main_v3) r l = P0 m c r l := by
  have e : (V m c main_v3 : S4224x512.Idx → EReal) = m ((c : Thread nD τ).loc main_arg2) := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e]

theorem V_p1 (c : Dev nD) (r l : ℕ) : at2 (n := 4224) (m := 512) (V m c main_v4) r l = P1 m c r l := by
  have e : (V m c main_v4 : S4224x512.Idx → EReal) = m ((c : Thread nD τ).loc main_arg3) := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e]

theorem V_p2 (c : Dev nD) (r l : ℕ) : at2 (n := 4224) (m := 256) (V m c main_v5) r l = P2 m c r l := by
  have e : (V m c main_v5 : S4224x256.Idx → EReal) = m ((c : Thread nD τ).loc main_arg4) := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e]

theorem V_p3 (c : Dev nD) (r l : ℕ) : at2 (n := 4224) (m := 256) (V m c main_v6) r l = P3 m c r l := by
  have e : (V m c main_v6 : S4224x256.Idx → EReal) = m ((c : Thread nD τ).loc main_arg5) := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e]

theorem V_p4 (c : Dev nD) (r l : ℕ) : at2 (n := 4224) (m := 512) (V m c main_v7) r l = P4 m c r l := by
  have e : (V m c main_v7 : S4224x512.Idx → EReal) = m ((c : Thread nD τ).loc main_arg6) := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e]

theorem V_p5 (c : Dev nD) (r l : ℕ) : at2 (n := 4224) (m := 512) (V m c main_v8) r l = P5 m c r l := by
  have e : (V m c main_v8 : S4224x512.Idx → EReal) = m ((c : Thread nD τ).loc main_arg7) := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e]

theorem V_v10 (c : Dev nD) (a b r l : ℕ) : at4 (q := 2) (p := 2) (n := 2112) (m := 128) (V m c main_v10) a b r l
    = at4 (q := 2) (p := 2) (n := 2112) (m := 16) (m ((c : Thread nD τ).loc main_arg8)) a b r l := by
  have e : (V m c main_v10 : S2x2x2112x128.Idx → EReal) = pad S2x2x2112x128 ![0, 0, 0, 0] ![0, 0, 0, 112] ![0, 0, 0, 0]
      (m ((c : Thread nD τ).loc main_arg8)) (sitofp (F := Ideal) .f32 (constantI S_ 32 0#32)) pads_S2x2x2112x16_S2x2x2112x128_000_000_000_01120 h_S_ := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e, at4_pad _ _ _ _ (by decide) (by pointwise; exact sitofp_zero _)]

theorem V_v2 (c : Dev nD) (r l : ℕ) : at2 (n := 2688) (m := 1024) (V m c main_v2) r l = W m c l r := by
  have e : V m c main_v2 = pad S2688x1024 ![0, 0] ![112, 0] ![0, 0]
      (transpose S2576x1024 [1, 0] (m ((c : Thread nD τ).loc main_arg1)) transposes_S1024x2576_S2576x1024_1_0)
      (sitofp (F := Ideal) .bf16 (constantI S_ 32 0#32)) pads_S2576x1024_S2688x1024_01120_000 h_S_ := by
    unfold V
    simp only [hostOps0, hostOps0_1, hostOps0_2, hostOps0_3, hostOps0_4, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body, fn_pad_0.body]
    after_results
    rfl
  rw [e, at2_pad _ _ _ _ (by decide) (by decide) (by pointwise; exact sitofp_zero _), at2_transpose]

theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val / 3 ∧ win0_6.index t 1 = 0 ∧ win0_6.index t 2 = t.val % 3 ∧ win0_6.index t 3 = 0)
    ∧ (win0_7.index t 0 = t.val / 3 ∧ win0_7.index t 1 = 1 ∧ win0_7.index t 2 = t.val % 3 ∧ win0_7.index t 3 = 0)
    ∧ (win0_8.index t 0 = 0 ∧ win0_8.index t 1 = 0)
    ∧ (win0_9.index t 0 = t.val ∧ win0_9.index t 1 = 0)
    ∧ (win0_10.index t 0 = t.val ∧ win0_10.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val / 3 ∧ win0_6.index t 1 = 0 ∧ win0_6.index t 2 = t.val % 3 ∧ win0_6.index t 3 = 0)
    ∧ (win0_7.index t 0 = t.val / 3 ∧ win0_7.index t 1 = 1 ∧ win0_7.index t 2 = t.val % 3 ∧ win0_7.index t 3 = 0)
    ∧ (win0_8.index t 0 = 0 ∧ win0_8.index t 1 = 0)
    ∧ (win0_9.index t 0 = t.val ∧ win0_9.index t 1 = 0)
    ∧ (win0_10.index t 0 = t.val ∧ win0_10.index t 1 = 0))

/-- The factor of the kept rows. -/
abbrev alpha : EReal := FloatOps.ofBits (F := Ideal) .f32 0x3F9837F0#32

theorem outv (X0 : Vec Ideal S704x512 .bf16) (X1 : Vec Ideal S704x512 .bf16) (X2 : Vec Ideal S704x256 .bf16) (X3 : Vec Ideal S704x256 .bf16) (X4 : Vec Ideal S704x512 .bf16) (X5 : Vec Ideal S704x512 .bf16) (X6 X7 : Vec Ideal S1x1x704x128 .bf16) (X8 : Vec Ideal S2688x1024 .bf16) (X9 : Vec Ideal S704x1024 .f32) (y : S704x1024.Idx) :
    out0_10 X0 X1 X2 X3 X4 X5 X6 X7 X8 X9 y = alpha * X9 y
      + (sumTo 512 fun k => at2 (n := 704) (m := 512) X0 (y 0).val k * at2 (n := 2688) (m := 1024) X8 (k) (y 1).val)
      + (sumTo 512 fun k => at2 (n := 704) (m := 512) X1 (y 0).val k * at2 (n := 2688) (m := 1024) X8 (512 + k) (y 1).val)
      + (sumTo 256 fun k => at2 (n := 704) (m := 256) X2 (y 0).val k * at2 (n := 2688) (m := 1024) X8 (1024 + k) (y 1).val)
      + (sumTo 256 fun k => at2 (n := 704) (m := 256) X3 (y 0).val k * at2 (n := 2688) (m := 1024) X8 (1280 + k) (y 1).val)
      + (sumTo 512 fun k => at2 (n := 704) (m := 512) X4 (y 0).val k * at2 (n := 2688) (m := 1024) X8 (1536 + k) (y 1).val)
      + (sumTo 512 fun k => at2 (n := 704) (m := 512) X5 (y 0).val k * at2 (n := 2688) (m := 1024) X8 (2048 + k) (y 1).val)
      + (sumTo 128 fun k => (at4 (q := 1) (p := 1) (n := 704) (m := 128) X6 0 0 (y 0).val k + at4 (q := 1) (p := 1) (n := 704) (m := 128) X7 0 0 (y 0).val k) * at2 (n := 2688) (m := 1024) X8 (2560 + k) (y 1).val) := by
  unfold out0_10
  rw [View.canon_unit_zero hz2, View.ld_unit_zero (S := S704x1024) hz2, View.ld_unit_zero (S := S1x1x704x128) hz4, View.ld_unit_zero (S := S1x1x704x128) hz4]
  repeat rw [View.ld_unit_zero (S := S704x512) hz2]
  repeat rw [View.ld_unit_zero (S := S704x256) hz2]
  unfold k0_pay1 k0_pay2 k0_pay3 k0_pay4 k0_pay5 k0_pay6 k0_pay7 k0_pay8
  pointwise
  refine congrArg₂ (fun a b : EReal => a + b) ?_ (sum_fin' fun k => congrArg₂ (fun a b : EReal => a * b) (congrArg₂ (fun a b : EReal => a + b) (eq_at4 (q := 1) (p := 1) (n := 704) (m := 128) X6 _ rfl rfl rfl rfl) (eq_at4 (q := 1) (p := 1) (n := 704) (m := 128) X7 _ rfl rfl rfl rfl)) (eq_at2 (n := 2688) (m := 1024) X8 _ rfl rfl))
  refine congrArg₂ (fun a b : EReal => a + b) ?_ (sum_fin' fun k => congrArg₂ (fun a b : EReal => a * b) (eq_at2 (n := 704) (m := 512) X5 _ rfl rfl) (eq_at2 (n := 2688) (m := 1024) X8 _ rfl rfl))
  refine congrArg₂ (fun a b : EReal => a + b) ?_ (sum_fin' fun k => congrArg₂ (fun a b : EReal => a * b) (eq_at2 (n := 704) (m := 512) X4 _ rfl rfl) (eq_at2 (n := 2688) (m := 1024) X8 _ rfl rfl))
  refine congrArg₂ (fun a b : EReal => a + b) ?_ (sum_fin' fun k => congrArg₂ (fun a b : EReal => a * b) (eq_at2 (n := 704) (m := 256) X3 _ rfl rfl) (eq_at2 (n := 2688) (m := 1024) X8 _ rfl rfl))
  refine congrArg₂ (fun a b : EReal => a + b) ?_ (sum_fin' fun k => congrArg₂ (fun a b : EReal => a * b) (eq_at2 (n := 704) (m := 256) X2 _ rfl rfl) (eq_at2 (n := 2688) (m := 1024) X8 _ rfl rfl))
  refine congrArg₂ (fun a b : EReal => a + b) ?_ (sum_fin' fun k => congrArg₂ (fun a b : EReal => a * b) (eq_at2 (n := 704) (m := 512) X1 _ rfl rfl) (eq_at2 (n := 2688) (m := 1024) X8 _ rfl rfl))
  exact congrArg₂ (fun a b : EReal => a + b) rfl (sum_fin' fun k => congrArg₂ (fun a b : EReal => a * b) (eq_at2 (n := 704) (m := 512) X0 _ rfl rfl) (eq_at2 (n := 2688) (m := 1024) X8 _ rfl rfl))

theorem rows1 (c : Dev nD) (t : Fin cfg0.N) (r k : ℕ) (hr : r < 704) (hk : k < 1024) :
    at2 (n := 704) (m := 1024) (iblk m c 9 t) r k = D m c (t.val * 704 + r) k := by
  rw [at2_mk _ hr hk]
  unfold iblk D
  rw [← V_main_arg9 m c]
  exact eq_at2 (n := 4224) (m := 1024) (V m c main_arg9) _ (by blk_simp [idx t]) (by blk_simp [idx t])

theorem weights (c : Dev nD) (t : Fin cfg0.N) (r l : ℕ) (hr : r < 2688) (hl : l < 1024) :
    at2 (n := 2688) (m := 1024) (iblk m c 8 t) r l = W m c l r := by
  rw [at2_mk _ hr hl, ← V_v2]
  unfold iblk
  exact eq_at2 (n := 2688) (m := 1024) (V m c main_v2) _ (by blk_simp [idx t]) (by blk_simp [idx t])

theorem rows_0 (c : Dev nD) (t : Fin cfg0.N) (r k : ℕ) (hr : r < 704) (hk : k < 512) :
    at2 (n := 704) (m := 512) (iblk m c 0 t) r k = P0 m c (t.val * 704 + r) k := by
  rw [at2_mk _ hr hk, ← V_p0]
  unfold iblk
  exact eq_at2 (n := 4224) (m := 512) (V m c main_v3) _ (by blk_simp [idx t]) (by blk_simp [idx t])

theorem rows_1 (c : Dev nD) (t : Fin cfg0.N) (r k : ℕ) (hr : r < 704) (hk : k < 512) :
    at2 (n := 704) (m := 512) (iblk m c 1 t) r k = P1 m c (t.val * 704 + r) k := by
  rw [at2_mk _ hr hk, ← V_p1]
  unfold iblk
  exact eq_at2 (n := 4224) (m := 512) (V m c main_v4) _ (by blk_simp [idx t]) (by blk_simp [idx t])

theorem rows_2 (c : Dev nD) (t : Fin cfg0.N) (r k : ℕ) (hr : r < 704) (hk : k < 256) :
    at2 (n := 704) (m := 256) (iblk m c 2 t) r k = P2 m c (t.val * 704 + r) k := by
  rw [at2_mk _ hr hk, ← V_p2]
  unfold iblk
  exact eq_at2 (n := 4224) (m := 256) (V m c main_v5) _ (by blk_simp [idx t]) (by blk_simp [idx t])

theorem rows_3 (c : Dev nD) (t : Fin cfg0.N) (r k : ℕ) (hr : r < 704) (hk : k < 256) :
    at2 (n := 704) (m := 256) (iblk m c 3 t) r k = P3 m c (t.val * 704 + r) k := by
  rw [at2_mk _ hr hk, ← V_p3]
  unfold iblk
  exact eq_at2 (n := 4224) (m := 256) (V m c main_v6) _ (by blk_simp [idx t]) (by blk_simp [idx t])

theorem rows_4 (c : Dev nD) (t : Fin cfg0.N) (r k : ℕ) (hr : r < 704) (hk : k < 512) :
    at2 (n := 704) (m := 512) (iblk m c 4 t) r k = P4 m c (t.val * 704 + r) k := by
  rw [at2_mk _ hr hk, ← V_p4]
  unfold iblk
  exact eq_at2 (n := 4224) (m := 512) (V m c main_v7) _ (by blk_simp [idx t]) (by blk_simp [idx t])

theorem rows_5 (c : Dev nD) (t : Fin cfg0.N) (r k : ℕ) (hr : r < 704) (hk : k < 512) :
    at2 (n := 704) (m := 512) (iblk m c 5 t) r k = P5 m c (t.val * 704 + r) k := by
  rw [at2_mk _ hr hk, ← V_p5]
  unfold iblk
  exact eq_at2 (n := 4224) (m := 512) (V m c main_v8) _ (by blk_simp [idx t]) (by blk_simp [idx t])

theorem half6 (c : Dev nD) (t : Fin cfg0.N) (r k : ℕ) (hr : r < 704) (hk : k < 128) :
    at4 (q := 1) (p := 1) (n := 704) (m := 128) (iblk m c 6 t) 0 0 r k
      = at4 (q := 2) (p := 2) (n := 2112) (m := 16) (m ((c : Thread nD τ).loc main_arg8)) (t.val / 3) 0 (t.val % 3 * 704 + r) k := by
  rw [at4_mk _ (by omega) (by omega) hr hk, ← V_v10]
  unfold iblk
  exact eq_at4 (q := 2) (p := 2) (n := 2112) (m := 128) (V m c main_v10) _ (by blk_simp [idx t] <;> rfl) (by blk_simp [idx t] <;> rfl) (by blk_simp [idx t] <;> rfl) (by blk_simp [idx t] <;> rfl)

theorem half7 (c : Dev nD) (t : Fin cfg0.N) (r k : ℕ) (hr : r < 704) (hk : k < 128) :
    at4 (q := 1) (p := 1) (n := 704) (m := 128) (iblk m c 7 t) 0 0 r k
      = at4 (q := 2) (p := 2) (n := 2112) (m := 16) (m ((c : Thread nD τ).loc main_arg8)) (t.val / 3) 1 (t.val % 3 * 704 + r) k := by
  rw [at4_mk _ (by omega) (by omega) hr hk, ← V_v10]
  unfold iblk
  exact eq_at4 (q := 2) (p := 2) (n := 2112) (m := 128) (V m c main_v10) _ (by blk_simp [idx t] <;> rfl) (by blk_simp [idx t] <;> rfl) (by blk_simp [idx t] <;> rfl) (by blk_simp [idx t] <;> rfl)

/-- The result at row `r`, column `l`. -/
def g (c : Dev nD) (r l : ℕ) : EReal := alpha * D m c r l + ((sumTo 512 fun k => P0 m c r k * W m c l (k))
    + (sumTo 512 fun k => P1 m c r k * W m c l (512 + k))
    + (sumTo 256 fun k => P2 m c r k * W m c l (1024 + k))
    + (sumTo 256 fun k => P3 m c r k * W m c l (1280 + k))
    + (sumTo 512 fun k => P4 m c r k * W m c l (1536 + k))
    + (sumTo 512 fun k => P5 m c r k * W m c l (2048 + k))
    + (sumTo 16 fun k => P6 m c r k * W m c l (2560 + k)))
def G (c : Dev nD) : S4224x1024.Idx → EReal := fun i => g m c (i 0).val (i 1).val

theorem arr (c : Dev nD) : (dats m 0 c).arrAt 10 cfg0.N = G m c := by
  refine (dats m 0 c).arrAt_eq_of_covers 10 _ (by decide +kernel) fun t hf y => ?_
  blk_simp
  rw [after0_10]
  refine (outv _ _ _ _ _ _ _ _ _ _ _).trans ?_
  have hN : cfg0.N = 6 := N_0
  have ht := t.isLt
  have y0 : (y 0).val < 704 := (y 0).isLt
  have y1 : (y 1).val < 1024 := (y 1).isLt
  have e : (G m c (((cfg0.win 10).blk t).view.emb y) : EReal) = g m c (t.val * 704 + (y 0).val) (y 1).val := by
    unfold G
    blk_simp [idx t]
  refine Eq.trans ?_ e.symm
  unfold g
  simp only [← add_assoc]
  refine congrArg₂ (fun a b : EReal => a + b) ?_ ?_
  · refine congrArg₂ (fun a b : EReal => a + b) ?_ (sumTo_congr fun k hk => congrArg₂ (fun a b : EReal => a * b) (rows_5 m c t _ k y0 hk) (weights m c t _ _ (by omega) y1))
    refine congrArg₂ (fun a b : EReal => a + b) ?_ (sumTo_congr fun k hk => congrArg₂ (fun a b : EReal => a * b) (rows_4 m c t _ k y0 hk) (weights m c t _ _ (by omega) y1))
    refine congrArg₂ (fun a b : EReal => a + b) ?_ (sumTo_congr fun k hk => congrArg₂ (fun a b : EReal => a * b) (rows_3 m c t _ k y0 hk) (weights m c t _ _ (by omega) y1))
    refine congrArg₂ (fun a b : EReal => a + b) ?_ (sumTo_congr fun k hk => congrArg₂ (fun a b : EReal => a * b) (rows_2 m c t _ k y0 hk) (weights m c t _ _ (by omega) y1))
    refine congrArg₂ (fun a b : EReal => a + b) ?_ (sumTo_congr fun k hk => congrArg₂ (fun a b : EReal => a * b) (rows_1 m c t _ k y0 hk) (weights m c t _ _ (by omega) y1))
    refine congrArg₂ (fun a b : EReal => a + b) ?_ (sumTo_congr fun k hk => congrArg₂ (fun a b : EReal => a * b) (rows_0 m c t _ k y0 hk) (weights m c t _ _ (by omega) y1))
    refine congrArg (alpha * ·) ?_
    rw [← rows1 m c t _ _ y0 y1]
    exact eq_at2 (n := 704) (m := 1024) (iblk m c 9 t) _ rfl rfl
  · refine Eq.trans (sumTo_zeros 16 112 _ ?_) ?_
    rotate_left
    · refine sumTo_congr fun k hk => congrArg₂ (fun a b : EReal => a * b) ?_ (weights m c t _ _ (by omega) y1)
      have q1 : (t.val * 704 + (y 0).val) / 2112 = t.val / 3 := by omega
      have q2 : (t.val * 704 + (y 0).val) % 2112 = t.val % 3 * 704 + (y 0).val := by omega
      unfold P6 both
      rw [q1, q2]
      exact congrArg₂ (fun a b : EReal => a + b) (half6 m c t _ k y0 (by omega)) (half7 m c t _ k y0 (by omega))
    · intro k hk
      by_cases h : k < 128
      · have z6 := (half6 m c t (y 0).val k y0 h).trans (at4_out _ (by omega))
        have z7 := (half7 m c t (y 0).val k y0 h).trans (at4_out _ (by omega))
        refine (congrArg (· * _) ((congrArg₂ (fun a b : EReal => a + b) z6 z7).trans (add_zero _))).trans (zero_mul _)
      · refine (congrArg (· * _) ((congrArg₂ (fun a b : EReal => a + b) (at4_out _ (by omega)) (at4_out _ (by omega))).trans (add_zero _))).trans (zero_mul _)

section Ref

variable (s : Vec Ideal S4224x1024 .f32) (w : Vec Ideal S1024x2576 .f32) (p0 p1 : Vec Ideal S4224x512 .f32) (p2 p3 : Vec Ideal S4224x256 .f32)
  (p4 p5 : Vec Ideal S4224x512 .f32) (d : S2x2x2112x16.Idx → EReal) (e : Vec Ideal S4224x1024 .f32)

theorem refsum (r k : ℕ) (hr : r < 4224) (hk : k < 16) : at2 (n := 4224) (m := 16) (Cert.Reference8Ideal.Read.val_main_v1 (F := Ideal) d) r k = both d r k := by
  rw [at2_mk _ hr hk]
  unfold Cert.Reference8Ideal.Read.val_main_v1 Cert.Reference8Ideal.Read.val_main_v0 Cert.Reference8Ideal.Read.val_main_cst both
  rw [at4_mk _ (by omega) (by omega) (by omega) hk, at4_mk _ (by omega) (by omega) (by omega) hk]
  pointwise
  exact Fin.sum_univ_two _

theorem cat0 (r k : ℕ) (hr : r < 4224) (hk : k < 512) :
    at2 (n := 4224) (m := 2576) (Cert.Reference8Ideal.Read.val_main_v12 (F := Ideal) p0 p1 p2 p3 p4 p5 d) r (k) = at2 (n := 4224) (m := 512) p0 r k := by
  skip
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 512) p0 _ rfl (by first | rfl | (simp only [ix2]; omega))

theorem cat1 (r k : ℕ) (hr : r < 4224) (hk : k < 512) :
    at2 (n := 4224) (m := 2576) (Cert.Reference8Ideal.Read.val_main_v12 (F := Ideal) p0 p1 p2 p3 p4 p5 d) r (512 + k) = at2 (n := 4224) (m := 512) p1 r k := by
  skip
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 512) p1 _ rfl (by first | rfl | (simp only [ix2]; omega))

theorem cat2 (r k : ℕ) (hr : r < 4224) (hk : k < 256) :
    at2 (n := 4224) (m := 2576) (Cert.Reference8Ideal.Read.val_main_v12 (F := Ideal) p0 p1 p2 p3 p4 p5 d) r (1024 + k) = at2 (n := 4224) (m := 256) p2 r k := by
  skip
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 256) p2 _ rfl (by first | rfl | (simp only [ix2]; omega))

theorem cat3 (r k : ℕ) (hr : r < 4224) (hk : k < 256) :
    at2 (n := 4224) (m := 2576) (Cert.Reference8Ideal.Read.val_main_v12 (F := Ideal) p0 p1 p2 p3 p4 p5 d) r (1280 + k) = at2 (n := 4224) (m := 256) p3 r k := by
  skip
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 256) p3 _ rfl (by first | rfl | (simp only [ix2]; omega))

theorem cat4 (r k : ℕ) (hr : r < 4224) (hk : k < 512) :
    at2 (n := 4224) (m := 2576) (Cert.Reference8Ideal.Read.val_main_v12 (F := Ideal) p0 p1 p2 p3 p4 p5 d) r (1536 + k) = at2 (n := 4224) (m := 512) p4 r k := by
  skip
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 512) p4 _ rfl (by first | rfl | (simp only [ix2]; omega))

theorem cat5 (r k : ℕ) (hr : r < 4224) (hk : k < 512) :
    at2 (n := 4224) (m := 2576) (Cert.Reference8Ideal.Read.val_main_v12 (F := Ideal) p0 p1 p2 p3 p4 p5 d) r (2048 + k) = at2 (n := 4224) (m := 512) p5 r k := by
  skip
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 512) p5 _ rfl (by first | rfl | (simp only [ix2]; omega))

theorem cat6 (r k : ℕ) (hr : r < 4224) (hk : k < 16) :
    at2 (n := 4224) (m := 2576) (Cert.Reference8Ideal.Read.val_main_v12 (F := Ideal) p0 p1 p2 p3 p4 p5 d) r (2560 + k) = both d r k := by
  rw [← refsum d r k hr hk]
  unfold Cert.Reference8Ideal.Read.val_main_v12
  rw [at2_mk _ hr (by omega)]
  generalize Cert.Reference8Ideal.Read.val_main_v1 (F := Ideal) d = Z
  pointwise
  split_ifs <;> first | (exfalso; omega) | exact eq_at2 (n := 4224) (m := 16) Z _ rfl (by first | rfl | (simp only [ix2]; omega))

theorem ref : (Cert.Reference8Ideal.Read.val_main_v16 (F := Ideal) w p0 p1 p2 p3 p4 p5 d e : S4224x1024.Idx → EReal) = fun i =>
    (fun r l : ℕ => alpha * at2 (n := 4224) (m := 1024) e r l + ((sumTo 512 fun k => at2 (n := 4224) (m := 512) p0 r k * at2 (n := 1024) (m := 2576) w l (k))
    + (sumTo 512 fun k => at2 (n := 4224) (m := 512) p1 r k * at2 (n := 1024) (m := 2576) w l (512 + k))
    + (sumTo 256 fun k => at2 (n := 4224) (m := 256) p2 r k * at2 (n := 1024) (m := 2576) w l (1024 + k))
    + (sumTo 256 fun k => at2 (n := 4224) (m := 256) p3 r k * at2 (n := 1024) (m := 2576) w l (1280 + k))
    + (sumTo 512 fun k => at2 (n := 4224) (m := 512) p4 r k * at2 (n := 1024) (m := 2576) w l (1536 + k))
    + (sumTo 512 fun k => at2 (n := 4224) (m := 512) p5 r k * at2 (n := 1024) (m := 2576) w l (2048 + k))
    + (sumTo 16 fun k => both d r k * at2 (n := 1024) (m := 2576) w l (2560 + k)))) (i 0).val (i 1).val := by
  funext i
  have h0 : (i 0).val < 4224 := (i 0).isLt
  show Cert.Reference8Ideal.Read.val_main_v16 (F := Ideal) w p0 p1 p2 p3 p4 p5 d e i = _
  have e15 : Cert.Reference8Ideal.Read.val_main_v15 (F := Ideal) e i = alpha * at2 (n := 4224) (m := 1024) e (i 0).val (i 1).val := by
    rw [← eq_at2 (n := 4224) (m := 1024) e i rfl rfl]
    unfold Cert.Reference8Ideal.Read.val_main_v15 Cert.Reference8Ideal.Read.val_main_v14 Cert.Reference8Ideal.Read.val_main_cst_1
    pointwise
  have e13 : Cert.Reference8Ideal.Read.val_main_v13 (F := Ideal) w p0 p1 p2 p3 p4 p5 d i
      = sumTo 2576 fun k => at2 (n := 4224) (m := 2576) (Cert.Reference8Ideal.Read.val_main_v12 (F := Ideal) p0 p1 p2 p3 p4 p5 d) (i 0).val k * at2 (n := 1024) (m := 2576) w (i 1).val k :=
    (Cert.Reference8Ideal.Read.val_main_v13_apply w p0 p1 p2 p3 p4 p5 d i).trans (sum_fin' fun k => congrArg₂ (fun a b : EReal => a * b) (eq_at2 (n := 4224) (m := 2576) _ _ rfl rfl) (eq_at2 (n := 1024) (m := 2576) w _ rfl rfl))
  show (Cert.Reference8Ideal.Read.val_main_v13 (F := Ideal) w p0 p1 p2 p3 p4 p5 d i : EReal) + Cert.Reference8Ideal.Read.val_main_v15 (F := Ideal) e i = _
  rw [e13, e15, sum_pieces]
  refine (add_comm _ _).trans (congrArg₂ (fun a b : EReal => a + b) rfl ?_)
  refine congrArg₂ (fun a b : EReal => a + b) ?_ (sumTo_congr fun k hk => congrArg (· * _) (cat6 p0 p1 p2 p3 p4 p5 d _ k h0 hk))
  refine congrArg₂ (fun a b : EReal => a + b) ?_ (sumTo_congr fun k hk => congrArg (· * _) (cat5 p0 p1 p2 p3 p4 p5 d _ k h0 hk))
  refine congrArg₂ (fun a b : EReal => a + b) ?_ (sumTo_congr fun k hk => congrArg (· * _) (cat4 p0 p1 p2 p3 p4 p5 d _ k h0 hk))
  refine congrArg₂ (fun a b : EReal => a + b) ?_ (sumTo_congr fun k hk => congrArg (· * _) (cat3 p0 p1 p2 p3 p4 p5 d _ k h0 hk))
  refine congrArg₂ (fun a b : EReal => a + b) ?_ (sumTo_congr fun k hk => congrArg (· * _) (cat2 p0 p1 p2 p3 p4 p5 d _ k h0 hk))
  refine congrArg₂ (fun a b : EReal => a + b) ?_ (sumTo_congr fun k hk => congrArg (· * _) (cat1 p0 p1 p2 p3 p4 p5 d _ k h0 hk))
  exact (sumTo_congr fun k hk => congrArg (· * _) (cat0 p0 p1 p2 p3 p4 p5 d _ k h0 hk))

end Ref

theorem claim : Cert.algebraic_Kernel8Ideal_Reference8Ideal := by
  intro m g m' g' _ hagree
  refine ⟨fun c => G m c, ?_, ?_⟩
  · refine (θ_run Cert.Kernel8Ideal.defs _ _).mono (fun r h c => ?_) (Cert.Kernel8Ideal.Value.run_blocks m g)
    obtain ⟨h1, h2⟩ := h c
    exact ⟨h1.trans (arr m c), h2⟩
  · refine (θ_run Cert.Reference8Ideal.defs _ _).mono (fun r h c => ?_) (Cert.Reference8Ideal.Value.run (F := Ideal) m' g')
    obtain ⟨h1, h2⟩ := h c
    obtain ⟨e0, e1, e2, e3, e4, e5, e6, e7, e8, e9⟩ := hagree c
    refine ⟨h1.trans ?_, h2⟩
    rw [e1, e2, e3, e4, e5, e6, e7, e8, e9]
    exact (Cert.Reference8Ideal.Read.val_main_v16_eq _ _ _ _ _ _ _ _ _).trans (ref _ _ _ _ _ _ _ _ _)

end Cert.InProjBwd

end
-- ==== Proof.GradWIn.lean ====
/- The input projection's gradient: the kernel's result and the reference's are one array. -/
module

public import proofs.«01_k».proof.Proof.Gen.Kernel9Ideal.Value
public import proofs.«01_k».proof.Proof.Gen.Reference9Ideal.Read
public import proofs.«01_k».proof.Proof.Gen.Reference9Ideal.Run
public import proofs.«01_k».proof.Defs
public import proofs.«01_k».proof.Proof.Plain
public import Idealize.ShloMosaic.Lib.Pipeline.ValueKit
public import Idealize.ShloMosaic.Lib.Pipeline.ReadBack

@[expose] public section

set_option maxRecDepth 16384

noncomputable section

namespace Cert.GradWIn

open Cert.Plain Cert.Kernel9Ideal Cert.Kernel9Ideal.Gen
open Idealize.ShloMosaic Idealize.ShloMosaic.TcCoe Idealize.ShloMosaic.Tactic

theorem hz2 : (![0, 0] : Fin 2 → ℕ) = fun _ => 0 := by decide
theorem hz4 : (![0, 0, 0, 0] : Fin 4 → ℕ) = fun _ => 0 := by decide

/-- The seven pieces side by side: row `o` of the result belongs to one of them. -/
abbrev side (p0 p1 p2 p3 p4 p5 p6 : ℕ → EReal) (o : ℕ) : EReal :=
  if o < 512 then p0 o else if o < 1024 then p1 (o - 512) else if o < 1280 then p2 (o - 1024) else if o < 1536 then p3 (o - 1280)
  else if o < 2048 then p4 (o - 1536) else if o < 2560 then p5 (o - 2048) else p6 (o - 2560)

section Upd

variable (ACC : Vec Ideal S2688x1024 .f32) (X0 X1 : Vec Ideal S1056x512 .bf16) (X2 X3 : Vec Ideal S1056x256 .bf16) (X4 X5 : Vec Ideal S1056x512 .bf16)
  (X6 X7 : Vec Ideal S1x1x1056x128 .bf16) (X8 : Vec Ideal S1056x1024 .bf16)

/-- One point's update of the result: the products of the point's rows are added. -/
abbrev upd (y : S2688x1024.Idx) : EReal := ACC y + sumTo 1056 fun k =>
  side (at2 (n := 1056) (m := 512) X0 k) (at2 (n := 1056) (m := 512) X1 k) (at2 (n := 1056) (m := 256) X2 k) (at2 (n := 1056) (m := 256) X3 k)
    (at2 (n := 1056) (m := 512) X4 k) (at2 (n := 1056) (m := 512) X5 k)
    (fun l => at4 (q := 1) (p := 1) (n := 1056) (m := 128) X6 0 0 k l + at4 (q := 1) (p := 1) (n := 1056) (m := 128) X7 0 0 k l) (y 0).val
  * at2 (n := 1056) (m := 1024) X8 k (y 1).val

theorem piece0 (x : S512x1024.Idx) : k0_pay10 X8 X0 (View.ld ACC (Rect.unit (s := S2688x1024) ![0, 0] S512x1024.size inb_S2688x1024_S512x1024_0_0)) x
    = upd ACC X0 X1 X2 X3 X4 X5 X6 X7 X8 ((Rect.unit (s := S2688x1024) ![0, 0] S512x1024.size inb_S2688x1024_S512x1024_0_0).emb x) := by
  have e0 : ((Rect.unit (s := S2688x1024) ![0, 0] S512x1024.size inb_S2688x1024_S512x1024_0_0).emb x 0).val = (x 0).val := by
    show 0 + 1 * (x 0).val = _
    omega
  have e1 : ((Rect.unit (s := S2688x1024) ![0, 0] S512x1024.size inb_S2688x1024_S512x1024_0_0).emb x 1).val = (x 1).val := by
    show 0 + 1 * (x 1).val = _
    omega
  have hx : (x 0).val < 512 := (x 0).isLt
  unfold upd
  rw [e0, e1]
  unfold k0_pay10 k0_pay3
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((eq_at2 (n := 1056) (m := 512) X0 _ rfl rfl).trans ?_) (eq_at2 (n := 1056) (m := 1024) X8 _ rfl rfl))
  unfold side
  rw [if_pos (show (x 0).val < 512 by omega)]
  rfl

theorem piece1 (x : S512x1024.Idx) : k0_pay11 (k0_pay3 X8) (k0_pay4 X1) (View.ld ACC (Rect.unit (s := S2688x1024) ![512, 0] S512x1024.size inb_S2688x1024_S512x1024_512_0)) x
    = upd ACC X0 X1 X2 X3 X4 X5 X6 X7 X8 ((Rect.unit (s := S2688x1024) ![512, 0] S512x1024.size inb_S2688x1024_S512x1024_512_0).emb x) := by
  have e0 : ((Rect.unit (s := S2688x1024) ![512, 0] S512x1024.size inb_S2688x1024_S512x1024_512_0).emb x 0).val = 512 + (x 0).val := by
    show 512 + 1 * (x 0).val = _
    omega
  have e1 : ((Rect.unit (s := S2688x1024) ![512, 0] S512x1024.size inb_S2688x1024_S512x1024_512_0).emb x 1).val = (x 1).val := by
    show 0 + 1 * (x 1).val = _
    omega
  have hx : (x 0).val < 512 := (x 0).isLt
  unfold upd
  rw [e0, e1]
  unfold k0_pay11 k0_pay3 k0_pay4
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((eq_at2 (n := 1056) (m := 512) X1 _ rfl rfl).trans ?_) (eq_at2 (n := 1056) (m := 1024) X8 _ rfl rfl))
  unfold side
  rw [if_neg (show ¬(512 + (x 0).val < 512) by omega), if_pos (show 512 + (x 0).val < 1024 by omega), show 512 + (x 0).val - 512 = (x 0).val by omega]
  rfl

theorem piece2 (x : S256x1024.Idx) : k0_pay12 (k0_pay3 X8) (k0_pay5 X2) (View.ld ACC (Rect.unit (s := S2688x1024) ![1024, 0] S256x1024.size inb_S2688x1024_S256x1024_1024_0)) x
    = upd ACC X0 X1 X2 X3 X4 X5 X6 X7 X8 ((Rect.unit (s := S2688x1024) ![1024, 0] S256x1024.size inb_S2688x1024_S256x1024_1024_0).emb x) := by
  have e0 : ((Rect.unit (s := S2688x1024) ![1024, 0] S256x1024.size inb_S2688x1024_S256x1024_1024_0).emb x 0).val = 1024 + (x 0).val := by
    show 1024 + 1 * (x 0).val = _
    omega
  have e1 : ((Rect.unit (s := S2688x1024) ![1024, 0] S256x1024.size inb_S2688x1024_S256x1024_1024_0).emb x 1).val = (x 1).val := by
    show 0 + 1 * (x 1).val = _
    omega
  have hx : (x 0).val < 256 := (x 0).isLt
  unfold upd
  rw [e0, e1]
  unfold k0_pay12 k0_pay3 k0_pay5
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((eq_at2 (n := 1056) (m := 256) X2 _ rfl rfl).trans ?_) (eq_at2 (n := 1056) (m := 1024) X8 _ rfl rfl))
  unfold side
  rw [if_neg (show ¬(1024 + (x 0).val < 512) by omega), if_neg (show ¬(1024 + (x 0).val < 1024) by omega), if_pos (show 1024 + (x 0).val < 1280 by omega), show 1024 + (x 0).val - 1024 = (x 0).val by omega]
  rfl

theorem piece3 (x : S256x1024.Idx) : k0_pay13 (k0_pay3 X8) (k0_pay6 X3) (View.ld ACC (Rect.unit (s := S2688x1024) ![1280, 0] S256x1024.size inb_S2688x1024_S256x1024_1280_0)) x
    = upd ACC X0 X1 X2 X3 X4 X5 X6 X7 X8 ((Rect.unit (s := S2688x1024) ![1280, 0] S256x1024.size inb_S2688x1024_S256x1024_1280_0).emb x) := by
  have e0 : ((Rect.unit (s := S2688x1024) ![1280, 0] S256x1024.size inb_S2688x1024_S256x1024_1280_0).emb x 0).val = 1280 + (x 0).val := by
    show 1280 + 1 * (x 0).val = _
    omega
  have e1 : ((Rect.unit (s := S2688x1024) ![1280, 0] S256x1024.size inb_S2688x1024_S256x1024_1280_0).emb x 1).val = (x 1).val := by
    show 0 + 1 * (x 1).val = _
    omega
  have hx : (x 0).val < 256 := (x 0).isLt
  unfold upd
  rw [e0, e1]
  unfold k0_pay13 k0_pay3 k0_pay6
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((eq_at2 (n := 1056) (m := 256) X3 _ rfl rfl).trans ?_) (eq_at2 (n := 1056) (m := 1024) X8 _ rfl rfl))
  unfold side
  rw [if_neg (show ¬(1280 + (x 0).val < 512) by omega), if_neg (show ¬(1280 + (x 0).val < 1024) by omega), if_neg (show ¬(1280 + (x 0).val < 1280) by omega), if_pos (show 1280 + (x 0).val < 1536 by omega), show 1280 + (x 0).val - 1280 = (x 0).val by omega]
  rfl

theorem piece4 (x : S512x1024.Idx) : k0_pay14 (k0_pay3 X8) (k0_pay7 X4) (View.ld ACC (Rect.unit (s := S2688x1024) ![1536, 0] S512x1024.size inb_S2688x1024_S512x1024_1536_0)) x
    = upd ACC X0 X1 X2 X3 X4 X5 X6 X7 X8 ((Rect.unit (s := S2688x1024) ![1536, 0] S512x1024.size inb_S2688x1024_S512x1024_1536_0).emb x) := by
  have e0 : ((Rect.unit (s := S2688x1024) ![1536, 0] S512x1024.size inb_S2688x1024_S512x1024_1536_0).emb x 0).val = 1536 + (x 0).val := by
    show 1536 + 1 * (x 0).val = _
    omega
  have e1 : ((Rect.unit (s := S2688x1024) ![1536, 0] S512x1024.size inb_S2688x1024_S512x1024_1536_0).emb x 1).val = (x 1).val := by
    show 0 + 1 * (x 1).val = _
    omega
  have hx : (x 0).val < 512 := (x 0).isLt
  unfold upd
  rw [e0, e1]
  unfold k0_pay14 k0_pay3 k0_pay7
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((eq_at2 (n := 1056) (m := 512) X4 _ rfl rfl).trans ?_) (eq_at2 (n := 1056) (m := 1024) X8 _ rfl rfl))
  unfold side
  rw [if_neg (show ¬(1536 + (x 0).val < 512) by omega), if_neg (show ¬(1536 + (x 0).val < 1024) by omega), if_neg (show ¬(1536 + (x 0).val < 1280) by omega), if_neg (show ¬(1536 + (x 0).val < 1536) by omega), if_pos (show 1536 + (x 0).val < 2048 by omega), show 1536 + (x 0).val - 1536 = (x 0).val by omega]
  rfl

theorem piece5 (x : S512x1024.Idx) : k0_pay15 (k0_pay3 X8) (k0_pay8 X5) (View.ld ACC (Rect.unit (s := S2688x1024) ![2048, 0] S512x1024.size inb_S2688x1024_S512x1024_2048_0)) x
    = upd ACC X0 X1 X2 X3 X4 X5 X6 X7 X8 ((Rect.unit (s := S2688x1024) ![2048, 0] S512x1024.size inb_S2688x1024_S512x1024_2048_0).emb x) := by
  have e0 : ((Rect.unit (s := S2688x1024) ![2048, 0] S512x1024.size inb_S2688x1024_S512x1024_2048_0).emb x 0).val = 2048 + (x 0).val := by
    show 2048 + 1 * (x 0).val = _
    omega
  have e1 : ((Rect.unit (s := S2688x1024) ![2048, 0] S512x1024.size inb_S2688x1024_S512x1024_2048_0).emb x 1).val = (x 1).val := by
    show 0 + 1 * (x 1).val = _
    omega
  have hx : (x 0).val < 512 := (x 0).isLt
  unfold upd
  rw [e0, e1]
  unfold k0_pay15 k0_pay3 k0_pay8
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((eq_at2 (n := 1056) (m := 512) X5 _ rfl rfl).trans ?_) (eq_at2 (n := 1056) (m := 1024) X8 _ rfl rfl))
  unfold side
  rw [if_neg (show ¬(2048 + (x 0).val < 512) by omega), if_neg (show ¬(2048 + (x 0).val < 1024) by omega), if_neg (show ¬(2048 + (x 0).val < 1280) by omega), if_neg (show ¬(2048 + (x 0).val < 1536) by omega), if_neg (show ¬(2048 + (x 0).val < 2048) by omega), if_pos (show 2048 + (x 0).val < 2560 by omega), show 2048 + (x 0).val - 2048 = (x 0).val by omega]
  rfl

theorem piece6 (x : S128x1024.Idx) : k0_pay1 (k0_pay3 X8) (k0_pay9 X6 X7) (View.ld ACC (Rect.unit (s := S2688x1024) ![2560, 0] S128x1024.size inb_S2688x1024_S128x1024_2560_0)) x
    = upd ACC X0 X1 X2 X3 X4 X5 X6 X7 X8 ((Rect.unit (s := S2688x1024) ![2560, 0] S128x1024.size inb_S2688x1024_S128x1024_2560_0).emb x) := by
  have e0 : ((Rect.unit (s := S2688x1024) ![2560, 0] S128x1024.size inb_S2688x1024_S128x1024_2560_0).emb x 0).val = 2560 + (x 0).val := by
    show 2560 + 1 * (x 0).val = _
    omega
  have e1 : ((Rect.unit (s := S2688x1024) ![2560, 0] S128x1024.size inb_S2688x1024_S128x1024_2560_0).emb x 1).val = (x 1).val := by
    show 0 + 1 * (x 1).val = _
    omega
  have hx : (x 0).val < 128 := (x 0).isLt
  unfold upd
  rw [e0, e1]
  unfold k0_pay1 k0_pay3 k0_pay9
  pointwise
  refine congrArg₂ (fun a b : EReal => a + b) ((eq_at2 (n := 2688) (m := 1024) ACC _ rfl rfl).trans (eq_at2 (n := 2688) (m := 1024) ACC _ e0 e1).symm) (sum_fin' fun k => congrArg₂ (fun a b : EReal => a * b) ((congrArg₂ (fun a b : EReal => a + b) (eq_at4 (q := 1) (p := 1) (n := 1056) (m := 128) X6 _ rfl rfl rfl rfl) (eq_at4 (q := 1) (p := 1) (n := 1056) (m := 128) X7 _ rfl rfl rfl rfl)).trans ?_) (eq_at2 (n := 1056) (m := 1024) X8 _ rfl rfl))
  unfold side
  rw [if_neg (show ¬(2560 + (x 0).val < 512) by omega), if_neg (show ¬(2560 + (x 0).val < 1024) by omega), if_neg (show ¬(2560 + (x 0).val < 1280) by omega), if_neg (show ¬(2560 + (x 0).val < 1536) by omega), if_neg (show ¬(2560 + (x 0).val < 2048) by omega), if_neg (show ¬(2560 + (x 0).val < 2560) by omega), show 2560 + (x 0).val - 2560 = (x 0).val by omega]
  rfl

theorem cover (y : S2688x1024.Idx) (p0 p1 p2 p3 p4 p5 p6) :
    ∃ p ∈ ([⟨(Rect.unit (s := S2688x1024) ![2560, 0] S128x1024.size inb_S2688x1024_S128x1024_2560_0), p6⟩, ⟨(Rect.unit (s := S2688x1024) ![2048, 0] S512x1024.size inb_S2688x1024_S512x1024_2048_0), p5⟩, ⟨(Rect.unit (s := S2688x1024) ![1536, 0] S512x1024.size inb_S2688x1024_S512x1024_1536_0), p4⟩, ⟨(Rect.unit (s := S2688x1024) ![1280, 0] S256x1024.size inb_S2688x1024_S256x1024_1280_0), p3⟩, ⟨(Rect.unit (s := S2688x1024) ![1024, 0] S256x1024.size inb_S2688x1024_S256x1024_1024_0), p2⟩, ⟨(Rect.unit (s := S2688x1024) ![512, 0] S512x1024.size inb_S2688x1024_S512x1024_512_0), p1⟩, ⟨(Rect.unit (s := S2688x1024) ![0, 0] S512x1024.size inb_S2688x1024_S512x1024_0_0), p0⟩] : List (View.Piece (Elt Ideal) S2688x1024 .f32)), y ∈ p.1.set := by
  have h0 : (y 0).val < 2688 := (y 0).isLt
  have h1 : (y 1).val < 1024 := (y 1).isLt
  have key : ∀ (o w : ℕ) (inb : ∀ a, (![o, 0] : Fin 2 → ℕ) a + (![w, 1024] : Fin 2 → ℕ) a ≤ S2688x1024.size a), o ≤ (y 0).val → (y 0).val < o + w →
      y ∈ (Rect.unit (s := S2688x1024) ![o, 0] ![w, 1024] inb).set := fun o w inb ha hb =>
    Rect.mem_set_unit.mpr fun a => match a with
      | 0 => ⟨ha, hb⟩
      | 1 => ⟨Nat.zero_le _, by simpa using h1⟩
  by_cases c0 : (y 0).val < 512
  · exact ⟨_, .tail _ (.tail _ (.tail _ (.tail _ (.tail _ (.tail _ (.head _)))))), key 0 512 inb_S2688x1024_S512x1024_0_0 (by omega) (by omega)⟩
  by_cases c1 : (y 0).val < 1024
  · exact ⟨_, .tail _ (.tail _ (.tail _ (.tail _ (.tail _ (.head _))))), key 512 512 inb_S2688x1024_S512x1024_512_0 (by omega) (by omega)⟩
  by_cases c2 : (y 0).val < 1280
  · exact ⟨_, .tail _ (.tail _ (.tail _ (.tail _ (.head _)))), key 1024 256 inb_S2688x1024_S256x1024_1024_0 (by omega) (by omega)⟩
  by_cases c3 : (y 0).val < 1536
  · exact ⟨_, .tail _ (.tail _ (.tail _ (.head _))), key 1280 256 inb_S2688x1024_S256x1024_1280_0 (by omega) (by omega)⟩
  by_cases c4 : (y 0).val < 2048
  · exact ⟨_, .tail _ (.tail _ (.head _)), key 1536 512 inb_S2688x1024_S512x1024_1536_0 (by omega) (by omega)⟩
  by_cases c5 : (y 0).val < 2560
  · exact ⟨_, .tail _ (.head _), key 2048 512 inb_S2688x1024_S512x1024_2048_0 (by omega) (by omega)⟩
  exact ⟨_, .head _, key 2560 128 inb_S2688x1024_S128x1024_2560_0 (by omega) (by omega)⟩

theorem stores (L : List (View.Piece (Elt Ideal) S2688x1024 .f32)) (y : S2688x1024.Idx) : View.canon ([⟨(Rect.unit (s := S2688x1024) ![2560, 0] S128x1024.size inb_S2688x1024_S128x1024_2560_0), k0_pay1 (k0_pay3 X8) (k0_pay9 X6 X7) (View.ld ACC (Rect.unit (s := S2688x1024) ![2560, 0] S128x1024.size inb_S2688x1024_S128x1024_2560_0))⟩,
      ⟨(Rect.unit (s := S2688x1024) ![2048, 0] S512x1024.size inb_S2688x1024_S512x1024_2048_0), k0_pay15 (k0_pay3 X8) (k0_pay8 X5) (View.ld ACC (Rect.unit (s := S2688x1024) ![2048, 0] S512x1024.size inb_S2688x1024_S512x1024_2048_0))⟩,
      ⟨(Rect.unit (s := S2688x1024) ![1536, 0] S512x1024.size inb_S2688x1024_S512x1024_1536_0), k0_pay14 (k0_pay3 X8) (k0_pay7 X4) (View.ld ACC (Rect.unit (s := S2688x1024) ![1536, 0] S512x1024.size inb_S2688x1024_S512x1024_1536_0))⟩,
      ⟨(Rect.unit (s := S2688x1024) ![1280, 0] S256x1024.size inb_S2688x1024_S256x1024_1280_0), k0_pay13 (k0_pay3 X8) (k0_pay6 X3) (View.ld ACC (Rect.unit (s := S2688x1024) ![1280, 0] S256x1024.size inb_S2688x1024_S256x1024_1280_0))⟩,
      ⟨(Rect.unit (s := S2688x1024) ![1024, 0] S256x1024.size inb_S2688x1024_S256x1024_1024_0), k0_pay12 (k0_pay3 X8) (k0_pay5 X2) (View.ld ACC (Rect.unit (s := S2688x1024) ![1024, 0] S256x1024.size inb_S2688x1024_S256x1024_1024_0))⟩,
      ⟨(Rect.unit (s := S2688x1024) ![512, 0] S512x1024.size inb_S2688x1024_S512x1024_512_0), k0_pay11 (k0_pay3 X8) (k0_pay4 X1) (View.ld ACC (Rect.unit (s := S2688x1024) ![512, 0] S512x1024.size inb_S2688x1024_S512x1024_512_0))⟩,
      ⟨(Rect.unit (s := S2688x1024) ![0, 0] S512x1024.size inb_S2688x1024_S512x1024_0_0), k0_pay10 X8 X0 (View.ld ACC (Rect.unit (s := S2688x1024) ![0, 0] S512x1024.size inb_S2688x1024_S512x1024_0_0))⟩] ++ L) y
    = upd ACC X0 X1 X2 X3 X4 X5 X6 X7 X8 y :=
  View.canon_append_of_piecesOf (upd ACC X0 X1 X2 X3 X4 X5 X6 X7 X8) L [⟨(Rect.unit (s := S2688x1024) ![2560, 0] S128x1024.size inb_S2688x1024_S128x1024_2560_0), k0_pay1 (k0_pay3 X8) (k0_pay9 X6 X7) (View.ld ACC (Rect.unit (s := S2688x1024) ![2560, 0] S128x1024.size inb_S2688x1024_S128x1024_2560_0))⟩,
      ⟨(Rect.unit (s := S2688x1024) ![2048, 0] S512x1024.size inb_S2688x1024_S512x1024_2048_0), k0_pay15 (k0_pay3 X8) (k0_pay8 X5) (View.ld ACC (Rect.unit (s := S2688x1024) ![2048, 0] S512x1024.size inb_S2688x1024_S512x1024_2048_0))⟩,
      ⟨(Rect.unit (s := S2688x1024) ![1536, 0] S512x1024.size inb_S2688x1024_S512x1024_1536_0), k0_pay14 (k0_pay3 X8) (k0_pay7 X4) (View.ld ACC (Rect.unit (s := S2688x1024) ![1536, 0] S512x1024.size inb_S2688x1024_S512x1024_1536_0))⟩,
      ⟨(Rect.unit (s := S2688x1024) ![1280, 0] S256x1024.size inb_S2688x1024_S256x1024_1280_0), k0_pay13 (k0_pay3 X8) (k0_pay6 X3) (View.ld ACC (Rect.unit (s := S2688x1024) ![1280, 0] S256x1024.size inb_S2688x1024_S256x1024_1280_0))⟩,
      ⟨(Rect.unit (s := S2688x1024) ![1024, 0] S256x1024.size inb_S2688x1024_S256x1024_1024_0), k0_pay12 (k0_pay3 X8) (k0_pay5 X2) (View.ld ACC (Rect.unit (s := S2688x1024) ![1024, 0] S256x1024.size inb_S2688x1024_S256x1024_1024_0))⟩,
      ⟨(Rect.unit (s := S2688x1024) ![512, 0] S512x1024.size inb_S2688x1024_S512x1024_512_0), k0_pay11 (k0_pay3 X8) (k0_pay4 X1) (View.ld ACC (Rect.unit (s := S2688x1024) ![512, 0] S512x1024.size inb_S2688x1024_S512x1024_512_0))⟩,
      ⟨(Rect.unit (s := S2688x1024) ![0, 0] S512x1024.size inb_S2688x1024_S512x1024_0_0), k0_pay10 X8 X0 (View.ld ACC (Rect.unit (s := S2688x1024) ![0, 0] S512x1024.size inb_S2688x1024_S512x1024_0_0))⟩]
    (by
      refine ⟨?_, ?_, ?_, ?_, ?_, ?_, ?_, trivial⟩
      · exact fun x => piece6 ACC X0 X1 X2 X3 X4 X5 X6 X7 X8 x
      · exact fun x => piece5 ACC X0 X1 X2 X3 X4 X5 X6 X7 X8 x
      · exact fun x => piece4 ACC X0 X1 X2 X3 X4 X5 X6 X7 X8 x
      · exact fun x => piece3 ACC X0 X1 X2 X3 X4 X5 X6 X7 X8 x
      · exact fun x => piece2 ACC X0 X1 X2 X3 X4 X5 X6 X7 X8 x
      · exact fun x => piece1 ACC X0 X1 X2 X3 X4 X5 X6 X7 X8 x
      · exact fun x => piece0 ACC X0 X1 X2 X3 X4 X5 X6 X7 X8 x
    ) y (cover y _ _ _ _ _ _ _)

end Upd

variable (m : (ℓ : Loc nD τ sig) → Buf (Elt Ideal) ℓ)

set_option maxHeartbeats 2000000 in
theorem first (c : Dev nD) (t : Fin cfg0.N) (h : t.val % 4 = 0) (y : S2688x1024.Idx) :
    (outsAt0 m c t.val t.isLt) y = upd (k0_pay2 (F := Ideal)) (iblk m c 0 t) (iblk m c 1 t) (iblk m c 2 t) (iblk m c 3 t) (iblk m c 4 t) (iblk m c 5 t) (iblk m c 6 t) (iblk m c 7 t) (iblk m c 8 t) y := by
  rw [outsAt0_A m c t h]
  frame_open
  simp (disch := decide) only [↓ View.readCov_skip, ↓ View.readCov_cons_toLoadRect, ↓ View.readCov_fill]
  frame_out
  exact stores (k0_pay2 (F := Ideal)) _ _ _ _ _ _ _ _ _ [_] y

set_option maxHeartbeats 2000000 in
theorem next (c : Dev nD) (t : Fin cfg0.N) (h : ¬t.val % 4 = 0) (y : S2688x1024.Idx) :
    (outsAt0 m c t.val t.isLt) y = upd (outsAt0 m c (t.val - 1) (Nat.lt_of_le_of_lt (Nat.sub_le _ _) t.isLt)) (iblk m c 0 t) (iblk m c 1 t) (iblk m c 2 t) (iblk m c 3 t) (iblk m c 4 t) (iblk m c 5 t) (iblk m c 6 t) (iblk m c 7 t) (iblk m c 8 t) y := by
  rw [outsAt0_B m c t h]
  frame_out
  exact stores _ _ _ _ _ _ _ _ _ _ [] y

abbrev P0 (c : Dev nD) : ℕ → ℕ → EReal := at2 (n := 4224) (m := 512) (m ((c : Thread nD τ).loc main_arg1))
abbrev P1 (c : Dev nD) : ℕ → ℕ → EReal := at2 (n := 4224) (m := 512) (m ((c : Thread nD τ).loc main_arg2))
abbrev P2 (c : Dev nD) : ℕ → ℕ → EReal := at2 (n := 4224) (m := 256) (m ((c : Thread nD τ).loc main_arg3))
abbrev P3 (c : Dev nD) : ℕ → ℕ → EReal := at2 (n := 4224) (m := 256) (m ((c : Thread nD τ).loc main_arg4))
abbrev P4 (c : Dev nD) : ℕ → ℕ → EReal := at2 (n := 4224) (m := 512) (m ((c : Thread nD τ).loc main_arg5))
abbrev P5 (c : Dev nD) : ℕ → ℕ → EReal := at2 (n := 4224) (m := 512) (m ((c : Thread nD τ).loc main_arg6))
/-- The two halves of the last piece added, at row `r` of all rows. -/
abbrev both (x : S2x2x2112x16.Idx → EReal) (r l : ℕ) : EReal :=
  at4 (q := 2) (p := 2) (n := 2112) (m := 16) x (r / 2112) 0 (r % 2112) l + at4 (q := 2) (p := 2) (n := 2112) (m := 16) x (r / 2112) 1 (r % 2112) l
abbrev P6 (c : Dev nD) : ℕ → ℕ → EReal := both (m ((c : Thread nD τ).loc main_arg7))
abbrev S (c : Dev nD) : ℕ → ℕ → EReal := at2 (n := 4224) (m := 1024) (m ((c : Thread nD τ).loc main_arg8))

theorem V_P0 (c : Dev nD) (r l : ℕ) : at2 (n := 4224) (m := 512) (V m c main_v0) r l = P0 m c r l := by
  have e : (V m c main_v0 : S4224x512.Idx → EReal) = (m ((c : Thread nD τ).loc main_arg1)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_P1 (c : Dev nD) (r l : ℕ) : at2 (n := 4224) (m := 512) (V m c main_v1) r l = P1 m c r l := by
  have e : (V m c main_v1 : S4224x512.Idx → EReal) = (m ((c : Thread nD τ).loc main_arg2)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_P2 (c : Dev nD) (r l : ℕ) : at2 (n := 4224) (m := 256) (V m c main_v2) r l = P2 m c r l := by
  have e : (V m c main_v2 : S4224x256.Idx → EReal) = (m ((c : Thread nD τ).loc main_arg3)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_P3 (c : Dev nD) (r l : ℕ) : at2 (n := 4224) (m := 256) (V m c main_v3) r l = P3 m c r l := by
  have e : (V m c main_v3 : S4224x256.Idx → EReal) = (m ((c : Thread nD τ).loc main_arg4)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_P4 (c : Dev nD) (r l : ℕ) : at2 (n := 4224) (m := 512) (V m c main_v4) r l = P4 m c r l := by
  have e : (V m c main_v4 : S4224x512.Idx → EReal) = (m ((c : Thread nD τ).loc main_arg5)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_P5 (c : Dev nD) (r l : ℕ) : at2 (n := 4224) (m := 512) (V m c main_v5) r l = P5 m c r l := by
  have e : (V m c main_v5 : S4224x512.Idx → EReal) = (m ((c : Thread nD τ).loc main_arg6)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_S (c : Dev nD) (r l : ℕ) : at2 (n := 4224) (m := 1024) (V m c main_v8) r l = S m c r l := by
  have e : (V m c main_v8 : S4224x1024.Idx → EReal) = (m ((c : Thread nD τ).loc main_arg8)) := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e]

theorem V_v7 (c : Dev nD) (a b r l : ℕ) : at4 (q := 2) (p := 2) (n := 2112) (m := 128) (V m c main_v7) a b r l
    = at4 (q := 2) (p := 2) (n := 2112) (m := 16) (m ((c : Thread nD τ).loc main_arg7)) a b r l := by
  have e : (V m c main_v7 : S2x2x2112x128.Idx → EReal) = pad S2x2x2112x128 ![0, 0, 0, 0] ![0, 0, 0, 112] ![0, 0, 0, 0]
      (m ((c : Thread nD τ).loc main_arg7)) (sitofp (F := Ideal) .f32 (constantI S_ 32 0#32)) pads_S2x2x2112x16_S2x2x2112x128_000_000_000_01120 h_S_ := by
    unfold V
    simp only [hostOps0, hostOps0_1, hostOps0_2, StableHlo.TRef.binary, StableHlo.TRef.unary, StableHlo.TRef.nullary, StableHlo.TRef.toBuf, StableHlo.TRef.ofBuf, cast_eq,
      List.flatten_cons, List.flatten_nil, List.append_nil, List.cons_append, List.nil_append, fn_pad.body]
    after_results
    rfl
  rw [e, at4_pad _ _ _ _ (by decide) (by pointwise; exact sitofp_zero _)]

theorem idx : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val / 2 ∧ win0_6.index t 1 = 0 ∧ win0_6.index t 2 = t.val % 2 ∧ win0_6.index t 3 = 0) ∧ (win0_7.index t 0 = t.val / 2 ∧ win0_7.index t 1 = 1 ∧ win0_7.index t 2 = t.val % 2 ∧ win0_7.index t 3 = 0) ∧ (win0_8.index t 0 = t.val ∧ win0_8.index t 1 = 0) ∧ (win0_9.index t 0 = 0 ∧ win0_9.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val / 2 ∧ win0_6.index t 1 = 0 ∧ win0_6.index t 2 = t.val % 2 ∧ win0_6.index t 3 = 0) ∧ (win0_7.index t 0 = t.val / 2 ∧ win0_7.index t 1 = 1 ∧ win0_7.index t 2 = t.val % 2 ∧ win0_7.index t 3 = 0) ∧ (win0_8.index t 0 = t.val ∧ win0_8.index t 1 = 0) ∧ (win0_9.index t 0 = 0 ∧ win0_9.index t 1 = 0))

theorem flush_iff : ∀ t : Fin cfg0.N, (cfg0.win 9).flush t = true → t.val = 3 :=
  (by decide +kernel : ∀ t : Fin grid0.N, (cfg0.win 9).flush t = true → t.val = 3)

theorem rows_0 (c : Dev nD) (t : Fin cfg0.N) (r k : ℕ) (hr : r < 1056) (hk : k < 512) :
    at2 (n := 1056) (m := 512) (iblk m c 0 t) r k = P0 m c (t.val * 1056 + r) k := by
  rw [at2_mk _ hr hk, ← V_P0]
  unfold iblk
  exact eq_at2 (n := 4224) (m := 512) (V m c main_v0) _ (by blk_simp [idx t]) (by blk_simp [idx t])

theorem rows_1 (c : Dev nD) (t : Fin cfg0.N) (r k : ℕ) (hr : r < 1056) (hk : k < 512) :
    at2 (n := 1056) (m := 512) (iblk m c 1 t) r k = P1 m c (t.val * 1056 + r) k := by
  rw [at2_mk _ hr hk, ← V_P1]
  unfold iblk
  exact eq_at2 (n := 4224) (m := 512) (V m c main_v1) _ (by blk_simp [idx t]) (by blk_simp [idx t])

theorem rows_2 (c : Dev nD) (t : Fin cfg0.N) (r k : ℕ) (hr : r < 1056) (hk : k < 256) :
    at2 (n := 1056) (m := 256) (iblk m c 2 t) r k = P2 m c (t.val * 1056 + r) k := by
  rw [at2_mk _ hr hk, ← V_P2]
  unfold iblk
  exact eq_at2 (n := 4224) (m := 256) (V m c main_v2) _ (by blk_simp [idx t]) (by blk_simp [idx t])

theorem rows_3 (c : Dev nD) (t : Fin cfg0.N) (r k : ℕ) (hr : r < 1056) (hk : k < 256) :
    at2 (n := 1056) (m := 256) (iblk m c 3 t) r k = P3 m c (t.val * 1056 + r) k := by
  rw [at2_mk _ hr hk, ← V_P3]
  unfold iblk
  exact eq_at2 (n := 4224) (m := 256) (V m c main_v3) _ (by blk_simp [idx t]) (by blk_simp [idx t])

theorem rows_4 (c : Dev nD) (t : Fin cfg0.N) (r k : ℕ) (hr : r < 1056) (hk : k < 512) :
    at2 (n := 1056) (m := 512) (iblk m c 4 t) r k = P4 m c (t.val * 1056 + r) k := by
  rw [at2_mk _ hr hk, ← V_P4]
  unfold iblk
  exact eq_at2 (n := 4224) (m := 512) (V m c main_v4) _ (by blk_simp [idx t]) (by blk_simp [idx t])

theorem rows_5 (c : Dev nD) (t : Fin cfg0.N) (r k : ℕ) (hr : r < 1056) (hk : k < 512) :
    at2 (n := 1056) (m := 512) (iblk m c 5 t) r k = P5 m c (t.val * 1056 + r) k := by
  rw [at2_mk _ hr hk, ← V_P5]
  unfold iblk
  exact eq_at2 (n := 4224) (m := 512) (V m c main_v5) _ (by blk_simp [idx t]) (by blk_simp [idx t])

theorem rows_8 (c : Dev nD) (t : Fin cfg0.N) (r k : ℕ) (hr : r < 1056) (hk : k < 1024) :
    at2 (n := 1056) (m := 1024) (iblk m c 8 t) r k = S m c (t.val * 1056 + r) k := by
  rw [at2_mk _ hr hk, ← V_S]
  unfold iblk
  exact eq_at2 (n := 4224) (m := 1024) (V m c main_v8) _ (by blk_simp [idx t]) (by blk_simp [idx t])

theorem half6 (c : Dev nD) (t : Fin cfg0.N) (r k : ℕ) (hr : r < 1056) :
    at4 (q := 1) (p := 1) (n := 1056) (m := 128) (iblk m c 6 t) 0 0 r k
      = at4 (q := 2) (p := 2) (n := 2112) (m := 16) (m ((c : Thread nD τ).loc main_arg7)) (t.val / 2) 0 (t.val % 2 * 1056 + r) k := by
  by_cases hk : k < 128
  · rw [at4_mk _ (by omega) (by omega) hr hk, ← V_v7]
    unfold iblk
    exact eq_at4 (q := 2) (p := 2) (n := 2112) (m := 128) (V m c main_v7) _ (by blk_simp [idx t] <;> rfl) (by blk_simp [idx t] <;> rfl) (by blk_simp [idx t] <;> rfl) (by blk_simp [idx t] <;> rfl)
  · rw [at4_out _ (by omega), at4_out _ (by omega)]

theorem half7 (c : Dev nD) (t : Fin cfg0.N) (r k : ℕ) (hr : r < 1056) :
    at4 (q := 1) (p := 1) (n := 1056) (m := 128) (iblk m c 7 t) 0 0 r k
      = at4 (q := 2) (p := 2) (n := 2112) (m := 16) (m ((c : Thread nD τ).loc main_arg7)) (t.val / 2) 1 (t.val % 2 * 1056 + r) k := by
  by_cases hk : k < 128
  · rw [at4_mk _ (by omega) (by omega) hr hk, ← V_v7]
    unfold iblk
    exact eq_at4 (q := 2) (p := 2) (n := 2112) (m := 128) (V m c main_v7) _ (by blk_simp [idx t] <;> rfl) (by blk_simp [idx t] <;> rfl) (by blk_simp [idx t] <;> rfl) (by blk_simp [idx t] <;> rfl)
  · rw [at4_out _ (by omega), at4_out _ (by omega)]

/-- The product of row `k` of the pieces' column `o` and of the rows' column `l`. -/
abbrev prod (c : Dev nD) (o l k : ℕ) : EReal := side (P0 m c k) (P1 m c k) (P2 m c k) (P3 m c k) (P4 m c k) (P5 m c k) (P6 m c k) o * S m c k l

theorem point (c : Dev nD) (t : Fin cfg0.N) (ACC : Vec Ideal S2688x1024 .f32) (y : S2688x1024.Idx) :
    upd ACC (iblk m c 0 t) (iblk m c 1 t) (iblk m c 2 t) (iblk m c 3 t) (iblk m c 4 t) (iblk m c 5 t) (iblk m c 6 t) (iblk m c 7 t) (iblk m c 8 t) y
      = (ACC y + sumTo 1056 fun k => prod m c (y 0).val (y 1).val (t.val * 1056 + k) : EReal) := by
  have h0 : (y 0).val < 2688 := (y 0).isLt
  have h1 : (y 1).val < 1024 := (y 1).isLt
  have hN : cfg0.N = 4 := N_0
  have ht := t.isLt
  refine congrArg₂ (fun a b : EReal => a + b) rfl (sumTo_congr fun k hk => congrArg₂ (fun a b : EReal => a * b) ?_ (rows_8 m c t k _ hk h1))
  unfold side
  split_ifs
  · exact rows_0 m c t k _ hk (by omega)
  · exact rows_1 m c t k _ hk (by omega)
  · exact rows_2 m c t k _ hk (by omega)
  · exact rows_3 m c t k _ hk (by omega)
  · exact rows_4 m c t k _ hk (by omega)
  · exact rows_5 m c t k _ hk (by omega)
  · refine (congrArg₂ (fun a b : EReal => a + b) (half6 m c t k _ hk) (half7 m c t k _ hk)).trans ?_
    unfold P6 both
    rw [show (t.val * 1056 + k) / 2112 = t.val / 2 by omega, show (t.val * 1056 + k) % 2112 = t.val % 2 * 1056 + k by omega]

theorem zeros (y : S2688x1024.Idx) : k0_pay2 (F := Ideal) y = (0 : EReal) := by unfold k0_pay2; pointwise

/-- The result. -/
def G (c : Dev nD) : S2688x1024.Idx → EReal := fun i => sumTo 4224 (prod m c (i 0).val (i 1).val)

theorem after (c : Dev nD) (y : S2688x1024.Idx) : ∀ n (hn : n < cfg0.N), (outsAt0 m c n hn) y = (sumTo ((n + 1) * 1056) (prod m c (y 0).val (y 1).val) : EReal)
  | 0, hn => (first m c ⟨0, hn⟩ rfl y).trans ((point m c ⟨0, hn⟩ _ y).trans (by
      rw [zeros, zero_add]
      show sumTo 1056 (fun k => prod m c (y 0).val (y 1).val (0 * 1056 + k)) = sumTo ((0 + 1) * 1056) _
      simp only [Nat.zero_mul, Nat.zero_add, Nat.one_mul]))
  | n + 1, hn => (next m c ⟨n + 1, hn⟩ (by have h : cfg0.N = 4 := N_0; show ¬(n + 1) % 4 = 0; omega) y).trans ((point m c ⟨n + 1, hn⟩ _ y).trans (by
      refine Eq.trans ?_ (congrArg (fun j => sumTo j (prod m c (y 0).val (y 1).val)) (show (n + 1) * 1056 + 1056 = (n + 1 + 1) * 1056 by omega))
      rw [sumTo_add]
      exact congrArg₂ (fun a b : EReal => a + b) (after c y n (Nat.lt_of_succ_lt hn)) rfl))

theorem arr (c : Dev nD) : (dats m 0 c).arrAt 9 cfg0.N = G m c := by
  refine (dats m 0 c).arrAt_eq_of_covers 9 _ (by decide +kernel) fun t hf y => ?_
  have hm := flush_iff t hf
  have e : (G m c (((cfg0.win 9).blk t).view.emb y) : EReal) = sumTo 4224 (prod m c (y 0).val (y 1).val) := by
    unfold G
    blk_simp [idx t]
  blk_simp
  rw [after0_9]
  refine Eq.trans ?_ e.symm
  refine (after m c y t.val t.isLt).trans ?_
  rw [hm]

section Ref

variable (s : Vec Ideal S4224x1024 .f32) (p0 p1 : Vec Ideal S4224x512 .f32) (p2 p3 : Vec Ideal S4224x256 .f32)
  (p4 p5 : Vec Ideal S4224x512 .f32) (d : S2x2x2112x16.Idx → EReal)

theorem refsum (r k : ℕ) (hr : r < 4224) (hk : k < 16) : at2 (n := 4224) (m := 16) (Cert.Reference9Ideal.Read.val_main_v1 (F := Ideal) d) r k = both d r k := by
  rw [at2_mk _ hr hk]
  unfold Cert.Reference9Ideal.Read.val_main_v1 Cert.Reference9Ideal.Read.val_main_v0 Cert.Reference9Ideal.Read.val_main_cst both
  rw [at4_mk _ (by omega) (by omega) (by omega) hk, at4_mk _ (by omega) (by omega) (by omega) hk]
  pointwise
  exact Fin.sum_univ_two _

theorem cat0 (r k : ℕ) (hr : r < 4224) (hk : k < 512) :
    at2 (n := 4224) (m := 2576) (Cert.Reference9Ideal.Read.val_main_v10 (F := Ideal) p0 p1 p2 p3 p4 p5 d) r (k) = at2 (n := 4224) (m := 512) p0 r k := by
  skip
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 512) p0 _ rfl (by first | rfl | (simp only [ix2]; omega))

theorem cat1 (r k : ℕ) (hr : r < 4224) (hk : k < 512) :
    at2 (n := 4224) (m := 2576) (Cert.Reference9Ideal.Read.val_main_v10 (F := Ideal) p0 p1 p2 p3 p4 p5 d) r (512 + k) = at2 (n := 4224) (m := 512) p1 r k := by
  skip
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 512) p1 _ rfl (by first | rfl | (simp only [ix2]; omega))

theorem cat2 (r k : ℕ) (hr : r < 4224) (hk : k < 256) :
    at2 (n := 4224) (m := 2576) (Cert.Reference9Ideal.Read.val_main_v10 (F := Ideal) p0 p1 p2 p3 p4 p5 d) r (1024 + k) = at2 (n := 4224) (m := 256) p2 r k := by
  skip
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 256) p2 _ rfl (by first | rfl | (simp only [ix2]; omega))

theorem cat3 (r k : ℕ) (hr : r < 4224) (hk : k < 256) :
    at2 (n := 4224) (m := 2576) (Cert.Reference9Ideal.Read.val_main_v10 (F := Ideal) p0 p1 p2 p3 p4 p5 d) r (1280 + k) = at2 (n := 4224) (m := 256) p3 r k := by
  skip
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 256) p3 _ rfl (by first | rfl | (simp only [ix2]; omega))

theorem cat4 (r k : ℕ) (hr : r < 4224) (hk : k < 512) :
    at2 (n := 4224) (m := 2576) (Cert.Reference9Ideal.Read.val_main_v10 (F := Ideal) p0 p1 p2 p3 p4 p5 d) r (1536 + k) = at2 (n := 4224) (m := 512) p4 r k := by
  skip
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 512) p4 _ rfl (by first | rfl | (simp only [ix2]; omega))

theorem cat5 (r k : ℕ) (hr : r < 4224) (hk : k < 512) :
    at2 (n := 4224) (m := 2576) (Cert.Reference9Ideal.Read.val_main_v10 (F := Ideal) p0 p1 p2 p3 p4 p5 d) r (2048 + k) = at2 (n := 4224) (m := 512) p5 r k := by
  skip
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 512) p5 _ rfl (by first | rfl | (simp only [ix2]; omega))

theorem cat6 (r k : ℕ) (hr : r < 4224) (hk : k < 16) :
    at2 (n := 4224) (m := 2576) (Cert.Reference9Ideal.Read.val_main_v10 (F := Ideal) p0 p1 p2 p3 p4 p5 d) r (2560 + k) = both d r k := by
  rw [← refsum d r k hr hk]
  unfold Cert.Reference9Ideal.Read.val_main_v10
  rw [at2_mk _ hr (by omega)]
  generalize Cert.Reference9Ideal.Read.val_main_v1 (F := Ideal) d = Z
  pointwise
  split_ifs <;> first | (exfalso; omega) | exact eq_at2 (n := 4224) (m := 16) Z _ rfl (by first | rfl | (simp only [ix2]; omega))

theorem cats (r o : ℕ) (hr : r < 4224) (ho : o < 2576) :
    at2 (n := 4224) (m := 2576) (Cert.Reference9Ideal.Read.val_main_v10 (F := Ideal) p0 p1 p2 p3 p4 p5 d) r o
      = side (at2 (n := 4224) (m := 512) p0 r) (at2 (n := 4224) (m := 512) p1 r) (at2 (n := 4224) (m := 256) p2 r) (at2 (n := 4224) (m := 256) p3 r)
          (at2 (n := 4224) (m := 512) p4 r) (at2 (n := 4224) (m := 512) p5 r) (both d r) o := by
  unfold side
  split_ifs
  · exact cat0 p0 p1 p2 p3 p4 p5 d r o hr (by omega)
  · exact (congrArg (at2 _ r) (show o = 512 + (o - 512) by omega)).trans (cat1 p0 p1 p2 p3 p4 p5 d r (o - 512) hr (by omega))
  · exact (congrArg (at2 _ r) (show o = 1024 + (o - 1024) by omega)).trans (cat2 p0 p1 p2 p3 p4 p5 d r (o - 1024) hr (by omega))
  · exact (congrArg (at2 _ r) (show o = 1280 + (o - 1280) by omega)).trans (cat3 p0 p1 p2 p3 p4 p5 d r (o - 1280) hr (by omega))
  · exact (congrArg (at2 _ r) (show o = 1536 + (o - 1536) by omega)).trans (cat4 p0 p1 p2 p3 p4 p5 d r (o - 1536) hr (by omega))
  · exact (congrArg (at2 _ r) (show o = 2048 + (o - 2048) by omega)).trans (cat5 p0 p1 p2 p3 p4 p5 d r (o - 2048) hr (by omega))
  · exact (congrArg (at2 _ r) (show o = 2560 + (o - 2560) by omega)).trans (cat6 p0 p1 p2 p3 p4 p5 d r (o - 2560) hr (by omega))

theorem ref (i : S2688x1024.Idx) : Cert.Reference9Ideal.Read.val_main_v14 (F := Ideal) p0 p1 p2 p3 p4 p5 d s i
    = (sumTo 4224 fun k => side (at2 (n := 4224) (m := 512) p0 k) (at2 (n := 4224) (m := 512) p1 k) (at2 (n := 4224) (m := 256) p2 k) (at2 (n := 4224) (m := 256) p3 k)
          (at2 (n := 4224) (m := 512) p4 k) (at2 (n := 4224) (m := 512) p5 k) (both d k) (i 0).val * at2 (n := 4224) (m := 1024) s k (i 1).val : EReal) := by
  have hi0 : (i 0).val < 2688 := (i 0).isLt
  have hi1 : (i 1).val < 1024 := (i 1).isLt
  rw [eq_at2 (n := 2688) (m := 1024) (Cert.Reference9Ideal.Read.val_main_v14 (F := Ideal) p0 p1 p2 p3 p4 p5 d s) i rfl rfl]
  unfold Cert.Reference9Ideal.Read.val_main_v14
  rw [at2_pad _ _ _ _ (by decide) (by decide) (by unfold Cert.Reference9Ideal.Read.val_main_call0_v0 Cert.Reference9Ideal.Read.val_main_c; pointwise; exact sitofp_zero _)]
  by_cases h : (i 0).val < 2576
  · unfold Cert.Reference9Ideal.Read.val_main_v13 Cert.Reference9Ideal.Read.val_main_v12
    rw [at2_transpose, at2_transpose, at2_mk _ h hi1]
    refine (Cert.Reference9Ideal.Read.val_main_v11_apply p0 p1 p2 p3 p4 p5 d s _).trans (sum_fin' fun k => congrArg₂ (fun a b : EReal => a * b) ?_ (eq_at2 (n := 4224) (m := 1024) s _ rfl rfl))
    refine (eq_at2 (n := 4224) (m := 2576) _ _ rfl rfl).trans (cats p0 p1 p2 p3 p4 p5 d k.val (i 0).val k.isLt h)
  · rw [at2_out _ (by omega)]
    refine (Finset.sum_eq_zero (M := EReal) fun k hk => ?_).symm
    unfold side
    rw [if_neg (by omega), if_neg (by omega), if_neg (by omega), if_neg (by omega), if_neg (by omega), if_neg (by omega)]
    unfold both
    rw [at4_out _ (by omega), at4_out _ (by omega), add_zero, zero_mul]

end Ref

theorem claim : Cert.algebraic_Kernel9Ideal_Reference9Ideal := by
  intro m g m' g' _ hagree
  refine ⟨fun c => G m c, ?_, ?_⟩
  · refine (θ_run Cert.Kernel9Ideal.defs _ _).mono (fun r h c => ?_) (Cert.Kernel9Ideal.Value.run_blocks m g)
    obtain ⟨h1, h2⟩ := h c
    exact ⟨h1.trans (arr m c), h2⟩
  · refine (θ_run Cert.Reference9Ideal.defs _ _).mono (fun r h c => ?_) (Cert.Reference9Ideal.Value.run (F := Ideal) m' g')
    obtain ⟨h1, h2⟩ := h c
    obtain ⟨e0, e1, e2, e3, e4, e5, e6, e7, e8⟩ := hagree c
    refine ⟨h1.trans ?_, h2⟩
    rw [e1, e2, e3, e4, e5, e6, e7, e8]
    exact (Cert.Reference9Ideal.Read.val_main_v14_eq _ _ _ _ _ _ _ _).trans (funext fun i => ref _ _ _ _ _ _ _ _ i)

end Cert.GradWIn

end
-- ==== Proof.LnGrad.lean ====
/- The gradient of a layer norm at its argument: the closed form over the normalised row, and the chain rule's, are one real number. -/
module

public import proofs.«01_k».proof.Proof.Plain
public import Idealize.ShloMosaic.Lib.IdealHost

@[expose] public section

noncomputable section

namespace Cert.LnGrad

open Cert.Plain Idealize.ShloMosaic

/-- The four constants: 1024, the small number under the root, two, and minus one half. -/
abbrev cN : EReal := Ideal.ofBits .f32 0x44800000#32
abbrev cE : EReal := Ideal.ofBits .f32 0x3727C5AC#32
abbrev cT : EReal := Ideal.ofBits .f32 0x40000000#32
abbrev cH : EReal := Ideal.ofBits .f32 0xBF000000#32

theorem cN_eq : cN = ((1024 : ℝ) : EReal) := by
  simp [Ideal.ofBits, Ideal.ieee, -EReal.coe_mul]; norm_num
theorem cT_eq : cT = ((2 : ℝ) : EReal) := by
  simp [Ideal.ofBits, Ideal.ieee, -EReal.coe_mul]; norm_num
theorem cH_eq : cH = ((-(1 / 2) : ℝ) : EReal) := by
  simp [Ideal.ofBits, Ideal.ieee, -EReal.coe_mul, -EReal.coe_neg]; norm_num
theorem cE_eq : cE = ((10995116 / 1099511627776 : ℝ) : EReal) := by
  simp [Ideal.ofBits, Ideal.ieee, -EReal.coe_mul]; norm_num
theorem cE_pos : ∃ e : ℝ, 0 < e ∧ cE = (e : EReal) := ⟨_, by norm_num, cE_eq⟩

/-- A row's mean, its deviations from it, the mean square with the small number, and one over the root. -/
def mean (x : ℕ → EReal) : EReal := Ideal.div (sumTo 1024 x) cN
def dev (x : ℕ → EReal) (i : ℕ) : EReal := x i - mean x
def msq (x : ℕ → EReal) : EReal := Ideal.div (sumTo 1024 fun k => dev x k * dev x k) cN + cE
def rs (x : ℕ → EReal) : EReal := Ideal.rsqrt (msq x)
/-- The normalised row. -/
def nrm (x : ℕ → EReal) (i : ℕ) : EReal := dev x i * rs x

/-- The closed form. -/
def closed (x D : ℕ → EReal) (i : ℕ) : EReal :=
  rs x * (D i - Ideal.div (sumTo 1024 D) cN - nrm x i * Ideal.div (sumTo 1024 fun k => D k * nrm x k) cN)

/-- The chain rule's. -/
def share (x D : ℕ → EReal) : EReal :=
  Ideal.div ((sumTo 1024 fun k => dev x k * D k) * (cH * Ideal.div (rs x) (msq x))) cN
def chain (x D : ℕ → EReal) (i : ℕ) : EReal :=
  D i * rs x + share x D * (cT * dev x i)
    + Ideal.div ((sumTo 1024 fun k => -(D k * rs x)) + sumTo 1024 fun k => -(share x D * (cT * dev x k))) cN

theorem div_real (a : ℝ) {b : ℝ} (h : b ≠ 0) : Ideal.div (a : EReal) (b : EReal) = ((a / b : ℝ) : EReal) := by
  rw [Ideal.div_coe h, ← EReal.coe_mul, mul_one_div]

theorem sum_real (n : ℕ) (f : ℕ → ℝ) : sumTo n (fun k => (f k : EReal)) = ((∑ k ∈ Finset.range n, f k : ℝ) : EReal) := by
  induction n with
  | zero => simp [sumTo]
  | succ n ih =>
    have e : sumTo (n + 1) (fun k => (f k : EReal)) = sumTo n (fun k => (f k : EReal)) + (f n : EReal) := Finset.sum_range_succ _ n
    rw [e, ih, Finset.sum_range_succ, EReal.coe_add]

/-- Over the reals: the deviations sum to zero, and the root's cube divides by the mean square. -/
theorem real_eq (d D : ℕ → ℝ) (i : ℕ) (r s : ℝ) (hd : ∑ k ∈ Finset.range 1024, d k = 0) (hs : 0 < s) (hr : r = (Real.sqrt s)⁻¹) :
    r * (D i - (∑ k ∈ Finset.range 1024, D k) / 1024 - d i * r * ((∑ k ∈ Finset.range 1024, D k * (d k * r)) / 1024))
      = D i * r + (∑ k ∈ Finset.range 1024, d k * D k) * (-(1 / 2) * (r / s)) / 1024 * (2 * d i)
        + ((∑ k ∈ Finset.range 1024, -(D k * r))
          + ∑ k ∈ Finset.range 1024, -((∑ k ∈ Finset.range 1024, d k * D k) * (-(1 / 2) * (r / s)) / 1024 * (2 * d k))) / 1024 := by
  have h2 : r / s = r * r * r := by
    have hq : Real.sqrt s ≠ 0 := (Real.sqrt_pos.mpr hs).ne'
    have hm : s = Real.sqrt s * Real.sqrt s := (Real.mul_self_sqrt hs.le).symm
    rw [hr]
    generalize Real.sqrt s = q at hm hq
    subst hm
    field_simp
  have e1 : ∑ k ∈ Finset.range 1024, D k * (d k * r) = (∑ k ∈ Finset.range 1024, d k * D k) * r := by
    rw [Finset.sum_mul]; exact Finset.sum_congr rfl fun k _ => by ring
  have e2 : ∑ k ∈ Finset.range 1024, -(D k * r) = -((∑ k ∈ Finset.range 1024, D k) * r) := by
    rw [Finset.sum_neg_distrib, Finset.sum_mul]
  have e3 (c : ℝ) : ∑ k ∈ Finset.range 1024, -(c * (2 * d k)) = 0 := by
    have : ∑ k ∈ Finset.range 1024, -(c * (2 * d k)) = -(c * 2) * ∑ k ∈ Finset.range 1024, d k := by
      rw [Finset.mul_sum]; exact Finset.sum_congr rfl fun k _ => by ring
    rw [this, hd, mul_zero]
  rw [e1, e2, e3, h2]
  ring

theorem closed_eq_chain (x D : ℕ → EReal) (hx : ∀ k, ∃ a : ℝ, x k = (a : EReal)) (hD : ∀ k, ∃ a : ℝ, D k = (a : EReal)) (i : ℕ) :
    closed x D i = chain x D i := by
  choose x' hx' using hx
  choose D' hD' using hD
  obtain rfl : x = fun k => (x' k : EReal) := funext hx'
  obtain rfl : D = fun k => (D' k : EReal) := funext hD'
  obtain ⟨e, he, hE⟩ := cE_pos
  have h0 : (1024 : ℝ) ≠ 0 := by norm_num
  obtain ⟨mu, hmu⟩ : ∃ mu : ℝ, mu = (∑ k ∈ Finset.range 1024, x' k) / 1024 := ⟨_, rfl⟩
  obtain ⟨d, hd⟩ : ∃ d : ℕ → ℝ, d = fun k => x' k - mu := ⟨_, rfl⟩
  obtain ⟨s, hs⟩ : ∃ s : ℝ, s = (∑ k ∈ Finset.range 1024, d k * d k) / 1024 + e := ⟨_, rfl⟩
  obtain ⟨r, hr⟩ : ∃ r : ℝ, r = (Real.sqrt s)⁻¹ := ⟨_, rfl⟩
  have hs0 : 0 < s := by
    have : 0 ≤ ∑ k ∈ Finset.range 1024, d k * d k := Finset.sum_nonneg fun k _ => mul_self_nonneg _
    rw [hs]; positivity
  have hd0 : ∑ k ∈ Finset.range 1024, d k = 0 := by
    rw [hd, Finset.sum_sub_distrib, Finset.sum_const, Finset.card_range, hmu]
    simp only [nsmul_eq_mul]; push_cast; ring
  have emean : mean (fun k => (x' k : EReal)) = (mu : EReal) := by
    unfold mean; rw [sum_real, cN_eq, div_real _ h0, hmu]
  have edev (k : ℕ) : dev (fun k => (x' k : EReal)) k = (d k : EReal) := by
    unfold dev; rw [emean, ← EReal.coe_sub, hd]
  have esq : msq (fun k => (x' k : EReal)) = (s : EReal) := by
    unfold msq; simp only [edev, ← EReal.coe_mul]; rw [sum_real, cN_eq, div_real _ h0, hE, ← EReal.coe_add, hs]
  have ers : rs (fun k => (x' k : EReal)) = (r : EReal) := by
    unfold rs; rw [esq, Ideal.rsqrt_coe, if_neg hs0.le.not_gt, if_neg hs0.ne', hr]
  unfold closed chain share nrm
  simp only [edev, esq, ers, cN_eq, cT_eq, cH_eq, ← EReal.coe_mul, ← EReal.coe_neg, sum_real, div_real _ h0, div_real _ hs0.ne', ← EReal.coe_sub, ← EReal.coe_add]
  exact congrArg _ (real_eq d D' i r s hd0 hs0 hr)

/-! ## A row with an infinite entry: both forms are zero -/

theorem sum_inf (n : ℕ) (f : ℕ → EReal) {k : ℕ} (hk : k < n) (h : f k = ⊤ ∨ f k = ⊥) : sumTo n f = ⊤ ∨ sumTo n f = ⊥ := by
  induction n with
  | zero => omega
  | succ n ih =>
    have e : sumTo (n + 1) f = sumTo n f + f n := Finset.sum_range_succ _ n
    rw [e]
    generalize hb : f n = b at *
    by_cases hkn : k = n
    · rw [hkn, hb] at h
      generalize sumTo n f = a at *
      rcases h with rfl | rfl
      · induction a <;> simp
      · right; simp
    · have h' := ih (by omega)
      generalize sumTo n f = a at *
      rcases h' with rfl | rfl
      · induction b <;> simp
      · right; simp

theorem dev_inf (x : ℕ → EReal) {k : ℕ} (hk : k < 1024) (h : x k = ⊤ ∨ x k = ⊥) (i : ℕ) : dev x i = ⊤ ∨ dev x i = ⊥ := by
  have h2 : (0 : ℝ) < 1 / 1024 := by norm_num
  have hm : mean x = ⊤ ∨ mean x = ⊥ := by
    unfold mean
    rw [cN_eq, Ideal.div_coe (by norm_num)]
    rcases sum_inf 1024 x hk h with e | e
    · left; rw [e, EReal.top_mul_coe_of_pos h2]
    · right; rw [e, EReal.bot_mul_coe_of_pos h2]
  unfold dev
  generalize x i = a
  rcases hm with e | e <;> rw [e] <;> induction a <;> simp

theorem rs_inf (x : ℕ → EReal) {k : ℕ} (hk : k < 1024) (h : x k = ⊤ ∨ x k = ⊥) : msq x = ⊤ ∧ rs x = 0 := by
  have hq : msq x = ⊤ := by
    have e : sumTo 1024 (fun k => dev x k * dev x k) = ⊤ := by
      have e1 (k : ℕ) : dev x k * dev x k = ⊤ := by rcases dev_inf x hk h k with e | e <;> rw [e] <;> simp
      simp only [e1]
      have hs (n : ℕ) : sumTo (n + 1) (fun _ => (⊤ : EReal)) = ⊤ := by
        induction n with
        | zero => exact Finset.sum_range_one _
        | succ n ih =>
          have e : sumTo (n + 1 + 1) (fun _ => (⊤ : EReal)) = sumTo (n + 1) (fun _ => (⊤ : EReal)) + ⊤ := Finset.sum_range_succ _ _
          rw [e, ih]; rfl
      exact hs 1023
    unfold msq
    rw [e, cN_eq, Ideal.div_coe (by norm_num), EReal.top_mul_coe_of_pos (by norm_num), cE_eq, EReal.top_add_coe]
  exact ⟨hq, by unfold rs; rw [hq]; rfl⟩

theorem closed_eq_chain_inf (x D : ℕ → EReal) {k : ℕ} (hk : k < 1024) (h : x k = ⊤ ∨ x k = ⊥) (i : ℕ) : closed x D i = chain x D i := by
  obtain ⟨hq, hr⟩ := rs_inf x hk h
  have d0 (y : EReal) (hy : y ≠ 0) : Ideal.div 0 y = 0 := by rw [Ideal.div, if_neg hy, zero_mul]
  have hN : cN ≠ 0 := by rw [cN_eq]; exact_mod_cast (by norm_num : (1024 : ℝ) ≠ 0)
  have hs : share x D = 0 := by
    unfold share
    rw [hr, hq, d0 _ EReal.top_ne_zero, mul_zero, mul_zero, d0 _ hN]
  have z : sumTo 1024 (fun _ => (0 : EReal)) = 0 := Finset.sum_const_zero
  unfold closed chain
  simp only [hr, hs, zero_mul, mul_zero, neg_zero, z, add_zero, d0 _ hN]

/-- The two forms agree whatever the row is, of finite gradients. -/
theorem closed_eq_chain_of_finite (x D : ℕ → EReal) (hx : ∀ k, 1024 ≤ k → x k = 0) (hD : ∀ k, ∃ a : ℝ, D k = (a : EReal)) (i : ℕ) :
    closed x D i = chain x D i := by
  by_cases h : ∃ k, x k = ⊤ ∨ x k = ⊥
  · obtain ⟨k, hk⟩ := h
    refine closed_eq_chain_inf x D (k := k) ?_ hk i
    by_contra hn
    rw [hx k (by omega)] at hk
    simp at hk
  · refine closed_eq_chain x D (fun k => ?_) hD i
    have hk : ¬(x k = ⊤ ∨ x k = ⊥) := fun e => h ⟨k, e⟩
    exact ⟨(x k).toReal, (EReal.coe_toReal (fun e => hk (.inl e)) (fun e => hk (.inr e))).symm⟩

end Cert.LnGrad

end
-- ==== Proof.FfnBwdRef.lean ====
/- The reference of the feed-forward's gradient through the first layer norm, read at plain numbers. -/
module

public import proofs.«01_k».proof.Proof.Gen.Reference10Ideal.Read
public import proofs.«01_k».proof.Proof.LnGrad
public import Idealize.ShloMosaic.Lib.Pipeline.ValueKit

@[expose] public section

set_option maxRecDepth 16384

noncomputable section

namespace Cert.FfnBwdRef

open Cert.Plain Cert.LnGrad Cert.Reference10Ideal Cert.Reference10Ideal.Read
open Idealize.ShloMosaic Idealize.ShloMosaic.TcCoe Idealize.ShloMosaic.Tactic

/-- A host sum that starts from zero. -/
theorem zero_sum {n : ℕ} {g : Fin n → EReal} {f : ℕ → EReal} (h : ∀ k, g k = f k.val) :
    Ideal.ofBits .f32 0x00000000#32 + ∑ k : Fin n, g k = sumTo n f := by
  rw [Ideal.ofBits_zero_f32, zero_add, sum_fin' h]

section row
variable (x : Vec Ideal S4224x1024 .f32)

theorem v4_at (i : S4224x1.Idx) : val_main_v4 (F := Ideal) x i = mean (at2 (n := 4224) (m := 1024) x (i 0).val) := by
  rw [val_main_v4_apply, val_main_v2_apply, val_main_v1_apply, val_main_v3_apply]
  exact congrArg (Ideal.div · cN) (zero_sum fun k => eq_at2 (n := 4224) (m := 1024) x _ rfl rfl)

theorem v6_at (i : S4224x1024.Idx) : val_main_v6 (F := Ideal) x i = dev (at2 (n := 4224) (m := 1024) x (i 0).val) (i 1).val := by
  rw [val_main_v6_apply, val_main_v5_apply, v4_at, eq_at2 (n := 4224) (m := 1024) x i rfl rfl]
  rfl

theorem v15_at (i : S4224x1024.Idx) : val_main_v15 (F := Ideal) x i = dev (at2 (n := 4224) (m := 1024) x (i 0).val) (i 1).val := by
  rw [val_main_v15_apply, val_main_v14_apply, v4_at, eq_at2 (n := 4224) (m := 1024) x i rfl rfl]
  rfl

theorem v17_at (i : S4224x1.Idx) : val_main_v17 (F := Ideal) x i = msq (at2 (n := 4224) (m := 1024) x (i 0).val) := by
  rw [val_main_v17_apply, val_main_v13_apply, val_main_v11_apply, val_main_v10_apply, val_main_v12_apply, val_main_v16_apply]
  refine congrArg (Ideal.div · cN + cE) (zero_sum fun k => ?_)
  rw [val_main_v7_apply, v6_at]
  rfl

theorem v18_at (i : S4224x1.Idx) : val_main_v18 (F := Ideal) x i = rs (at2 (n := 4224) (m := 1024) x (i 0).val) := by
  rw [val_main_v18_apply, v17_at]
  rfl

theorem v23_at (i : S4224x1024.Idx) : val_main_v23 (F := Ideal) x i = nrm (at2 (n := 4224) (m := 1024) x (i 0).val) (i 1).val := by
  rw [val_main_v23_apply, v15_at, val_main_v22_apply, v18_at]
  rfl

theorem v21_at (i : S4224x1.Idx) : val_main_v21 (F := Ideal) x i
    = cH * Ideal.div (rs (at2 (n := 4224) (m := 1024) x (i 0).val)) (msq (at2 (n := 4224) (m := 1024) x (i 0).val)) := by
  rw [val_main_v21_apply, val_main_v19_apply, v18_at, v17_at, val_main_v20_apply]
  rfl
end row

variable (x : Vec Ideal S4224x1024 .f32) (g : Vec Ideal S1x1024 .f32) (w : Vec Ideal S1024x4096 .f32) (a : Vec Ideal S4224x4096 .f32) (d : Vec Ideal S4224x1024 .f32)

/-- The layer norm's multiplier in the residual sum. -/
abbrev cA : EReal := Ideal.ofBits .f32 0x3F9837F0#32

/-- The gradient at the layer norm's result, row `r`, column `l`. -/
def ds (r l : ℕ) : EReal :=
  (sumTo 4096 fun k => at2 (n := 4224) (m := 4096) a r k * at2 (n := 1024) (m := 4096) w l k) + cA * at2 (n := 4224) (m := 1024) d r l
/-- … times the gain. -/
def dg (r l : ℕ) : EReal := ds w a d r l * at2 (n := 1) (m := 1024) g 0 l

theorem v34_at (i : S4224x1024.Idx) : val_main_v34 (F := Ideal) w a d i = ds w a d (i 0).val (i 1).val := by
  rw [val_main_v34_apply, val_main_v31_apply, val_main_v33_apply, val_main_v32_apply, eq_at2 (n := 4224) (m := 1024) d i rfl rfl]
  refine congrArg (· + _) (sum_fin' fun k => ?_)
  exact congrArg₂ (fun p q : EReal => p * q) (eq_at2 (n := 4224) (m := 4096) a _ rfl rfl) (eq_at2 (n := 1024) (m := 4096) w _ rfl rfl)

theorem v41_at (i : S4224x1024.Idx) : val_main_v41 (F := Ideal) g w a d i = dg g w a d (i 0).val (i 1).val := by
  rw [val_main_v41_apply, v34_at, val_main_v40_apply, eq_at2 (n := 1) (m := 1024) g _ rfl rfl]
  rfl

theorem v46_at (i : S4224x1024.Idx) : val_main_v46 (F := Ideal) x g w a d i
    = dg g w a d (i 0).val (i 1).val * rs (at2 (n := 4224) (m := 1024) x (i 0).val) := by
  rw [val_main_v46_apply, v41_at, val_main_v45_apply, v18_at]
  rfl

theorem v52_at (i : S4224x1.Idx) : val_main_v52 (F := Ideal) x g w a d i
    = share (at2 (n := 4224) (m := 1024) x (i 0).val) (dg g w a d (i 0).val) := by
  rw [val_main_v52_apply, val_main_v47_apply, val_main_v44_apply, val_main_v43_apply, v21_at, val_main_v51_apply]
  have h1 : (i 1).val < 1 := (i 1).isLt
  refine congrArg (fun s => Ideal.div (s * _) cN) (zero_sum fun k => ?_)
  rw [val_main_v42_apply, v15_at, v41_at]
  have e : (idx_main_v43 (idx_main_v44 i) k 0).val = (i 0).val := by
    show (i 0).val * 1 + (i 1).val = (i 0).val
    omega
  rw [e]
  rfl

theorem v55_at (i : S4224x1024.Idx) : val_main_v55 (F := Ideal) x g w a d i
    = share (at2 (n := 4224) (m := 1024) x (i 0).val) (dg g w a d (i 0).val)
      * (cT * dev (at2 (n := 4224) (m := 1024) x (i 0).val) (i 1).val) := by
  rw [val_main_v55_apply, val_main_v54_apply, val_main_v53_apply, val_main_v9_apply, v6_at, val_main_v8_apply, Fin.sum_univ_one, v52_at]
  refine congrArg (· * _) ?_
  show Ideal.ofBits .f32 0x00000000#32 + _ = _
  rw [Ideal.ofBits_zero_f32, zero_add]

theorem v60_at (i : S4224x1.Idx) : val_main_v60 (F := Ideal) x g w a d i
    = (sumTo 1024 fun k => -(dg g w a d (i 0).val k * rs (at2 (n := 4224) (m := 1024) x (i 0).val)))
      + sumTo 1024 fun k => -(share (at2 (n := 4224) (m := 1024) x (i 0).val) (dg g w a d (i 0).val)
        * (cT * dev (at2 (n := 4224) (m := 1024) x (i 0).val) k)) := by
  have h1 : (i 1).val < 1 := (i 1).isLt
  rw [val_main_v60_apply, val_main_v50_apply, val_main_v49_apply, val_main_v58_apply, val_main_v57_apply]
  refine congrArg₂ (fun p q : EReal => p + q) (zero_sum fun k => ?_) (zero_sum fun k => ?_)
  · rw [val_main_v48_apply, v46_at]
    have e : (idx_main_v49 (idx_main_v50 i) k 0).val = (i 0).val := by
      show (i 0).val * 1 + (i 1).val = (i 0).val
      omega
    rw [e]
    rfl
  · rw [val_main_v56_apply, v55_at]
    have e : (idx_main_v57 (idx_main_v58 i) k 0).val = (i 0).val := by
      show (i 0).val * 1 + (i 1).val = (i 0).val
      omega
    rw [e]
    rfl

/-- The first result. -/
theorem v65_at (i : S4224x1024.Idx) : val_main_v65 (F := Ideal) x g w a d i
    = chain (at2 (n := 4224) (m := 1024) x (i 0).val) (dg g w a d (i 0).val) (i 1).val := by
  rw [val_main_v65_apply, val_main_v59_apply, v46_at, v55_at, val_main_v64_apply, val_main_v63_apply, Fin.sum_univ_one,
    val_main_v62_apply, v60_at, val_main_v61_apply]
  refine congrArg₂ (fun p q : EReal => p + q) rfl ?_
  show Ideal.ofBits .f32 0x00000000#32 + _ = _
  rw [Ideal.ofBits_zero_f32, zero_add]
  rfl

/-- The third result: row 0 the gain's gradient, row 1 the shift's, the rest zero. -/
def sums (i : S8x1024.Idx) : EReal :=
  if (i 0).val = 0 then sumTo 4224 fun r => ds w a d r (i 1).val * nrm (at2 (n := 4224) (m := 1024) x r) (i 1).val
  else if (i 0).val = 1 then sumTo 4224 fun r => ds w a d r (i 1).val else 0

theorem v39_at (i : S1x1024.Idx) : val_main_v39 (F := Ideal) x w a d i
    = sumTo 4224 fun r => ds w a d r (i 1).val * nrm (at2 (n := 4224) (m := 1024) x r) (i 1).val := by
  have h0 : (i 0).val < 1 := (i 0).isLt
  rw [val_main_v39_apply, val_main_v38_apply]
  refine zero_sum fun k => ?_
  rw [val_main_v37_apply, v23_at, v34_at]
  have e : (idx_main_v38 (idx_main_v39 i) k 1).val = (i 1).val := by
    show (i 0).val * 1024 + (i 1).val = (i 1).val
    omega
  rw [e]
  exact mul_comm _ _

theorem v36_at (i : S1x1024.Idx) : val_main_v36 (F := Ideal) w a d i = sumTo 4224 fun r => ds w a d r (i 1).val := by
  have h0 : (i 0).val < 1 := (i 0).isLt
  rw [val_main_v36_apply, val_main_v35_apply]
  refine zero_sum fun k => ?_
  rw [v34_at]
  have e : (idx_main_v35 (idx_main_v36 i) k 1).val = (i 1).val := by
    show (i 0).val * 1024 + (i 1).val = (i 1).val
    omega
  rw [e]

theorem v68_at (i : S8x1024.Idx) : val_main_v68 (F := Ideal) x w a d i = sums x w a d i := by
  have z (j : S6x1024.Idx) : val_main_v67 (F := Ideal) j = (0 : EReal) := by
    rw [val_main_v67_apply]; exact Ideal.ofBits_zero_f32
  have e36 := v36_at w a d
  have e39 := v39_at x w a d
  unfold val_main_v68 sums
  revert z e36 e39
  generalize val_main_v67 (F := Ideal) = Z
  generalize val_main_v36 (F := Ideal) w a d = A
  generalize val_main_v39 (F := Ideal) x w a d = B
  intro z e36 e39
  pointwise
  by_cases h0 : (i 0).val = 0
  · rw [dif_pos (by omega), if_pos h0, e39]
    rfl
  · rw [dif_neg (by omega), if_neg h0]
    by_cases h1 : (i 0).val = 1
    · rw [dif_pos (by omega), if_pos h1, e36]
      rfl
    · rw [dif_neg (by omega), if_neg h1, z]

end Cert.FfnBwdRef

end
-- ==== Proof.FfnBwdLn.lean ====
/- The feed-forward's gradient carried through the first layer norm: the kernel's three results and the reference's are the same arrays. -/
module

public import proofs.«01_k».proof.Proof.Gen.Kernel10Ideal.Value
public import proofs.«01_k».proof.Proof.Gen.Reference10Ideal.Read
public import proofs.«01_k».proof.Proof.Gen.Reference10Ideal.Run
public import proofs.«01_k».proof.Proof.Gen.Pre_finite
public import proofs.«01_k».proof.Defs
public import proofs.«01_k».proof.Proof.FfnBwdRef
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.FfnBwdLn

open Cert.Plain Cert.LnGrad Cert.FfnBwdRef Cert.Kernel10Ideal Cert.Kernel10Ideal.Gen Cert.Kernel10Ideal.Value
open Idealize.ShloMosaic Idealize.ShloMosaic.TcCoe Idealize.ShloMosaic.Tactic

variable (m : (ℓ : Loc nD τ sig) → Buf (Elt Ideal) ℓ)

abbrev nrmV (x : Vec Ideal S4224x1024 .f32) : Vec Ideal S4224x1024 .f32 := Cert.Reference10Ideal.Read.val_main_v23 (F := Ideal) x
abbrev rsV (x : Vec Ideal S4224x1024 .f32) : Vec Ideal S4224x1 .f32 := Cert.Reference10Ideal.Read.val_main_v18 (F := Ideal) x

abbrev T1 (c : Dev nD) : Vec Ideal S4224x1024 .f32 := m ((c : Thread nD τ).loc main_arg0)
abbrev G1 (c : Dev nD) : Vec Ideal S1x1024 .f32 := m ((c : Thread nD τ).loc main_arg1)
abbrev W1 (c : Dev nD) : Vec Ideal S1024x4096 .f32 := m ((c : Thread nD τ).loc main_arg2)
abbrev Da (c : Dev nD) : Vec Ideal S4224x4096 .f32 := m ((c : Thread nD τ).loc main_arg3)
abbrev Dt (c : Dev nD) : Vec Ideal S4224x1024 .f32 := m ((c : Thread nD τ).loc main_arg4)

theorem V_v13 (c : Dev nD) : (V m c main_v13 : S4224x1.Idx → EReal) = rsV (T1 m c) := by
  unfold V hostOps0
  simp only [StableHlo.TRef.binary, StableHlo.TRef.unary, StableHlo.TRef.nullary, StableHlo.TRef.toBuf, StableHlo.TRef.ofBuf, cast_eq]
  after_results
  rfl
theorem V_v21 (c : Dev nD) : (V m c main_v21 : S4224x1024.Idx → EReal) = nrmV (T1 m c) := by
  unfold V hostOps0
  simp only [StableHlo.TRef.binary, StableHlo.TRef.unary, StableHlo.TRef.nullary, StableHlo.TRef.toBuf, StableHlo.TRef.ofBuf, cast_eq]
  after_results
  rfl
theorem V_v17 (c : Dev nD) : (V m c main_v17 : S4224x4096.Idx → EReal) = Da m c := by
  unfold V hostOps0
  simp only [StableHlo.TRef.binary, StableHlo.TRef.unary, StableHlo.TRef.nullary, StableHlo.TRef.toBuf, StableHlo.TRef.ofBuf, cast_eq]
  after_results
  rfl
theorem V_v16 (c : Dev nD) (p a b : ℕ) (hp : p < 4) (ha : a < 1024) (hb : b < 1024) :
    at3 (p := 4) (n := 1024) (m := 1024) (V m c main_v16) p a b = at2 (n := 1024) (m := 4096) (W1 m c) a (p * 1024 + b) := by
  have e : (V m c main_v16 : S4x1024x1024.Idx → EReal) = fun i => at2 (n := 1024) (m := 4096) (W1 m c) (i 1).val ((i 0).val * 1024 + (i 2).val) := by
    unfold V hostOps0
    simp only [StableHlo.TRef.binary, StableHlo.TRef.unary, StableHlo.TRef.nullary, StableHlo.TRef.toBuf, StableHlo.TRef.ofBuf, cast_eq]
    after_results
    funext i
    have h0 : (i 0).val < 4 := (i 0).isLt
    have h2 : (i 2).val < 1024 := (i 2).isLt
    pointwise
    refine eq_at2 (n := 1024) (m := 4096) (W1 m c) _ ?_ ?_
    all_goals (try rfl)
    all_goals (try (dsimp only; omega))
  rw [e, at3_mk _ hp ha hb]
  rfl

theorem idx : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_6.index t 0 = t.val ∧ win0_6.index t 1 = 0) ∧ (win0_7.index t 0 = t.val ∧ win0_7.index t 1 = 0)
    ∧ (win0_1.index t 0 = 0 ∧ win0_1.index t 1 = 0 ∧ win0_1.index t 2 = 0) ∧ (win0_5.index t 0 = 0 ∧ win0_5.index t 1 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_6.index t 0 = t.val ∧ win0_6.index t 1 = 0) ∧ (win0_7.index t 0 = t.val ∧ win0_7.index t 1 = 0)
    ∧ (win0_1.index t 0 = 0 ∧ win0_1.index t 1 = 0 ∧ win0_1.index t 2 = 0) ∧ (win0_5.index t 0 = 0 ∧ win0_5.index t 1 = 0))

section block
variable (X0 : Vec Ideal S704x4096 .bf16) (X1 : Vec Ideal S4x1024x1024 .bf16) (X2 : Vec Ideal S704x1024 .f32)

/-- One group's share of the product with the transposed weight. -/
abbrev grp (p r l : ℕ) : EReal :=
  sumTo 1024 fun k => at2 (n := 704) (m := 4096) X0 r (p * 1024 + k) * at3 (p := 4) (n := 1024) (m := 1024) X1 p l k

/-- The first three groups' part, and the last group's operands. -/
abbrev part : FVec Ideal S704x1024 .f32 :=
  k0_pay4 X2 (View.ld X0 (Rect.unit ![0, 0] ![704, 1024] inb_S704x4096_S704x1024_0_0)) (View.ld X1 (Rect.unit ![0, 0, 0] ![1, 1024, 1024] inb_S4x1024x1024_S1x1024x1024_0_0_0))
    (View.ld X0 (Rect.unit ![0, 1024] ![704, 1024] inb_S704x4096_S704x1024_0_1024)) (View.ld X1 (Rect.unit ![1, 0, 0] ![1, 1024, 1024] inb_S4x1024x1024_S1x1024x1024_1_0_0))
    (View.ld X0 (Rect.unit ![0, 2048] ![704, 1024] inb_S704x4096_S704x1024_0_2048)) (View.ld X1 (Rect.unit ![2, 0, 0] ![1, 1024, 1024] inb_S4x1024x1024_S1x1024x1024_2_0_0))
abbrev lastA : FVec Ideal S704x1024 .bf16 := k0_pay5 (View.ld X0 (Rect.unit ![0, 3072] ![704, 1024] inb_S704x4096_S704x1024_0_3072))
abbrev lastW : FVec Ideal S1024x1024 .bf16 := k0_pay6 (View.ld X1 (Rect.unit ![3, 0, 0] ![1, 1024, 1024] inb_S4x1024x1024_S1x1024x1024_3_0_0))
/-- The gradient at the layer norm's result, one block of rows. -/
abbrev blk : FVec Ideal S704x1024 .f32 := k0_pay7 (part X0 X1 X2) (lastA X0) (lastW X1)

theorem blk_at (y : S704x1024.Idx) : blk X0 X1 X2 y
    = cA * at2 (n := 704) (m := 1024) X2 (y 0).val (y 1).val + grp X0 X1 0 (y 0).val (y 1).val + grp X0 X1 1 (y 0).val (y 1).val
      + grp X0 X1 2 (y 0).val (y 1).val + grp X0 X1 3 (y 0).val (y 1).val := by
  unfold blk part lastA lastW k0_pay7 k0_pay4 k0_pay5 k0_pay6
  pointwise
  refine congrArg₂ (· + ·) (congrArg₂ (· + ·) (congrArg₂ (· + ·) (congrArg₂ (· + ·) ?_ (sum_fin' fun k => ?_)) (sum_fin' fun k => ?_)) (sum_fin' fun k => ?_)) (sum_fin' fun k => ?_)
  · exact congrArg (cA * ·) (eq_at2 (n := 704) (m := 1024) X2 _ rfl rfl)
  all_goals
    refine congrArg₂ (fun p q : EReal => p * q) (eq_at2 (n := 704) (m := 4096) X0 _ ?_ ?_) (eq_at3 (p := 4) (n := 1024) (m := 1024) X1 _ ?_ ?_ ?_)
  all_goals first
    | rfl
    | exact ((Nat.zero_mul 1024).symm ▸ (Nat.zero_add _).symm)

variable (N : Vec Ideal S704x1024 .f32) (g : Vec Ideal S1x1024 .f32) (R : Vec Ideal S704x1 .f32)

theorem pay9_at (v24 : FVec Ideal S704x1024 .f32) (v26 : FVec Ideal S704x1024 .bf16) (v28 : FVec Ideal S1024x1024 .bf16)
    (y : S704x1024.Idx) : k0_pay9 v24 v26 v28 N g R y
    = at2 (n := 704) (m := 1) R (y 0).val 0 * (at2 (n := 704) (m := 1024) (k0_pay7 v24 v26 v28) (y 0).val (y 1).val * at2 (n := 1) (m := 1024) g 0 (y 1).val
      - Ideal.div (sumTo 1024 fun k => at2 (n := 704) (m := 1024) (k0_pay7 v24 v26 v28) (y 0).val k * at2 (n := 1) (m := 1024) g 0 k) cN
      - at2 (n := 704) (m := 1024) N (y 0).val (y 1).val
        * Ideal.div (sumTo 1024 fun k => at2 (n := 704) (m := 1024) (k0_pay7 v24 v26 v28) (y 0).val k * at2 (n := 1) (m := 1024) g 0 k * at2 (n := 704) (m := 1024) N (y 0).val k) cN) := by
  unfold k0_pay9 k0_pay8
  generalize k0_pay7 v24 v26 v28 = U
  pointwise
  exact congrArg₂ (fun p q : EReal => p * q) (eq_at2 (n := 704) (m := 1) R _ rfl rfl)
    (congrArg₂ (fun p q : EReal => p - q)
      (congrArg₂ (fun p q : EReal => p - q) (congrArg₂ (fun p q : EReal => p * q) (eq_at2 (n := 704) (m := 1024) U y rfl rfl) (eq_at2 (n := 1) (m := 1024) g _ rfl rfl))
        (congrArg (Ideal.div · cN) (sum_fin' fun k => (congrArg₂ (fun p q : EReal => p * q) (eq_at2 (n := 704) (m := 1024) U _ rfl rfl) (eq_at2 (n := 1) (m := 1024) g _ rfl rfl)))))
      (congrArg₂ (fun p q : EReal => p * q) (eq_at2 (n := 704) (m := 1024) N y rfl rfl)
        (congrArg (Ideal.div · cN) (sum_fin' fun k => (congrArg₂ (fun p q : EReal => p * q) (congrArg₂ (fun p q : EReal => p * q) (eq_at2 (n := 704) (m := 1024) U _ rfl rfl) (eq_at2 (n := 1) (m := 1024) g _ rfl rfl)) (eq_at2 (n := 704) (m := 1024) N _ rfl rfl))))))

theorem pay12_at (v24 : FVec Ideal S704x1024 .f32) (v26 : FVec Ideal S704x1024 .bf16) (v28 : FVec Ideal S1024x1024 .bf16) (v64 : Vec Ideal S1x1024 .f32)
    (y : S1x1024.Idx) : k0_pay12 k0_pay3 v24 v26 v28 N v64 y
    = v64 y + sumTo 704 fun k => at2 (n := 704) (m := 1024) (k0_pay7 v24 v26 v28) k (y 1).val * at2 (n := 704) (m := 1024) N k (y 1).val := by
  unfold k0_pay12 k0_pay8 k0_pay3
  generalize k0_pay7 v24 v26 v28 = U
  pointwise
  exact congrArg (v64 y + ·) (sum_fin' fun k => congrArg₂ (fun p q : EReal => p * q) (eq_at2 (n := 704) (m := 1024) U _ rfl rfl) (eq_at2 (n := 704) (m := 1024) N _ rfl rfl))

theorem pay1_at (v24 : FVec Ideal S704x1024 .f32) (v26 : FVec Ideal S704x1024 .bf16) (v28 : FVec Ideal S1024x1024 .bf16) (v68 : Vec Ideal S1x1024 .f32)
    (y : S1x1024.Idx) : k0_pay1 (k0_pay11 k0_pay3 v24 v26 v28) v68 y
    = v68 y + sumTo 704 fun k => at2 (n := 704) (m := 1024) (k0_pay7 v24 v26 v28) k (y 1).val := by
  unfold k0_pay1 k0_pay11 k0_pay3
  generalize k0_pay7 v24 v26 v28 = U
  pointwise
  exact congrArg (v68 y + ·) (sum_fin' fun k => eq_at2 (n := 704) (m := 1024) U _ rfl rfl)
end block

/-! ## The blocks as rows of the arrays -/

theorem da_rows (c : Dev nD) (t : Fin cfg0.N) (y k : ℕ) (hy : y < 704) (hk : k < 4096) :
    at2 (n := 704) (m := 4096) (iblk m c 0 t) y k = at2 (n := 4224) (m := 4096) (Da m c) (t.val * 704 + y) k := by
  rw [at2_mk _ hy hk]
  have e : iblk m c 0 t (ix2 ⟨y, hy⟩ ⟨k, hk⟩) = at2 (n := 4224) (m := 4096) (V m c main_v17) (t.val * 704 + y) k := by
    unfold iblk
    exact eq_at2 (n := 4224) (m := 4096) (V m c main_v17) _ (by blk_simp [idx t]) (by blk_simp [idx t])
  rw [e, V_v17]

theorem w_rows (c : Dev nD) (t : Fin cfg0.N) (p l k : ℕ) (hp : p < 4) (hl : l < 1024) (hk : k < 1024) :
    at3 (p := 4) (n := 1024) (m := 1024) (iblk m c 1 t) p l k = at2 (n := 1024) (m := 4096) (W1 m c) l (p * 1024 + k) := by
  rw [at3_mk _ hp hl hk]
  have e : iblk m c 1 t (ix3 ⟨p, hp⟩ ⟨l, hl⟩ ⟨k, hk⟩) = at3 (p := 4) (n := 1024) (m := 1024) (V m c main_v16) p l k := by
    unfold iblk
    exact eq_at3 (p := 4) (n := 1024) (m := 1024) (V m c main_v16) _ (by blk_simp [idx t]) (by blk_simp [idx t]) (by blk_simp [idx t])
  rw [e, V_v16 m c p l k hp hl hk]

theorem dt_rows (c : Dev nD) (t : Fin cfg0.N) (y k : ℕ) (hy : y < 704) (hk : k < 1024) :
    at2 (n := 704) (m := 1024) (iblk m c 2 t) y k = at2 (n := 4224) (m := 1024) (Dt m c) (t.val * 704 + y) k := by
  rw [at2_mk _ hy hk]
  have e : iblk m c 2 t (ix2 ⟨y, hy⟩ ⟨k, hk⟩) = at2 (n := 4224) (m := 1024) (V m c main_arg4) (t.val * 704 + y) k := by
    unfold iblk
    exact eq_at2 (n := 4224) (m := 1024) (V m c main_arg4) _ (by blk_simp [idx t]) (by blk_simp [idx t])
  rw [e, V_main_arg4]

theorem nrm_rows (c : Dev nD) (t : Fin cfg0.N) (y k : ℕ) (hy : y < 704) (hk : k < 1024) :
    at2 (n := 704) (m := 1024) (iblk m c 3 t) y k = nrm (at2 (n := 4224) (m := 1024) (T1 m c) (t.val * 704 + y)) k := by
  have hN : t.val < 6 := t.isLt
  rw [at2_mk _ hy hk]
  have e : iblk m c 3 t (ix2 ⟨y, hy⟩ ⟨k, hk⟩) = at2 (n := 4224) (m := 1024) (V m c main_v21) (t.val * 704 + y) k := by
    unfold iblk
    exact eq_at2 (n := 4224) (m := 1024) (V m c main_v21) _ (by blk_simp [idx t]) (by blk_simp [idx t])
  rw [e, V_v21, at2_mk _ (by omega) hk]
  exact v23_at _ _

theorem rs_rows (c : Dev nD) (t : Fin cfg0.N) (y : ℕ) (hy : y < 704) :
    at2 (n := 704) (m := 1) (iblk m c 4 t) y 0 = rs (at2 (n := 4224) (m := 1024) (T1 m c) (t.val * 704 + y)) := by
  have hN : t.val < 6 := t.isLt
  rw [at2_mk _ hy Nat.one_pos]
  have e : iblk m c 4 t (ix2 ⟨y, hy⟩ ⟨0, Nat.one_pos⟩) = at2 (n := 4224) (m := 1) (V m c main_v13) (t.val * 704 + y) 0 := by
    unfold iblk
    exact eq_at2 (n := 4224) (m := 1) (V m c main_v13) _ (by blk_simp [idx t]) (by blk_simp [idx t]; rfl)
  rw [e, V_v13, at2_mk _ (by omega) Nat.one_pos]
  exact v18_at _ _

theorem g_rows (c : Dev nD) (t : Fin cfg0.N) (k : ℕ) (hk : k < 1024) :
    at2 (n := 1) (m := 1024) (iblk m c 5 t) 0 k = at2 (n := 1) (m := 1024) (G1 m c) 0 k := by
  rw [at2_mk _ Nat.one_pos hk]
  have e : iblk m c 5 t (ix2 ⟨0, Nat.one_pos⟩ ⟨k, hk⟩) = at2 (n := 1) (m := 1024) (V m c main_arg1) 0 k := by
    unfold iblk
    exact eq_at2 (n := 1) (m := 1024) (V m c main_arg1) _ (by blk_simp [idx t]; rfl) (by blk_simp [idx t])
  rw [e, V_main_arg1]

/-- The gradient at the layer norm's result. -/
abbrev dS (c : Dev nD) : ℕ → ℕ → EReal := ds (W1 m c) (Da m c) (Dt m c)
abbrev dG (c : Dev nD) : ℕ → ℕ → EReal := dg (G1 m c) (W1 m c) (Da m c) (Dt m c)
abbrev tR (c : Dev nD) : ℕ → ℕ → EReal := at2 (n := 4224) (m := 1024) (T1 m c)
abbrev blkT (c : Dev nD) (t : Fin cfg0.N) : FVec Ideal S704x1024 .f32 := blk (iblk m c 0 t) (iblk m c 1 t) (iblk m c 2 t)

theorem sum_groups (f : ℕ → EReal) : sumTo 4096 f = sumTo 1024 (fun k => f (0 * 1024 + k)) + sumTo 1024 (fun k => f (1 * 1024 + k))
    + sumTo 1024 (fun k => f (2 * 1024 + k)) + sumTo 1024 (fun k => f (3 * 1024 + k)) :=
  (Finset.sum_range_mul_split 4 1024 f).trans (by simp only [Finset.sum_range_succ, Finset.sum_range_zero, zero_add])

theorem grp_rows (c : Dev nD) (t : Fin cfg0.N) (p y l : ℕ) (hp : p < 4) (hy : y < 704) (hl : l < 1024) :
    grp (iblk m c 0 t) (iblk m c 1 t) p y l
      = sumTo 1024 fun k => at2 (n := 4224) (m := 4096) (Da m c) (t.val * 704 + y) (p * 1024 + k) * at2 (n := 1024) (m := 4096) (W1 m c) l (p * 1024 + k) :=
  sumTo_congr fun k hk => by rw [da_rows m c t y _ hy (by omega), w_rows m c t p l k hp hl hk]

theorem blk_rows (c : Dev nD) (t : Fin cfg0.N) (y l : ℕ) (hy : y < 704) (hl : l < 1024) :
    at2 (n := 704) (m := 1024) (blkT m c t) y l = dS m c (t.val * 704 + y) l := by
  rw [at2_mk _ hy hl]
  refine (blk_at _ _ _ _).trans ?_
  show cA * at2 (n := 704) (m := 1024) (iblk m c 2 t) y l + grp (iblk m c 0 t) (iblk m c 1 t) 0 y l + grp (iblk m c 0 t) (iblk m c 1 t) 1 y l
    + grp (iblk m c 0 t) (iblk m c 1 t) 2 y l + grp (iblk m c 0 t) (iblk m c 1 t) 3 y l = _
  rw [dt_rows m c t y l hy hl, grp_rows m c t 0 y l (by omega) hy hl, grp_rows m c t 1 y l (by omega) hy hl,
    grp_rows m c t 2 y l (by omega) hy hl, grp_rows m c t 3 y l (by omega) hy hl]
  unfold dS ds
  rw [sum_groups]
  rw [add_comm _ (cA * _)]
  simp only [add_assoc]

/-! ## What each point leaves -/

section points
variable (c : Dev nD) (t : Fin cfg0.N)
abbrev p4 : FVec Ideal S704x1024 .f32 := part (iblk m c 0 t) (iblk m c 1 t) (iblk m c 2 t)
abbrev p5 : FVec Ideal S704x1024 .bf16 := lastA (iblk m c 0 t)
abbrev p6 : FVec Ideal S1024x1024 .bf16 := lastW (iblk m c 1 t)

theorem left6 : (outsAt0 m c t.val t.isLt).1 = k0_pay9 (p4 m c t) (p5 m c t) (p6 m c t) (iblk m c 3 t) (iblk m c 5 t) (iblk m c 4 t) := by
  by_cases h : t.val % 6 = 0
  · rw [outsAt0_A m c t h]; dsimp only; frame_out
  · rw [outsAt0_B m c t h]; dsimp only; frame_out

theorem left7 : (outsAt0 m c t.val t.isLt).2.1 = k0_pay10 (p4 m c t) (p5 m c t) (p6 m c t) (iblk m c 3 t) (iblk m c 5 t) (iblk m c 4 t) := by
  by_cases h : t.val % 6 = 0
  · rw [outsAt0_A m c t h]; dsimp only; frame_out
  · rw [outsAt0_B m c t h]; dsimp only; frame_out

theorem pay9_rows (y : S704x1024.Idx) : k0_pay9 (p4 m c t) (p5 m c t) (p6 m c t) (iblk m c 3 t) (iblk m c 5 t) (iblk m c 4 t) y
    = closed (tR m c (t.val * 704 + (y 0).val)) (dG m c (t.val * 704 + (y 0).val)) (y 1).val := by
  have h0 : (y 0).val < 704 := (y 0).isLt
  have h1 : (y 1).val < 1024 := (y 1).isLt
  have hD (k : ℕ) (hk : k < 1024) : at2 (n := 704) (m := 1024) (k0_pay7 (p4 m c t) (p5 m c t) (p6 m c t)) (y 0).val k * at2 (n := 1) (m := 1024) (iblk m c 5 t) 0 k
      = dG m c (t.val * 704 + (y 0).val) k := congrArg₂ (fun p q : EReal => p * q) (blk_rows m c t _ k h0 hk) (g_rows m c t k hk)
  rw [pay9_at, hD _ h1, rs_rows m c t _ h0, nrm_rows m c t _ _ h0 h1, sumTo_congr hD,
    sumTo_congr fun k hk => congrArg₂ (fun p q : EReal => p * q) (hD k hk) (nrm_rows m c t _ k h0 hk)]
  rfl
end points

/-- The first two results: the gradient at the layer norm's argument. -/
def G6 (c : Dev nD) : S4224x1024.Idx → EReal := fun i => closed (tR m c (i 0).val) (dG m c (i 0).val) (i 1).val

theorem arr6 (c : Dev nD) : (dats m 0 c).arrAt 6 cfg0.N = G6 m c := by
  refine (dats m 0 c).arrAt_eq_of_covers 6 _ (by decide +kernel) fun t hf y => ?_
  blk_simp
  rw [after0_6, left6, pay9_rows]
  unfold G6
  blk_simp [idx t]

theorem arr7 (c : Dev nD) : (dats m 0 c).arrAt 7 cfg0.N = G6 m c := by
  refine (dats m 0 c).arrAt_eq_of_covers 7 _ (by decide +kernel) fun t hf y => ?_
  blk_simp
  rw [after0_7, left7]
  refine (pay9_rows m c t y).trans ?_
  unfold G6
  blk_simp [idx t]

/-! ## The running sums -/

/-- What one block of rows adds to the sums. -/
def term (c : Dev nD) (t : ℕ) (y : S8x1024.Idx) : EReal :=
  if (y 0).val = 0 then sumTo 704 fun k => dS m c (t * 704 + k) (y 1).val * nrm (tR m c (t * 704 + k)) (y 1).val
  else if (y 0).val = 1 then sumTo 704 fun k => dS m c (t * 704 + k) (y 1).val else 0

theorem pay12_rows (c : Dev nD) (t : Fin cfg0.N) (v : Vec Ideal S1x1024 .f32) (y : S1x1024.Idx) :
    k0_pay12 k0_pay3 (p4 m c t) (p5 m c t) (p6 m c t) (iblk m c 3 t) v y
      = v y + sumTo 704 fun k => dS m c (t.val * 704 + k) (y 1).val * nrm (tR m c (t.val * 704 + k)) (y 1).val := by
  rw [pay12_at]
  exact congrArg (v y + ·) (sumTo_congr fun k hk => congrArg₂ (fun p q : EReal => p * q) (blk_rows m c t k _ hk (y 1).isLt) (nrm_rows m c t k _ hk (y 1).isLt))

theorem pay1_rows (c : Dev nD) (t : Fin cfg0.N) (v : Vec Ideal S1x1024 .f32) (y : S1x1024.Idx) :
    k0_pay1 (k0_pay11 k0_pay3 (p4 m c t) (p5 m c t) (p6 m c t)) v y = v y + sumTo 704 fun k => dS m c (t.val * 704 + k) (y 1).val := by
  rw [pay1_at]
  exact congrArg (v y + ·) (sumTo_congr fun k hk => blk_rows m c t k _ hk (y 1).isLt)

theorem row_emb {o : ℕ} (inb : ∀ a, (![o, 0] : Fin 2 → ℕ) a + (![1, 1024] : Fin 2 → ℕ) a ≤ S8x1024.size a) (y : S8x1024.Idx) (h : (y 0).val = o) :
    (Rect.unit (s := S8x1024) ![o, 0] ![1, 1024] inb).emb (ix2 (n0 := 1) (n1 := 1024) 0 (y 1)) = y := by
  funext a
  refine Fin.ext ?_
  rw [Rect.emb_apply]
  fin_cases a
  · show o + 1 * 0 = (y 0).val
    omega
  · show 0 + 1 * (y 1).val = (y 1).val
    omega

theorem row_not_mem {o : ℕ} (inb : ∀ a, (![o, 0] : Fin 2 → ℕ) a + (![1, 1024] : Fin 2 → ℕ) a ≤ S8x1024.size a) (y : S8x1024.Idx) (h : (y 0).val ≠ o) :
    y ∉ (Rect.unit (s := S8x1024) ![o, 0] ![1, 1024] inb).set := fun hm => by
  have q : o ≤ (y 0).val ∧ (y 0).val < o + 1 := Rect.mem_set_unit.mp hm 0
  omega

theorem left8_B (c : Dev nD) (t : Fin cfg0.N) (h : ¬ t.val % 6 = 0) (y : S8x1024.Idx) :
    (outsAt0 m c t.val t.isLt).2.2 y = (outsAt0 m c (t.val - 1) (Nat.lt_of_le_of_lt (Nat.sub_le _ _) t.isLt)).2.2 y + term m c t.val y := by
  rw [outsAt0_B m c t h]
  dsimp only
  frame_out
  generalize (outsAt0 m c (t.val - 1) (Nat.lt_of_le_of_lt (Nat.sub_le _ _) t.isLt)).2.2 = X
  unfold term
  by_cases h1 : (y 0).val = 1
  · rw [if_neg (by omega), if_pos h1]
    refine (View.read_writes_cons_rows_of_mem (o := 1) _ _ _ _ _ y (ix2 (n0 := 1) (n1 := 1024) 0 (y 1)) rfl h1 rfl).trans ?_
    refine (pay1_rows m c t _ _).trans (congrArg (· + _) ?_)
    exact congrArg X (row_emb _ y h1)
  · refine (View.read_writes_cons_rows_of_not_mem (o := 1) (W := 1) _ _ _ _ _ y rfl rfl (by show (y 0).val < 1 ∨ 1 + 1 ≤ (y 0).val; omega)).trans ?_
    by_cases h0 : (y 0).val = 0
    · rw [if_pos h0]
      refine (View.read_writes_cons_rows_of_mem (o := 0) _ _ _ _ _ y (ix2 (n0 := 1) (n1 := 1024) 0 (y 1)) rfl h0 rfl).trans ?_
      refine (pay12_rows m c t _ _).trans (congrArg (· + _) ?_)
      exact congrArg X (row_emb _ y h0)
    · refine (View.read_writes_cons_rows_of_not_mem (o := 0) (W := 1) _ _ _ _ _ y rfl rfl (by show (y 0).val < 0 ∨ 0 + 1 ≤ (y 0).val; omega)).trans ?_
      rw [if_neg h0, if_neg h1, add_zero]
      exact congrFun (Memref.IsWhole.read_unread _ _) y

theorem pay2_zero (y : S8x1024.Idx) : k0_pay2 (F := Ideal) y = (0 : EReal) := by
  unfold k0_pay2
  pointwise

theorem ld_zero (r : Rect S8x1024) (x : r.shape.Idx) : View.ld (Val := Elt Ideal) (e' := .f32) (k0_pay2 (F := Ideal)) r x = (0 : EReal) := pay2_zero _

theorem left8_A (c : Dev nD) (t : Fin cfg0.N) (h : t.val % 6 = 0) (y : S8x1024.Idx) :
    (outsAt0 m c t.val t.isLt).2.2 y = 0 + term m c t.val y := by
  rw [outsAt0_A m c t h]
  dsimp only
  frame_out
  simp (disch := decide) only [↓ View.readCov_skip, ↓ View.readCov_cons_toLoadRect, ↓ View.readCov_fill]
  unfold term
  by_cases h1 : (y 0).val = 1
  · rw [if_neg (by omega), if_pos h1]
    refine Eq.trans (congrArg _ (row_emb inb_S8x1024_S1x1024_1_0 y h1).symm) ?_
    refine (View.canon_cons_emb _ _ _ _).trans ?_
    refine (pay1_rows m c t _ _).trans ?_
    rw [ld_zero]
    rfl
  · refine (View.canon_cons_of_not_mem _ _ ?_).trans ?_
    · exact row_not_mem inb_S8x1024_S1x1024_1_0 y h1
    by_cases h0 : (y 0).val = 0
    · rw [if_pos h0]
      refine Eq.trans (congrArg _ (row_emb inb_S8x1024_S1x1024_0_0 y h0).symm) ?_
      refine (View.canon_cons_emb _ _ _ _).trans ?_
      refine (pay12_rows m c t _ _).trans ?_
      rw [ld_zero]
      rfl
    · refine (View.canon_cons_of_not_mem _ _ ?_).trans ?_
      · exact row_not_mem inb_S8x1024_S1x1024_0_0 y h0
      rw [if_neg h0, if_neg h1, add_zero]
      exact (congrFun (View.canon_cons_unit_lit _ _ _ (by decide)) y).trans (pay2_zero y)

theorem arr8 (c : Dev nD) : (dats m 0 c).arrAt 8 cfg0.N = sums (T1 m c) (W1 m c) (Da m c) (Dt m c) := by
  refine (dats m 0 c).arrAt_eq_of_after_last 8 t0_5 (by decide +kernel) _ fun j => ?_
  blk_simp
  rw [after0_8]
  refine (Pipeline.eq_sum_of_reset_step_apply_of_mod (fun n h => (outsAt0 m c n h).2.2) 6 (fun _ => 0) (term m c)
    (left8_A m c) (left8_B m c) t0_5 (r := 5) rfl j).trans ?_
  have e (k : ℕ) : 6 * (t0_5.val / 6) + k = k := Nat.zero_add k
  simp only [e, zero_add]
  have s (f : ℕ → EReal) : ∑ k ∈ Finset.range 6, sumTo 704 (fun l => f (k * 704 + l)) = sumTo 4224 f := (Finset.sum_range_mul_split 6 704 f).symm
  unfold sums term
  by_cases h0 : (j 0).val = 0
  · simp only [if_pos h0]
    exact s fun r => dS m c r (j 1).val * nrm (tR m c r) (j 1).val
  · by_cases h1 : (j 0).val = 1
    · simp only [if_neg h0, if_pos h1]
      exact s fun r => dS m c r (j 1).val
    · simp only [if_neg h0, if_neg h1]
      exact Finset.sum_const_zero

/-! ## Finite inputs -/

abbrev Fin' (x : EReal) : Prop := ∃ a : ℝ, x = (a : EReal)

theorem fin_sum (n : ℕ) (f : ℕ → EReal) (h : ∀ k, Fin' (f k)) : Fin' (sumTo n f) := by
  choose g hg using h
  exact ⟨_, (sumTo_congr fun k _ => hg k).trans (sum_real n g)⟩

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

theorem cA_fin : Fin' cA := ⟨9975792 / 8388608, by simp [Ideal.ofBits, Ideal.ieee, -EReal.coe_mul]; norm_num⟩

theorem inf_eq : Ideal.ofBits .f32 0x7F800000#32 = (⊤ : EReal) := by simp [Ideal.ofBits, Ideal.ieee]

/-- A number whose size is below infinity is finite. -/
theorem fin_of_mask {x : EReal} (h : Ideal.cmp .olt (max x (-x)) (Ideal.ofBits .f32 0x7F800000#32) = 1#1) : Fin' x := by
  rw [inf_eq] at h
  have hlt : max x (-x) < ⊤ := by
    by_contra hn
    simp only [Ideal.cmp, hn, decide_false] at h
    exact absurd h (by decide)
  have ht : x ≠ ⊤ := fun e => by
    rw [e] at hlt
    exact absurd hlt (by simp)
  have hbt : x ≠ ⊥ := fun e => by
    rw [e] at hlt
    exact absurd hlt (by simp)
  exact ⟨x.toReal, (EReal.coe_toReal ht hbt).symm⟩

theorem fin_at2 {n k : ℕ} (v : (⟨2, ![n, k]⟩ : Shape).Idx → EReal) (h : ∀ i, Fin' (v i)) (a b : ℕ) : Fin' (at2 (n := n) (m := k) v a b) := by
  unfold at2
  split_ifs
  · exact h _
  · exact ⟨0, rfl⟩

theorem dg_fin (g : Vec Ideal S1x1024 .f32) (w : Vec Ideal S1024x4096 .f32) (a : Vec Ideal S4224x4096 .f32) (d : Vec Ideal S4224x1024 .f32)
    (hg : ∀ i, Fin' (g i)) (hw : ∀ i, Fin' (w i)) (ha : ∀ i, Fin' (a i)) (hd : ∀ i, Fin' (d i)) (r l : ℕ) : Fin' (dg g w a d r l) :=
  fin_mul (fin_add (fin_sum _ _ fun k => fin_mul (fin_at2 a ha r k) (fin_at2 w hw l k)) (fin_mul cA_fin (fin_at2 d hd r l))) (fin_at2 g hg 0 l)

theorem pre_fin (hp : Cert.Pre_Kernel10Ideal_finite m) (c : Dev nD) :
    (∀ i, Fin' (G1 m c i)) ∧ (∀ i, Fin' (W1 m c i)) ∧ (∀ i, Fin' (Da m c i)) ∧ (∀ i, Fin' (Dt m c i)) := by
  obtain ⟨h1, h2, h3, h4⟩ := hp c
  exact ⟨fun i => fin_of_mask (congrFun h1 i), fun i => fin_of_mask (congrFun h2 i),
    fun i => fin_of_mask (congrFun h3 i), fun i => fin_of_mask (congrFun h4 i)⟩

theorem G6_eq (hp : Cert.Pre_Kernel10Ideal_finite m) (c : Dev nD) :
    Cert.Reference10Ideal.Read.val_main_v65 (F := Ideal) (T1 m c) (G1 m c) (W1 m c) (Da m c) (Dt m c) = G6 m c := funext fun i => by
  obtain ⟨h1, h2, h3, h4⟩ := pre_fin m hp c
  rw [v65_at]
  exact (closed_eq_chain_of_finite _ _ (fun k hk => dif_neg fun e => absurd e.2 (by omega)) (fun k => dg_fin _ _ _ _ h1 h2 h3 h4 _ k) _).symm

/-- The kernel's results are the reference's, of finite arguments. -/
theorem claim : Cert.algebraic_Kernel10Ideal_Reference10Ideal_pre_finite := by
  intro m g m' g' hp hagree
  refine ⟨fun c => G6 m c, fun c => G6 m c, fun c => sums (T1 m c) (W1 m c) (Da m c) (Dt m c), ?_, ?_⟩
  · refine (θ_run Cert.Kernel10Ideal.defs _ _).mono (fun r h c => ?_) (Cert.Kernel10Ideal.Value.run_blocks m g)
    obtain ⟨h1, h2, h3, h4⟩ := h c
    exact ⟨h1.trans (arr6 m c), h2.trans (arr7 m c), h3.trans (arr8 m c), h4⟩
  · refine (θ_run Cert.Reference10Ideal.defs _ _).mono (fun r h c => ?_) (Cert.Reference10Ideal.Value.run (F := Ideal) m' g')
    obtain ⟨h1, h2, h3, h4⟩ := h c
    obtain ⟨e0, e1, e2, e3, e4⟩ := hagree c
    refine ⟨h1.trans ?_, h2.trans ?_, h3.trans ?_, h4⟩
    · refine (Cert.Reference10Ideal.Read.val_main_v65_eq _ _).trans ?_
      rw [e0, e1, e2, e3, e4]
      exact G6_eq m hp c
    · refine (Cert.Reference10Ideal.Read.val_main_v66_eq _ _).trans ?_
      rw [e0, e1, e2, e3, e4]
      exact G6_eq m hp c
    · refine (Cert.Reference10Ideal.Read.val_main_v68_eq _ _ _ _).trans ?_
      rw [e0, e2, e3, e4]
      exact funext fun i => v68_at _ _ _ _ i

end Cert.FfnBwdLn

end
-- ==== Proof.SumSmall.lean ====
/- The sum over the devices of the packed small gradients, and the loss: the kernel's and the reference's are the same arrays. -/
module

public import proofs.«01_k».proof.Proof.Gen.Kernel11Ideal.Value
public import proofs.«01_k».proof.Proof.Gen.Reference11Ideal.Run
public import proofs.«01_k».proof.Proof.Gen.Reference11Ideal.Read
public import proofs.«01_k».proof.Defs
public import proofs.«01_k».proof.Proof.Plain
public import Idealize.ShloMosaic.Lib.Pipeline.ValueKit

@[expose] public section

set_option maxRecDepth 16384

noncomputable section

namespace Cert.SumSmall

open Cert.Plain Cert.Kernel11Ideal Cert.Kernel11Ideal.Gen Cert.Kernel11Ideal.Value
open Idealize.ShloMosaic Idealize.ShloMosaic.TcCoe Idealize.ShloMosaic.Tactic

variable (x : Vec Ideal S448x1024 .f32)

/-- The sum of the eight devices' rows, and of its first row. -/
def total (i : S56x1024.Idx) : EReal := sumTo 8 fun d => at2 (n := 448) (m := 1024) x (d * 56 + (i 0).val) (i 1).val
def loss (_ : S1x1.Idx) : EReal := sumTo 1024 fun l => sumTo 8 fun d => at2 (n := 448) (m := 1024) x (d * 56) l

theorem G1_at (i : S56x1024.Idx) : G1 x i = total x i := by
  have e (d : ℕ) (o : ℕ) (h : o = d * 56) (inb) :
      View.ld (Val := Elt Ideal) (e' := .f32) x (Rect.unit (s := S448x1024) ![o, 0] S56x1024.size inb) i = at2 (n := 448) (m := 1024) x (d * 56 + (i 0).val) (i 1).val := by
    subst h
    refine eq_at2 (n := 448) (m := 1024) x _ ?_ ?_
    · show d * 56 + 1 * (i 0).val = _
      omega
    · show 0 + 1 * (i 1).val = _
      omega
  unfold total
  simp only [sumTo, Finset.sum_range_succ, Finset.sum_range_zero, zero_add]
  rw [← e 0 0 rfl inb_S448x1024_S56x1024_0_0]
  unfold G1 k0_pay1
  pointwise
  have hi : (i 0).val < 56 := (i 0).isLt
  repeat' refine congrArg₂ (fun p q : EReal => p + q) ?_ ?_
  all_goals first | rfl | exact (at2_mk x (by omega) (i 1).isLt).symm

theorem G2_at (i : S1x1.Idx) : G2 x i = loss x i := by
  unfold G2 k0_pay2
  have h : G1 x = total x := funext (G1_at x)
  unfold G1 at h
  rw [h]
  pointwise
  exact sum_fin' fun k => rfl

theorem v1_at (i : S56x1024.Idx) : Cert.Reference11Ideal.Read.val_main_v1 (F := Ideal) x i = total x i := by
  rw [Cert.Reference11Ideal.Read.val_main_v1_apply]
  have z (j) : Cert.Reference11Ideal.Read.val_main_cst (F := Ideal) j = (0 : EReal) := Ideal.ofBits_zero_f32
  refine (congrArg (· + _) (z _)).trans ((zero_add (M := EReal) _).trans (sum_fin' fun k => ?_))
  rw [Cert.Reference11Ideal.Read.val_main_v0_apply]
  refine eq_at2 (n := 448) (m := 1024) x _ ?_ ?_
  · show ((k.val * 56 + (i 0).val) * 1024 + (i 1).val) / 1024 = k.val * 56 + (i 0).val
    have h : (i 1).val < 1024 := (i 1).isLt
    omega
  · show ((k.val * 56 + (i 0).val) * 1024 + (i 1).val) % 1024 = (i 1).val
    have h : (i 1).val < 1024 := (i 1).isLt
    omega

theorem v5_at (i : S1x1.Idx) : Cert.Reference11Ideal.Read.val_main_v5 (F := Ideal) x i = loss x i := by
  unfold Cert.Reference11Ideal.Read.val_main_v5
  pointwise
  rw [Cert.Reference11Ideal.Read.val_main_v4_apply]
  have z (j) : Cert.Reference11Ideal.Read.val_main_cst_0 (F := Ideal) j = (0 : EReal) := Ideal.ofBits_zero_f32
  refine (congrArg (· + _) (z _)).trans ((zero_add (M := EReal) _).trans ?_)
  refine (sum_idx1 (n0 := 1024) _).trans (sum_fin' fun k => ?_)
  rw [Cert.Reference11Ideal.Read.val_main_v3_apply, Cert.Reference11Ideal.Read.val_main_v2_apply, v1_at]
  refine sumTo_congr fun d _ => ?_
  exact congrArg (at2 (n := 448) (m := 1024) x (d * 56)) (Nat.mod_eq_of_lt k.isLt)

/-- The kernel's sums and loss are the reference's. -/
theorem claim : Cert.algebraic_Kernel11Ideal_Reference11Ideal := by
  intro m g m' g' _ hagree
  refine ⟨fun c => total (m ((c : Thread nD τ).loc main_arg0)), fun c => loss (m ((c : Thread nD τ).loc main_arg0)), ?_, ?_⟩
  · refine (θ_run Cert.Kernel11Ideal.defs _ _).mono (fun r h c => ?_) (Cert.Kernel11Ideal.Value.run m g)
    obtain ⟨h1, h2, h3⟩ := h c
    exact ⟨h1.trans (funext (G1_at _)), h2.trans (funext (G2_at _)), h3⟩
  · refine (θ_run Cert.Reference11Ideal.defs _ _).mono (fun r h c => ?_) (Cert.Reference11Ideal.Value.run (F := Ideal) m' g')
    obtain ⟨h1, h2, h3⟩ := h c
    refine ⟨h1.trans ?_, h2.trans ?_, h3⟩
    · refine (Cert.Reference11Ideal.Read.val_main_v1_eq _).trans ?_
      rw [hagree c]
      exact funext (v1_at _)
    · refine (Cert.Reference11Ideal.Read.val_main_v5_eq _).trans ?_
      rw [hagree c]
      exact funext (v5_at _)

end Cert.SumSmall

end
-- ==== Proof.lean ====
/- The claims about the calls: every program's frame, every idealization, and for each call that the kernel and its
   reference leave one array. The frames of the kernels are those of their pipelines, and of the
   convolution that of its run in the modules; the equations are proved in the
   modules imported here, one for each call. -/
module

public import proofs.«01_k».proof.Defs
public import proofs.«01_k».proof.Proof.Gen.Pre_finite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.ConvGrad
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn1
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.FfnDa
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.GradFf2
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.GradFf1
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.GradWOut
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.InProj
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.InProjBwd
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.GradWIn
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.FfnBwdLn
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.SumSmall

@[expose] public section

namespace Cert.Proof

open Idealize.ShloMosaic Idealize.SL.Sem

/-- The reference of program 1 leaves its arguments unchanged; it declares no semaphore. -/
theorem frame_reference : Cert.quiescent_ReferenceIdeal := fun m ρ _ =>
  (θ_run Cert.ReferenceIdeal.defs _ _).mono (fun _ h => ⟨fun c => (h c).2.2.2, funext fun s => nomatch s⟩) (Cert.ReferenceIdeal.Value.run (F := Ideal) m ρ)

/-- The reference of program 2 leaves its arguments unchanged; it declares no semaphore. -/
theorem frame_reference2 : Cert.quiescent_Reference2Ideal := fun m ρ _ =>
  (θ_run Cert.Reference2Ideal.defs _ _).mono (fun _ h => ⟨fun c => (h c).2, funext fun s => nomatch s⟩) (Cert.Reference2Ideal.Value.run (F := Ideal) m ρ)

/-- The reference of program 3 leaves its arguments unchanged; it declares no semaphore. -/
theorem frame_reference3 : Cert.quiescent_Reference3Ideal := fun m ρ _ =>
  (θ_run Cert.Reference3Ideal.defs _ _).mono (fun _ h => ⟨fun c => (h c).2, funext fun s => nomatch s⟩) (Cert.Reference3Ideal.Value.run (F := Ideal) m ρ)

/-- The reference of program 4 leaves its arguments unchanged; it declares no semaphore. -/
theorem frame_reference4 : Cert.quiescent_Reference4Ideal := fun m ρ _ =>
  (θ_run Cert.Reference4Ideal.defs _ _).mono (fun _ h => ⟨fun c => (h c).2, funext fun s => nomatch s⟩) (Cert.Reference4Ideal.Value.run (F := Ideal) m ρ)

/-- The reference of program 5 leaves its arguments unchanged; it declares no semaphore. -/
theorem frame_reference5 : Cert.quiescent_Reference5Ideal := fun m ρ _ =>
  (θ_run Cert.Reference5Ideal.defs _ _).mono (fun _ h => ⟨fun c => (h c).2, funext fun s => nomatch s⟩) (Cert.Reference5Ideal.Value.run (F := Ideal) m ρ)

/-- The reference of program 6 leaves its arguments unchanged; it declares no semaphore. -/
theorem frame_reference6 : Cert.quiescent_Reference6Ideal := fun m ρ _ =>
  (θ_run Cert.Reference6Ideal.defs _ _).mono (fun _ h => ⟨fun c => (h c).2, funext fun s => nomatch s⟩) (Cert.Reference6Ideal.Value.run (F := Ideal) m ρ)

/-- The reference of program 7 leaves its arguments unchanged; it declares no semaphore. -/
theorem frame_reference7 : Cert.quiescent_Reference7Ideal := fun m ρ _ =>
  (θ_run Cert.Reference7Ideal.defs _ _).mono (fun _ h => ⟨fun c => (h c).2, funext fun s => nomatch s⟩) (Cert.Reference7Ideal.Value.run (F := Ideal) m ρ)

/-- The reference of program 8 leaves its arguments unchanged; it declares no semaphore. -/
theorem frame_reference8 : Cert.quiescent_Reference8Ideal := fun m ρ _ =>
  (θ_run Cert.Reference8Ideal.defs _ _).mono (fun _ h => ⟨fun c => (h c).2, funext fun s => nomatch s⟩) (Cert.Reference8Ideal.Value.run (F := Ideal) m ρ)

/-- The reference of program 9 leaves its arguments unchanged; it declares no semaphore. -/
theorem frame_reference9 : Cert.quiescent_Reference9Ideal := fun m ρ _ =>
  (θ_run Cert.Reference9Ideal.defs _ _).mono (fun _ h => ⟨fun c => (h c).2, funext fun s => nomatch s⟩) (Cert.Reference9Ideal.Value.run (F := Ideal) m ρ)

/-- The reference of program 10 leaves its arguments unchanged; it declares no semaphore. -/
theorem frame_reference10 : Cert.quiescent_Reference10Ideal := fun m ρ _ =>
  (θ_run Cert.Reference10Ideal.defs _ _).mono (fun _ h => ⟨fun c => (h c).2.2.2, funext fun s => nomatch s⟩) (Cert.Reference10Ideal.Value.run (F := Ideal) m ρ)

/-- The reference of program 11 leaves its arguments unchanged; it declares no semaphore. -/
theorem frame_reference11 : Cert.quiescent_Reference11Ideal := fun m ρ _ =>
  (θ_run Cert.Reference11Ideal.defs _ _).mono (fun _ h => ⟨fun c => (h c).2.2, funext fun s => nomatch s⟩) (Cert.Reference11Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts,
    Cert.ConvBwd.frame_kernel, Cert.ConvBwd.frame_kernelIdeal, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, fun m ρ _ => Cert.Kernel10Ideal.Gen.frame m ρ, frame_reference10, fun m ρ _ => frame_reference10 m ρ trivial,
    fun m ρ _ => Cert.Kernel11.Gen.frame m ρ, fun m ρ _ => Cert.Kernel11Ideal.Gen.frame m ρ, frame_reference11,
    trivial, Cert.ConvBwd.claim,
    trivial, Cert.Ffn1.claim,
    trivial, Cert.FfnDa.claim,
    trivial, Cert.GradFf2.claim,
    trivial, Cert.GradFf1.claim,
    trivial, Cert.GradWOut.claim,
    trivial, Cert.InProj.claim,
    trivial, Cert.InProjBwd.claim,
    trivial, Cert.GradWIn.claim,
    trivial, Cert.FfnBwdLn.claim,
    trivial, Cert.SumSmall.claim⟩

end Cert.Proof

end
